-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v116) = v0 c
          ∧ r.2.mem ((c.tc : Thread Cert.Reference2Ideal.nD Cert.Reference2Ideal.τ).loc Cert.Reference2Ideal.main_v117) = v1 c
          ∧ r.2.mem ((c.tc : Thread Cert.Reference2Ideal.nD Cert.Reference2Ideal.τ).loc Cert.Reference2Ideal.main_v118) = v2 c
          ∧ r.2.mem ((c.tc : Thread Cert.Reference2Ideal.nD Cert.Reference2Ideal.τ).loc Cert.Reference2Ideal.main_v119) = v3 c
          ∧ r.2.mem ((c.tc : Thread Cert.Reference2Ideal.nD Cert.Reference2Ideal.τ).loc Cert.Reference2Ideal.main_v120) = v4 c
          ∧ r.2.mem ((c.tc : Thread Cert.Reference2Ideal.nD Cert.Reference2Ideal.τ).loc Cert.Reference2Ideal.main_v121) = v5 c
          ∧ r.2.mem ((c.tc : Thread Cert.Reference2Ideal.nD Cert.Reference2Ideal.τ).loc Cert.Reference2Ideal.main_v122) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)) (v4 : (c : Dev Cert.Kernel4Ideal.nD) → Buf (Elt Ideal) ((c.tc : Thread Cert.Kernel4Ideal.nD Cert.Kernel4Ideal.τ).loc Cert.Kernel4Ideal.main_v18_4)) (v5 : (c : Dev Cert.Kernel4Ideal.nD) → Buf (Elt Ideal) ((c.tc : Thread Cert.Kernel4Ideal.nD Cert.Kernel4Ideal.τ).loc Cert.Kernel4Ideal.main_v18_5)) (v6 : (c : Dev Cert.Kernel4Ideal.nD) → Buf (Elt Ideal) ((c.tc : Thread Cert.Kernel4Ideal.nD Cert.Kernel4Ideal.τ).loc Cert.Kernel4Ideal.main_v18_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_v18_4) = v4 c
          ∧ r.2.mem ((c.tc : Thread Cert.Kernel4Ideal.nD Cert.Kernel4Ideal.τ).loc Cert.Kernel4Ideal.main_v18_5) = v5 c
          ∧ r.2.mem ((c.tc : Thread Cert.Kernel4Ideal.nD Cert.Kernel4Ideal.τ).loc Cert.Kernel4Ideal.main_v18_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v86) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_v88) = v2 c
          ∧ r.2.mem ((c.tc : Thread Cert.Reference4Ideal.nD Cert.Reference4Ideal.τ).loc Cert.Reference4Ideal.main_v89) = v3 c
          ∧ r.2.mem ((c.tc : Thread Cert.Reference4Ideal.nD Cert.Reference4Ideal.τ).loc Cert.Reference4Ideal.main_v90) = v4 c
          ∧ r.2.mem ((c.tc : Thread Cert.Reference4Ideal.nD Cert.Reference4Ideal.τ).loc Cert.Reference4Ideal.main_v91) = v5 c
          ∧ r.2.mem ((c.tc : Thread Cert.Reference4Ideal.nD Cert.Reference4Ideal.τ).loc Cert.Reference4Ideal.main_v92) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S4x8192x16x64 : Shape := ⟨4, ![4, 8192, 16, 64]⟩
abbrev S4x8192x4x64 : Shape := ⟨4, ![4, 8192, 4, 64]⟩
abbrev S4x256x4x64 : Shape := ⟨4, ![4, 256, 4, 64]⟩
abbrev S_ : Shape := ⟨0, ![]⟩

class Facts : Prop where
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  h_S_ : 0 < S_.numel
  bcast_S_S4x8192x4x64 : S_.BroadcastsInDim S4x8192x4x64 (![] : Fin 0 → Fin S4x8192x4x64.rank)
  reducesTo_S4x8192x4x64_S_d0_1_2_3 : S4x8192x4x64.ReducesTo [0, 1, 2, 3] S_
  bcast_S_S4x256x4x64 : S_.BroadcastsInDim S4x256x4x64 (![] : Fin 0 → Fin S4x256x4x64.rank)
  reducesTo_S4x256x4x64_S_d0_1_2_3 : S4x256x4x64.ReducesTo [0, 1, 2, 3] S_

variable [Facts]

def fn_part1 {F : FTy → Type} [FloatOps F] (main_arg3 : FVec F S4x256x4x64 .f32) (main_v6 : IVec S_ 1) (main_v13 : IVec S_ 1) (main_v15 : IVec S4x256x4x64 1) (main_cst_5 : FVec F S_ .f32) : IVec S_ 1 :=
  let main_v16 : FVec F S_ .f32 := Host.negf main_cst_5
  let main_v17 : FVec F S4x256x4x64 .f32 := broadcastInDim S4x256x4x64 ![] bcast_S_S4x256x4x64 main_v16
  let main_v18 : IVec S4x256x4x64 1 := cmpf .ogt main_arg3 main_v17
  let main_v19 : IVec S4x256x4x64 1 := andi main_v15 main_v18
  let main_c_6 : IVec S_ 1 := constantI S_ 1 1#1
  let main_v20 : IVec S_ 1 := (fun x v => Host.reduce IntOp.andi x v reducesTo_S4x256x4x64_S_d0_1_2_3 h_S_) main_v19 main_c_6
  let main_v21 : IVec S_ 1 := andi main_v6 main_v13
  let main_v22 : IVec S_ 1 := andi main_v21 main_v20
  main_v22

def fn {F : FTy → Type} [FloatOps F] (main_arg0 : FVec F S4x8192x16x64 .f32) (main_arg1 : FVec F S4x8192x4x64 .f32) (main_arg2 : FVec F S4x8192x4x64 .f32) (main_arg3 : FVec F S4x256x4x64 .f32) (main_arg4 : FVec F S4x256x4x64 .f32) : IVec S_ 1 :=
  let main_cst : FVec F S_ .f32 := constant S_ .f32 0x7F800000#32
  let main_v0 : FVec F S4x8192x16x64 .f32 := broadcastInDim S4x8192x16x64 ![] bcast_S_S4x8192x16x64 main_cst
  let main_v1 : IVec S4x8192x16x64 1 := cmpf .olt main_arg0 main_v0
  let main_cst_0 : FVec F S_ .f32 := constant S_ .f32 0x7F800000#32
  let main_v2 : FVec F S_ .f32 := Host.negf main_cst_0
  let main_v3 : FVec F S4x8192x16x64 .f32 := broadcastInDim S4x8192x16x64 ![] bcast_S_S4x8192x16x64 main_v2
  let main_v4 : IVec S4x8192x16x64 1 := cmpf .ogt main_arg0 main_v3
  let main_v5 : IVec S4x8192x16x64 1 := andi main_v1 main_v4
  let main_c : IVec S_ 1 := constantI S_ 1 1#1
  let main_v6 : IVec S_ 1 := (fun x v => Host.reduce IntOp.andi x v reducesTo_S4x8192x16x64_S_d0_1_2_3 h_S_) main_v5 main_c
  let main_cst_1 : FVec F S_ .f32 := constant S_ .f32 0x7F800000#32
  let main_v7 : FVec F S4x8192x4x64 .f32 := broadcastInDim S4x8192x4x64 ![] bcast_S_S4x8192x4x64 main_cst_1
  let main_v8 : IVec S4x8192x4x64 1 := cmpf .olt main_arg1 main_v7
  let main_cst_2 : FVec F S_ .f32 := constant S_ .f32 0x7F800000#32
  let main_v9 : FVec F S_ .f32 := Host.negf main_cst_2
  let main_v10 : FVec F S4x8192x4x64 .f32 := broadcastInDim S4x8192x4x64 ![] bcast_S_S4x8192x4x64 main_v9
  let main_v11 : IVec S4x8192x4x64 1 := cmpf .ogt main_arg1 main_v10
  let main_v12 : IVec S4x8192x4x64 1 := andi main_v8 main_v11
  let main_c_3 : IVec S_ 1 := constantI S_ 1 1#1
  let main_v13 : IVec S_ 1 := (fun x v => Host.reduce IntOp.andi x v reducesTo_S4x8192x4x64_S_d0_1_2_3 h_S_) main_v12 main_c_3
  let main_cst_4 : FVec F S_ .f32 := constant S_ .f32 0x7F800000#32
  let main_v14 : FVec F S4x256x4x64 .f32 := broadcastInDim S4x256x4x64 ![] bcast_S_S4x256x4x64 main_cst_4
  let main_v15 : IVec S4x256x4x64 1 := cmpf .olt main_arg3 main_v14
  let main_cst_5 : FVec F S_ .f32 := constant S_ .f32 0x7F800000#32
  fn_part1 (F := F) main_arg3 main_v6 main_v13 main_v15 main_cst_5
-- ==== Pre_finite3.lean ====
abbrev S4x1024 : Shape := ⟨2, ![4, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x3072 : S_.BroadcastsInDim S2x1024x3072 (![] : Fin 0 → Fin S2x1024x3072.rank)
  reducesTo_S2x1024x3072_S_d0_1_2 : S2x1024x3072.ReducesTo [0, 1, 2] S_

variable [Facts]

def fn_part1 {F : FTy → Type} [FloatOps F] (main_arg2 : FVec F S2x1024x3072 .f32) (main_v6 : IVec S_ 1) (main_v13 : IVec S_ 1) (main_v15 : IVec S2x1024x3072 1) (main_cst_5 : FVec F S_ .f32) : IVec S_ 1 :=
  let main_v16 : FVec F S_ .f32 := Host.negf main_cst_5
  let main_v17 : FVec F S2x1024x3072 .f32 := broadcastInDim S2x1024x3072 ![] bcast_S_S2x1024x3072 main_v16
  let main_v18 : IVec S2x1024x3072 1 := cmpf .ogt main_arg2 main_v17
  let main_v19 : IVec S2x1024x3072 1 := andi main_v15 main_v18
  let main_c_6 : IVec S_ 1 := constantI S_ 1 1#1
  let main_v20 : IVec S_ 1 := (fun x v => Host.reduce IntOp.andi x v reducesTo_S2x1024x3072_S_d0_1_2 h_S_) main_v19 main_c_6
  let main_v21 : IVec S_ 1 := andi main_v6 main_v13
  let main_v22 : IVec S_ 1 := andi main_v21 main_v20
  main_v22

def fn {F : FTy → Type} [FloatOps F] (main_arg0 : FVec F S4x1024 .f32) (main_arg1 : FVec F S1024 .f32) (main_arg2 : FVec F S2x1024x3072 .f32) (main_arg3 : FVec F S2x3072 .f32) : IVec S_ 1 :=
  let main_cst : FVec F S_ .f32 := constant S_ .f32 0x7F800000#32
  let main_v0 : FVec F S4x1024 .f32 := broadcastInDim S4x1024 ![] bcast_S_S4x1024 main_cst
  let main_v1 : IVec S4x1024 1 := cmpf .olt main_arg0 main_v0
  let main_cst_0 : FVec F S_ .f32 := constant S_ .f32 0x7F800000#32
  let main_v2 : FVec F S_ .f32 := Host.negf main_cst_0
  let main_v3 : FVec F S4x1024 .f32 := broadcastInDim S4x1024 ![] bcast_S_S4x1024 main_v2
  let main_v4 : IVec S4x1024 1 := cmpf .ogt main_arg0 main_v3
  let main_v5 : IVec S4x1024 1 := andi main_v1 main_v4
  let main_c : IVec S_ 1 := constantI S_ 1 1#1
  let main_v6 : IVec S_ 1 := (fun x v => Host.reduce IntOp.andi x v reducesTo_S4x1024_S_d0_1 h_S_) main_v5 main_c
  let main_cst_1 : FVec F S_ .f32 := constant S_ .f32 0x7F800000#32
  let main_v7 : FVec F S1024 .f32 := broadcastInDim S1024 ![] bcast_S_S1024 main_cst_1
  let main_v8 : IVec S1024 1 := cmpf .olt main_arg1 main_v7
  let main_cst_2 : FVec F S_ .f32 := constant S_ .f32 0x7F800000#32
  let main_v9 : FVec F S_ .f32 := Host.negf main_cst_2
  let main_v10 : FVec F S1024 .f32 := broadcastInDim S1024 ![] bcast_S_S1024 main_v9
  let main_v11 : IVec S1024 1 := cmpf .ogt main_arg1 main_v10
  let main_v12 : IVec S1024 1 := andi main_v8 main_v11
  let main_c_3 : IVec S_ 1 := constantI S_ 1 1#1
  let main_v13 : IVec S_ 1 := (fun x v => Host.reduce IntOp.andi x v reducesTo_S1024_S_d0 h_S_) main_v12 main_c_3
  let main_cst_4 : FVec F S_ .f32 := constant S_ .f32 0x7F800000#32
  let main_v14 : FVec F S2x1024x3072 .f32 := broadcastInDim S2x1024x3072 ![] bcast_S_S2x1024x3072 main_cst_4
  let main_v15 : IVec S2x1024x3072 1 := cmpf .olt main_arg2 main_v14
  let main_cst_5 : FVec F S_ .f32 := constant S_ .f32 0x7F800000#32
  fn_part1 (F := F) main_arg2 main_v6 main_v13 main_v15 main_cst_5
-- ==== Kernel.lean ====
abbrev S4x8192x16x64 : Shape := ⟨4, ![4, 8192, 16, 64]⟩
abbrev S4x8192x4x64 : Shape := ⟨4, ![4, 8192, 4, 64]⟩
abbrev S4x256x4x64 : Shape := ⟨4, ![4, 256, 4, 64]⟩
abbrev S4x8192x1024 : Shape := ⟨3, ![4, 8192, 1024]⟩
abbrev S_ : Shape := ⟨0, ![]⟩
abbrev S4x1024x8192 : Shape := ⟨3, ![4, 1024, 8192]⟩
abbrev S4x8448x4x64 : Shape := ⟨4, ![4, 8448, 4, 64]⟩
abbrev S4x8448x256 : Shape := ⟨3, ![4, 8448, 256]⟩
abbrev S4x4x64x8448 : Shape := ⟨4, ![4, 4, 64, 8448]⟩
abbrev S4x4x16x8448 : Shape := ⟨4, ![4, 4, 16, 8448]⟩
abbrev S4x4x80x8448 : Shape := ⟨4, ![4, 4, 80, 8448]⟩
abbrev S4x320x8448 : Shape := ⟨3, ![4, 320, 8448]⟩
abbrev S1x256x256 : Shape := ⟨3, ![1, 256, 256]⟩
abbrev S1x8448x256 : Shape := ⟨3, ![1, 8448, 256]⟩
abbrev S1x80x8448 : Shape := ⟨3, ![1, 80, 8448]⟩
abbrev S256x1024 : Shape := ⟨2, ![256, 1024]⟩
abbrev S1x1024 : Shape := ⟨2, ![1, 1024]⟩
abbrev S80x1024 : Shape := ⟨2, ![80, 1024]⟩
abbrev S768x256 : Shape := ⟨2, ![768, 256]⟩
abbrev S1x64x256 : Shape := ⟨3, ![1, 64, 256]⟩
abbrev S64x256 : Shape := ⟨2, ![64, 256]⟩
abbrev S256x256 : Shape := ⟨2, ![256, 256]⟩
abbrev S256 : Shape := ⟨1, ![256]⟩
abbrev S1x256 : Shape := ⟨2, ![1, 256]⟩
abbrev S1x80x768 : Shape := ⟨3, ![1, 80, 768]⟩
abbrev S80x768 : Shape := ⟨2, ![80, 768]⟩
abbrev S80x256 : Shape := ⟨2, ![80, 256]⟩
abbrev S64x1024 : Shape := ⟨2, ![64, 1024]⟩

abbrev nBuf : Space → Nat
  | .hbm => 25
  | .vmem => 21
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x256x4x64, .f32⟩
  | .hbm, ⟨4, _⟩ => ⟨S4x256x4x64, .f32⟩
  | .hbm, ⟨5, _⟩ => ⟨S4x8192x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x1024, .f32⟩
  | .hbm, ⟨11, _⟩ => ⟨S4x8192x1024, .f32⟩
  | .hbm, ⟨12, _⟩ => ⟨S4x1024x8192, .f32⟩
  | .hbm, ⟨13, _⟩ => ⟨S4x1024x8192, .bf16⟩
  | .hbm, ⟨14, _⟩ => ⟨S4x8448x4x64, .f32⟩
  | .hbm, ⟨15, _⟩ => ⟨S4x8448x256, .f32⟩
  | .hbm, ⟨16, _⟩ => ⟨S4x8448x256, .bf16⟩
  | .hbm, ⟨17, _⟩ => ⟨S4x8448x4x64, .f32⟩
  | .hbm, ⟨18, _⟩ => ⟨S4x4x64x8448, .f32⟩
  | .hbm, ⟨19, _⟩ => ⟨S4x4x64x8448, .bf16⟩
  | .hbm, ⟨20, _⟩ => ⟨S_, .bf16⟩
  | .hbm, ⟨21, _⟩ => ⟨S4x4x16x8448, .bf16⟩
  | .hbm, ⟨22, _⟩ => ⟨S4x4x80x8448, .bf16⟩
  | .hbm, ⟨23, _⟩ => ⟨S4x320x8448, .bf16⟩
  | .hbm, ⟨24, _⟩ => ⟨S4x8192x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x80x8448, .bf16⟩
  | .local _ .vmem, ⟨5, _⟩ => ⟨S1x80x8448, .bf16⟩
  | .local _ .vmem, ⟨6, _⟩ => ⟨S1x256x256, .bf16⟩
  | .local _ .vmem, ⟨7, _⟩ => ⟨S1x256x256, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S80x1024, .f32⟩
  | .local _ .vmem, ⟨13, _⟩ => ⟨S768x256, .f32⟩
  | .local _ .vmem, ⟨14, _⟩ => ⟨S768x256, .f32⟩
  | .local _ .vmem, ⟨15, _⟩ => ⟨S768x256, .f32⟩
  | .local _ .vmem, ⟨16, _⟩ => ⟨S768x256, .f32⟩
  | .local _ .vmem, ⟨17, _⟩ => ⟨S768x256, .bf16⟩
  | .local _ .vmem, ⟨18, _⟩ => ⟨S768x256, .bf16⟩
  | .local _ .vmem, ⟨19, _⟩ => ⟨S768x256, .bf16⟩
  | .local _ .vmem, ⟨20, _⟩ => ⟨S768x256, .bf16⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg1 : BitVec 32 := BitVec.ofNat 32 (i 1).val
  let c64_i32 : BitVec 32 := 64#32
  let v4 : BitVec 32 := Scalar.muli arg1 c64_i32
  v4
def k0_off1 (i : grid0.Coords) : Fin 2 → Nat :=
  let arg1 : BitVec 32 := BitVec.ofNat 32 (i 1).val
  let c64_i32 : BitVec 32 := 64#32
  let v4 : BitVec 32 := Scalar.muli arg1 c64_i32
  let v5 : BitVec 32 := v4
  let v8 : Index := Scalar.indexCast v5
  let c0_4 : Index := 0#32
  ![v8.toNat, 0]
def k0_off2 (i : grid0.Coords) : Fin 2 → Nat :=
  let arg1 : BitVec 32 := BitVec.ofNat 32 (i 1).val
  let c64_i32 : BitVec 32 := 64#32
  let v4 : BitVec 32 := Scalar.muli arg1 c64_i32
  let v5 : BitVec 32 := v4
  let v14 : Index := Scalar.indexCast v5
  let c256 : Index := 256#32
  ![v14.toNat, 256]
def k0_off3 (i : grid0.Coords) : Fin 2 → Nat :=
  let arg1 : BitVec 32 := BitVec.ofNat 32 (i 1).val
  let c64_i32 : BitVec 32 := 64#32
  let v4 : BitVec 32 := Scalar.muli arg1 c64_i32
  let v5 : BitVec 32 := v4
  let v20 : Index := Scalar.indexCast v5
  let c512 : Index := 512#32
  ![v20.toNat, 512]
def k0_off4 (i : grid0.Coords) : Fin 2 → Nat :=
  let arg1 : BitVec 32 := BitVec.ofNat 32 (i 1).val
  let c64_i32 : BitVec 32 := 64#32
  let v4 : BitVec 32 := Scalar.muli arg1 c64_i32
  let v5 : BitVec 32 := v4
  let v26 : Index := Scalar.indexCast v5
  let c768 : Index := 768#32
  ![v26.toNat, 768]
def k0_mult2 : BitVec 32 :=
  let c0_i32 : BitVec 32 := 0#32
  c0_i32
def k0_mult3 : BitVec 32 :=
  let c256_i32 : BitVec 32 := 256#32
  c256_i32
def k0_mult4 : BitVec 32 :=
  let c512_i32 : BitVec 32 := 512#32
  c512_i32
def k0_mult5 : BitVec 32 :=
  let c0_i32_58 : BitVec 32 := 0#32
  c0_i32_58
def k0_mult6 : BitVec 32 :=
  let c256_i32_67 : BitVec 32 := 256#32
  c256_i32_67
def k0_mult7 : BitVec 32 :=
  let c512_i32_76 : BitVec 32 := 512#32
  c512_i32_76
def k0_mult8 : BitVec 32 :=
  let c0_i32_87 : BitVec 32 := 0#32
  c0_i32_87
def k0_mult9 : BitVec 32 :=
  let c256_i32_96 : BitVec 32 := 256#32
  c256_i32_96
def k0_mult10 : BitVec 32 :=
  let c512_i32_105 : BitVec 32 := 512#32
  c512_i32_105
def k0_mult11 : BitVec 32 :=
  let c0_i32_116 : BitVec 32 := 0#32
  c0_i32_116
def k0_mult12 : BitVec 32 :=
  let c256_i32_125 : BitVec 32 := 256#32
  c256_i32_125
def k0_mult13 : BitVec 32 :=
  let c512_i32_134 : BitVec 32 := 512#32
  c512_i32_134
@[reducible] def k0_t1_loop : Scf.Loop 32 :=
  let c0_i32_145 : BitVec 32 := 0#32
  let c10_i32 : BitVec 32 := 10#32
  let v210 : BitVec 32 := Scalar.addi c0_i32_145 c10_i32
  let c1_i32 : BitVec 32 := 1#32
  ⟨c0_i32_145, v210, c1_i32⟩
def k0_mult14 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_296 : BitVec 32 := 1#32
  let v413 : BitVec 32 := Scalar.subi arg20 c1_i32_296
  let c0_i32_297 : BitVec 32 := 0#32
  let v414 : BitVec 32 := Scalar.maxsi v413 c0_i32_297
  let c768_i32 : BitVec 32 := 768#32
  let v415 : BitVec 32 := Scalar.muli v414 c768_i32
  v415
def k0_off5 (k0_t1 : Fin k0_t1_loop.trips) : Fin 3 → Nat :=
  let c0_298 : Index := 0#32
  let c0_299 : Index := 0#32
  let c0_i32_145 : BitVec 32 := 0#32
  let c1_i32 : BitVec 32 := 1#32
  let arg20 : BitVec 32 := Scf.iv c0_i32_145 c1_i32 k0_t1
  let c1_i32_296 : BitVec 32 := 1#32
  let v413 : BitVec 32 := Scalar.subi arg20 c1_i32_296
  let c0_i32_297 : BitVec 32 := 0#32
  let v414 : BitVec 32 := Scalar.maxsi v413 c0_i32_297
  let c768_i32 : BitVec 32 := 768#32
  let v415 : BitVec 32 := Scalar.muli v414 c768_i32
  let v416 : BitVec 32 := v415
  let v417 : Index := Scalar.indexCast v416
  ![0, 0, v417.toNat]
def k0_mult15 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_321 : BitVec 32 := 1#32
  let v449 : BitVec 32 := Scalar.addi arg20 c1_i32_321
  let c768_i32_322 : BitVec 32 := 768#32
  let v450 : BitVec 32 := Scalar.muli v449 c768_i32_322
  let c0_i32_323 : BitVec 32 := 0#32
  let v451 : BitVec 32 := Scalar.addi v450 c0_i32_323
  v451
def k0_off6 (k0_t1 : Fin k0_t1_loop.trips) (c0_i32_323 : BitVec 32) : Fin 3 → Nat :=
  let c0_324 : Index := 0#32
  let c0_i32_145 : BitVec 32 := 0#32
  let c1_i32 : BitVec 32 := 1#32
  let arg20 : BitVec 32 := Scf.iv c0_i32_145 c1_i32 k0_t1
  let c1_i32_321 : BitVec 32 := 1#32
  let v449 : BitVec 32 := Scalar.addi arg20 c1_i32_321
  let c768_i32_322 : BitVec 32 := 768#32
  let v450 : BitVec 32 := Scalar.muli v449 c768_i32_322
  let v451 : BitVec 32 := Scalar.addi v450 c0_i32_323
  let v452 : BitVec 32 := v451
  let v453 : Index := Scalar.indexCast v452
  let c0_325 : Index := 0#32
  ![0, v453.toNat, 0]
def k0_mult16 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_321 : BitVec 32 := 1#32
  let v449 : BitVec 32 := Scalar.addi arg20 c1_i32_321
  let c768_i32_332 : BitVec 32 := 768#32
  let v463 : BitVec 32 := Scalar.muli v449 c768_i32_332
  let c256_i32_333 : BitVec 32 := 256#32
  let v464 : BitVec 32 := Scalar.addi v463 c256_i32_333
  v464
def k0_mult17 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_321 : BitVec 32 := 1#32
  let v449 : BitVec 32 := Scalar.addi arg20 c1_i32_321
  let c768_i32_342 : BitVec 32 := 768#32
  let v477 : BitVec 32 := Scalar.muli v449 c768_i32_342
  let c512_i32_343 : BitVec 32 := 512#32
  let v478 : BitVec 32 := Scalar.addi v477 c512_i32_343
  v478
def k0_mult18 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_296 : BitVec 32 := 1#32
  let v413 : BitVec 32 := Scalar.subi arg20 c1_i32_296
  let c0_i32_297 : BitVec 32 := 0#32
  let v414 : BitVec 32 := Scalar.maxsi v413 c0_i32_297
  let c768_i32_354 : BitVec 32 := 768#32
  let v494 : BitVec 32 := Scalar.muli v414 c768_i32_354
  v494
def k0_mult19 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_378 : BitVec 32 := 1#32
  let v528 : BitVec 32 := Scalar.addi arg20 c1_i32_378
  let c768_i32_379 : BitVec 32 := 768#32
  let v529 : BitVec 32 := Scalar.muli v528 c768_i32_379
  let c0_i32_380 : BitVec 32 := 0#32
  let v530 : BitVec 32 := Scalar.addi v529 c0_i32_380
  v530
def k0_mult20 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_378 : BitVec 32 := 1#32
  let v528 : BitVec 32 := Scalar.addi arg20 c1_i32_378
  let c768_i32_389 : BitVec 32 := 768#32
  let v542 : BitVec 32 := Scalar.muli v528 c768_i32_389
  let c256_i32_390 : BitVec 32 := 256#32
  let v543 : BitVec 32 := Scalar.addi v542 c256_i32_390
  v543
def k0_mult21 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_378 : BitVec 32 := 1#32
  let v528 : BitVec 32 := Scalar.addi arg20 c1_i32_378
  let c768_i32_399 : BitVec 32 := 768#32
  let v556 : BitVec 32 := Scalar.muli v528 c768_i32_399
  let c512_i32_400 : BitVec 32 := 512#32
  let v557 : BitVec 32 := Scalar.addi v556 c512_i32_400
  v557
def k0_mult22 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_296 : BitVec 32 := 1#32
  let v413 : BitVec 32 := Scalar.subi arg20 c1_i32_296
  let c0_i32_297 : BitVec 32 := 0#32
  let v414 : BitVec 32 := Scalar.maxsi v413 c0_i32_297
  let c768_i32_411 : BitVec 32 := 768#32
  let v573 : BitVec 32 := Scalar.muli v414 c768_i32_411
  v573
def k0_mult23 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_435 : BitVec 32 := 1#32
  let v607 : BitVec 32 := Scalar.addi arg20 c1_i32_435
  let c768_i32_436 : BitVec 32 := 768#32
  let v608 : BitVec 32 := Scalar.muli v607 c768_i32_436
  let c0_i32_437 : BitVec 32 := 0#32
  let v609 : BitVec 32 := Scalar.addi v608 c0_i32_437
  v609
def k0_mult24 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_435 : BitVec 32 := 1#32
  let v607 : BitVec 32 := Scalar.addi arg20 c1_i32_435
  let c768_i32_446 : BitVec 32 := 768#32
  let v621 : BitVec 32 := Scalar.muli v607 c768_i32_446
  let c256_i32_447 : BitVec 32 := 256#32
  let v622 : BitVec 32 := Scalar.addi v621 c256_i32_447
  v622
def k0_mult25 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_435 : BitVec 32 := 1#32
  let v607 : BitVec 32 := Scalar.addi arg20 c1_i32_435
  let c768_i32_456 : BitVec 32 := 768#32
  let v635 : BitVec 32 := Scalar.muli v607 c768_i32_456
  let c512_i32_457 : BitVec 32 := 512#32
  let v636 : BitVec 32 := Scalar.addi v635 c512_i32_457
  v636
def k0_mult26 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_296 : BitVec 32 := 1#32
  let v413 : BitVec 32 := Scalar.subi arg20 c1_i32_296
  let c0_i32_297 : BitVec 32 := 0#32
  let v414 : BitVec 32 := Scalar.maxsi v413 c0_i32_297
  let c768_i32_468 : BitVec 32 := 768#32
  let v652 : BitVec 32 := Scalar.muli v414 c768_i32_468
  v652
def k0_mult27 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_492 : BitVec 32 := 1#32
  let v686 : BitVec 32 := Scalar.addi arg20 c1_i32_492
  let c768_i32_493 : BitVec 32 := 768#32
  let v687 : BitVec 32 := Scalar.muli v686 c768_i32_493
  let c0_i32_494 : BitVec 32 := 0#32
  let v688 : BitVec 32 := Scalar.addi v687 c0_i32_494
  v688
def k0_mult28 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_492 : BitVec 32 := 1#32
  let v686 : BitVec 32 := Scalar.addi arg20 c1_i32_492
  let c768_i32_503 : BitVec 32 := 768#32
  let v700 : BitVec 32 := Scalar.muli v686 c768_i32_503
  let c256_i32_504 : BitVec 32 := 256#32
  let v701 : BitVec 32 := Scalar.addi v700 c256_i32_504
  v701
def k0_mult29 (k0_t1 : Fin k0_t1_loop.trips) : BitVec 32 :=
  let c0_i32_145 : BitVec 32 := 0#32
  let c1_i32 : BitVec 32 := 1#32
  let arg20 : BitVec 32 := Scf.iv c0_i32_145 c1_i32 k0_t1
  let c1_i32_492 : BitVec 32 := 1#32
  let v686 : BitVec 32 := Scalar.addi arg20 c1_i32_492
  let c768_i32_513 : BitVec 32 := 768#32
  let v714 : BitVec 32 := Scalar.muli v686 c768_i32_513
  let c512_i32_514 : BitVec 32 := 512#32
  let v715 : BitVec 32 := Scalar.addi v714 c512_i32_514
  v715
def k0_mult30 : BitVec 32 :=
  let c6912_i32 : BitVec 32 := 6912#32
  c6912_i32
def k0_mult31 : BitVec 32 :=
  let c6912_i32_170 : BitVec 32 := 6912#32
  c6912_i32_170
def k0_mult32 : BitVec 32 :=
  let c6912_i32_194 : BitVec 32 := 6912#32
  c6912_i32_194
def k0_mult33 : BitVec 32 :=
  let c6912_i32_218 : BitVec 32 := 6912#32
  c6912_i32_218
def k0_mult34 : BitVec 32 :=
  let c7680_i32 : BitVec 32 := 7680#32
  c7680_i32
def k0_mult35 : BitVec 32 :=
  let c7680_i32_253 : BitVec 32 := 7680#32
  c7680_i32_253
def k0_mult36 : BitVec 32 :=
  let c7680_i32_265 : BitVec 32 := 7680#32
  c7680_i32_265
def k0_mult37 : BitVec 32 :=
  let c7680_i32_277 : BitVec 32 := 7680#32
  c7680_i32_277
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x80x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x16x64 : Shape := ⟨4, ![4, 8192, 16, 64]⟩
abbrev S4x8192x4x64 : Shape := ⟨4, ![4, 8192, 4, 64]⟩
abbrev S4x256x4x64 : Shape := ⟨4, ![4, 256, 4, 64]⟩
abbrev S4x8448x4x64 : Shape := ⟨4, ![4, 8448, 4, 64]⟩
abbrev S4x8192x4x4x64 : Shape := ⟨5, ![4, 8192, 4, 4, 64]⟩
abbrev S4x4x8448x8192x4 : Shape := ⟨5, ![4, 4, 8448, 8192, 4]⟩
abbrev S4x4x4x8192x8448 : Shape := ⟨5, ![4, 4, 4, 8192, 8448]⟩
abbrev S_ : Shape := ⟨0, ![]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩
abbrev S4x8192x1024 : Shape := ⟨3, ![4, 8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x256x4x64, .f32⟩
  | .hbm, ⟨4, _⟩ => ⟨S4x256x4x64, .f32⟩
  | .hbm, ⟨5, _⟩ => ⟨S4x8448x4x64, .f32⟩
  | .hbm, ⟨6, _⟩ => ⟨S4x8448x4x64, .f32⟩
  | .hbm, ⟨7, _⟩ => ⟨S4x8192x4x4x64, .f32⟩
  | .hbm, ⟨8, _⟩ => ⟨S4x4x8448x8192x4, .f32⟩
  | .hbm, ⟨9, _⟩ => ⟨S4x4x4x8192x8448, .f32⟩
  | .hbm, ⟨10, _⟩ => ⟨S_, .f32⟩
  | .hbm, ⟨11, _⟩ => ⟨S4x4x4x8192x8448, .f32⟩
  | .hbm, ⟨12, _⟩ => ⟨S4x4x4x8192x8448, .f32⟩
  | .hbm, ⟨13, _⟩ => ⟨S_, .f32⟩
  | .hbm, ⟨14, _⟩ => ⟨S4x4x4x8192, .f32⟩
  | .hbm, ⟨15, _⟩ => ⟨S_, .f32⟩
  | .hbm, ⟨16, _⟩ => ⟨S4x4x4x8192, .f32⟩
  | .hbm, ⟨17, _⟩ => ⟨S4x4x4x8192, .f32⟩
  | .hbm, ⟨18, _⟩ => ⟨S4x4x4x8192x1, .f32⟩
  | .hbm, ⟨19, _⟩ => ⟨S4x4x4x8192x8448, .f32⟩
  | .hbm, ⟨20, _⟩ => ⟨S4x4x4x8192x8448, .f32⟩
  | .hbm, ⟨21, _⟩ => ⟨S4x4x4x8192x8448, .f32⟩
  | .hbm, ⟨22, _⟩ => ⟨S_, .f32⟩
  | .hbm, ⟨23, _⟩ => ⟨S4x4x4x8192, .f32⟩
  | .hbm, ⟨24, _⟩ => ⟨S4x4x4x8192x1, .f32⟩
  | .hbm, ⟨25, _⟩ => ⟨S4x4x4x8192x8448, .f32⟩
  | .hbm, ⟨26, _⟩ => ⟨S4x4x4x8192x8448, .f32⟩
  | .hbm, ⟨27, _⟩ => ⟨S4x4x64x4x8192, .f32⟩
  | .hbm, ⟨28, _⟩ => ⟨S4x8192x4x4x64, .f32⟩
  | .hbm, ⟨29, _⟩ => ⟨S4x8192x1024, .f32⟩
  | .hbm, ⟨30, _⟩ => ⟨S4x8192x1024, .bf16⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1024 : Shape := ⟨2, ![4, 1024]⟩
abbrev S1024 : Shape := ⟨1, ![1024]⟩
abbrev S1024x7680 : Shape := ⟨2, ![1024, 7680]⟩
abbrev S64 : Shape := ⟨1, ![64]⟩
abbrev S8192x32 : Shape := ⟨2, ![8192, 32]⟩
abbrev S1024x3072 : Shape := ⟨2, ![1024, 3072]⟩
abbrev S1024x6144 : Shape := ⟨2, ![1024, 6144]⟩
abbrev S1024x1536 : Shape := ⟨2, ![1024, 1536]⟩
abbrev S1536x1024 : Shape := ⟨2, ![1536, 1024]⟩
abbrev S_ : Shape := ⟨0, ![]⟩
abbrev S64x1 : Shape := ⟨2, ![64, 1]⟩
abbrev S64x256 : Shape := ⟨2, ![64, 256]⟩
abbrev S4x1x1024 : Shape := ⟨3, ![4, 1, 1024]⟩
abbrev S1x1024 : Shape := ⟨2, ![1, 1024]⟩
abbrev S32x8192 : Shape := ⟨2, ![32, 8192]⟩
abbrev S4x8192x2048 : Shape := ⟨3, ![4, 8192, 2048]⟩
abbrev S4x1024x8192 : Shape := ⟨3, ![4, 1024, 8192]⟩
abbrev S4x8192x256 : Shape := ⟨3, ![4, 8192, 256]⟩
abbrev S4x320x8192 : Shape := ⟨3, ![4, 320, 8192]⟩
abbrev S1x256x1024 : Shape := ⟨3, ![1, 256, 1024]⟩
abbrev S1x1x1024 : Shape := ⟨3, ![1, 1, 1024]⟩
abbrev S32x256 : Shape := ⟨2, ![32, 256]⟩
abbrev S1x256x2048 : Shape := ⟨3, ![1, 256, 2048]⟩
abbrev S1x1024x256 : Shape := ⟨3, ![1, 1024, 256]⟩
abbrev S1x256x256 : Shape := ⟨3, ![1, 256, 256]⟩
abbrev S1x320x256 : Shape := ⟨3, ![1, 320, 256]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x2048 : Shape := ⟨2, ![1024, 2048]⟩
abbrev S256x2048 : Shape := ⟨2, ![256, 2048]⟩
abbrev S1536x256 : Shape := ⟨2, ![1536, 256]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S16x32x256 : Shape := ⟨3, ![16, 32, 256]⟩
abbrev S1x32x256 : Shape := ⟨3, ![1, 32, 256]⟩
abbrev S256x256 : Shape := ⟨2, ![256, 256]⟩
abbrev S4x64x256 : Shape := ⟨3, ![4, 64, 256]⟩
abbrev S4x256 : Shape := ⟨2, ![4, 256]⟩
abbrev S4x1x256 : Shape := ⟨3, ![4, 1, 256]⟩
abbrev S4x32x256 : Shape := ⟨3, ![4, 32, 256]⟩
abbrev S1x16x256 : Shape := ⟨3, ![1, 16, 256]⟩

abbrev nBuf : Space → Nat
  | .hbm => 38
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x7680, .f32⟩
  | .hbm, ⟨5, _⟩ => ⟨S64, .f32⟩
  | .hbm, ⟨6, _⟩ => ⟨S64, .f32⟩
  | .hbm, ⟨7, _⟩ => ⟨S8192x32, .f32⟩
  | .hbm, ⟨8, _⟩ => ⟨S8192x32, .f32⟩
  | .hbm, ⟨9, _⟩ => ⟨S1024x3072, .f32⟩
  | .hbm, ⟨10, _⟩ => ⟨S1024x3072, .f32⟩
  | .hbm, ⟨11, _⟩ => ⟨S1024x6144, .f32⟩
  | .hbm, ⟨12, _⟩ => ⟨S1024x6144, .bf16⟩
  | .hbm, ⟨13, _⟩ => ⟨S1024x1536, .f32⟩
  | .hbm, ⟨14, _⟩ => ⟨S1536x1024, .f32⟩
  | .hbm, ⟨15, _⟩ => ⟨S1536x1024, .bf16⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64x1, .f32⟩
  | .hbm, ⟨23, _⟩ => ⟨S64x256, .f32⟩
  | .hbm, ⟨24, _⟩ => ⟨S64x1, .f32⟩
  | .hbm, ⟨25, _⟩ => ⟨S64x256, .f32⟩
  | .hbm, ⟨26, _⟩ => ⟨S4x1x1024, .f32⟩
  | .hbm, ⟨27, _⟩ => ⟨S4x1x1024, .f32⟩
  | .hbm, ⟨28, _⟩ => ⟨S1x1024, .f32⟩
  | .hbm, ⟨29, _⟩ => ⟨S32x8192, .f32⟩
  | .hbm, ⟨30, _⟩ => ⟨S32x8192, .f32⟩
  | .hbm, ⟨31, _⟩ => ⟨S4x8192x1024, .bf16⟩
  | .hbm, ⟨32, _⟩ => ⟨S4x8192x1024, .bf16⟩
  | .hbm, ⟨33, _⟩ => ⟨S4x8192x1024, .bf16⟩
  | .hbm, ⟨34, _⟩ => ⟨S4x8192x2048, .bf16⟩
  | .hbm, ⟨35, _⟩ => ⟨S4x1024x8192, .bf16⟩
  | .hbm, ⟨36, _⟩ => ⟨S4x8192x256, .bf16⟩
  | .hbm, ⟨37, _⟩ => ⟨S4x320x8192, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x6144, .bf16⟩
  | .local _ .vmem, ⟨8, _⟩ => ⟨S1536x1024, .bf16⟩
  | .local _ .vmem, ⟨9, _⟩ => ⟨S64x256, .f32⟩
  | .local _ .vmem, ⟨10, _⟩ => ⟨S64x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x2048, .bf16⟩
  | .local _ .vmem, ⟨22, _⟩ => ⟨S1x256x2048, .bf16⟩
  | .local _ .vmem, ⟨23, _⟩ => ⟨S1x1024x256, .bf16⟩
  | .local _ .vmem, ⟨24, _⟩ => ⟨S1x1024x256, .bf16⟩
  | .local _ .vmem, ⟨25, _⟩ => ⟨S1x256x256, .bf16⟩
  | .local _ .vmem, ⟨26, _⟩ => ⟨S1x256x256, .bf16⟩
  | .local _ .vmem, ⟨27, _⟩ => ⟨S1x320x256, .bf16⟩
  | .local _ .vmem, ⟨28, _⟩ => ⟨S1x320x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x320x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S4x8192x1024 : Shape := ⟨3, ![4, 8192, 1024]⟩
abbrev S4x1024 : Shape := ⟨2, ![4, 1024]⟩
abbrev S1024 : Shape := ⟨1, ![1024]⟩
abbrev S1024x7680 : Shape := ⟨2, ![1024, 7680]⟩
abbrev S64 : Shape := ⟨1, ![64]⟩
abbrev S8192x32 : Shape := ⟨2, ![8192, 32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x7680 : Shape := ⟨3, ![4, 8192, 7680]⟩
abbrev S4x8192x2048 : Shape := ⟨3, ![4, 8192, 2048]⟩
abbrev S4x8192x256 : Shape := ⟨3, ![4, 8192, 256]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S1x8192x1x32 : Shape := ⟨4, ![1, 8192, 1, 32]⟩
abbrev S4x8192x16x32 : Shape := ⟨4, ![4, 8192, 16, 32]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S4x8192x4x32 : Shape := ⟨4, ![4, 8192, 4, 32]⟩
abbrev S4x16x64x8192 : Shape := ⟨4, ![4, 16, 64, 8192]⟩
abbrev S4x1024x8192 : Shape := ⟨3, ![4, 1024, 8192]⟩
abbrev S4x4x64x8192 : Shape := ⟨4, ![4, 4, 64, 8192]⟩
abbrev S4x4x16x8192 : Shape := ⟨4, ![4, 4, 16, 8192]⟩
abbrev S4x4x80x8192 : Shape := ⟨4, ![4, 4, 80, 8192]⟩
abbrev S4x320x8192 : Shape := ⟨3, ![4, 320, 8192]⟩

abbrev nBuf : Space → Nat
  | .hbm => 165
  | .vmem => 0
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S1024, .f32⟩
  | 4 => ⟨S1024x7680, .f32⟩
  | 5 => ⟨S64, .f32⟩
  | 6 => ⟨S64, .f32⟩
  | 7 => ⟨S8192x32, .f32⟩
  | 8 => ⟨S8192x32, .f32⟩
  | 9 => ⟨S4x8192x1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x1024, .f32⟩
  | 21 => ⟨S4x8192x1024, .f32⟩
  | 22 => ⟨S1x1x1024, .f32⟩
  | 23 => ⟨S4x8192x1024, .f32⟩
  | 24 => ⟨S4x8192x1024, .f32⟩
  | 25 => ⟨S4x1x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x1x1024, .f32⟩
  | 32 => ⟨S4x8192x1024, .f32⟩
  | 33 => ⟨S4x8192x1024, .f32⟩
  | 34 => ⟨S4x8192x7680, .f32⟩
  | 35 => ⟨S4x8192x2048, .f32⟩
  | 36 => ⟨S4x8192x1024, .f32⟩
  | 37 => ⟨S4x8192x1024, .f32⟩
  | 38 => ⟨S4x8192x256, .f32⟩
  | 39 => ⟨S4x8192x256, .f32⟩
  | 40 => ⟨S4x8192x1024, .f32⟩
  | 41 => ⟨S4x8192x2048, .f32⟩
  | 42 => ⟨S4x8192x1024, .f32⟩
  | 43 => ⟨S4x8192x1024, .f32⟩
  | 44 => ⟨S4x8192x1024, .f32⟩
  | 45 => ⟨S4x8192x1024, .f32⟩
  | 46 => ⟨S_, .f32⟩
  | 47 => ⟨S4x8192x1024, .f32⟩
  | 48 => ⟨S4x8192x1024, .f32⟩
  | 49 => ⟨S_, .f32⟩
  | 50 => ⟨S4x8192x1024, .f32⟩
  | 51 => ⟨S4x8192x1024, .f32⟩
  | 52 => ⟨S4x8192x1024, .f32⟩
  | 53 => ⟨S4x8192x16x64, .f32⟩
  | 54 => ⟨S4x8192x16x64, .f32⟩
  | 55 => ⟨S_, .f32⟩
  | 56 => ⟨S4x8192x16, .f32⟩
  | 57 => ⟨S4x8192x16x1, .f32⟩
  | 58 => ⟨S_, .f32⟩
  | 59 => ⟨S4x8192x16x1, .f32⟩
  | 60 => ⟨S4x8192x16x1, .f32⟩
  | 61 => ⟨S_, .f32⟩
  | 62 => ⟨S4x8192x16x1, .f32⟩
  | 63 => ⟨S4x8192x16x1, .f32⟩
  | 64 => ⟨S4x8192x16x1, .f32⟩
  | 65 => ⟨S4x8192x16x64, .f32⟩
  | 66 => ⟨S4x8192x16x64, .f32⟩
  | 67 => ⟨S1x1x1x64, .f32⟩
  | 68 => ⟨S4x8192x16x64, .f32⟩
  | 69 => ⟨S4x8192x16x64, .f32⟩
  | 70 => ⟨S1x8192x1x32, .f32⟩
  | 71 => ⟨S1x8192x1x32, .f32⟩
  | 72 => ⟨S4x8192x16x32, .f32⟩
  | 73 => ⟨S4x8192x16x32, .f32⟩
  | 74 => ⟨S4x8192x16x32, .f32⟩
  | 75 => ⟨S4x8192x16x32, .f32⟩
  | 76 => ⟨S4x8192x16x32, .f32⟩
  | 77 => ⟨S4x8192x16x32, .f32⟩
  | 78 => ⟨S4x8192x16x32, .f32⟩
  | 79 => ⟨S4x8192x16x32, .f32⟩
  | 80 => ⟨S4x8192x16x32, .f32⟩
  | 81 => ⟨S4x8192x16x32, .f32⟩
  | 82 => ⟨S4x8192x16x32, .f32⟩
  | 83 => ⟨S4x8192x16x32, .f32⟩
  | 84 => ⟨S4x8192x16x64, .f32⟩
  | 85 => ⟨S4x8192x4x64, .f32⟩
  | 86 => ⟨S4x8192x4x64, .f32⟩
  | 87 => ⟨S_, .f32⟩
  | 88 => ⟨S4x8192x4, .f32⟩
  | 89 => ⟨S4x8192x4x1, .f32⟩
  | 90 => ⟨S_, .f32⟩
  | 91 => ⟨S4x8192x4x1, .f32⟩
  | 92 => ⟨S4x8192x4x1, .f32⟩
  | 93 => ⟨S_, .f32⟩
  | 94 => ⟨S4x8192x4x1, .f32⟩
  | 95 => ⟨S4x8192x4x1, .f32⟩
  | 96 => ⟨S4x8192x4x1, .f32⟩
  | 97 => ⟨S4x8192x4x64, .f32⟩
  | 98 => ⟨S4x8192x4x64, .f32⟩
  | 99 => ⟨S1x1x1x64, .f32⟩
  | 100 => ⟨S4x8192x4x64, .f32⟩
  | 101 => ⟨S4x8192x4x64, .f32⟩
  | 102 => ⟨S1x8192x1x32, .f32⟩
  | 103 => ⟨S1x8192x1x32, .f32⟩
  | 104 => ⟨S4x8192x4x32, .f32⟩
  | 105 => ⟨S4x8192x4x32, .f32⟩
  | 106 => ⟨S4x8192x4x32, .f32⟩
  | 107 => ⟨S4x8192x4x32, .f32⟩
  | 108 => ⟨S4x8192x4x32, .f32⟩
  | 109 => ⟨S4x8192x4x32, .f32⟩
  | 110 => ⟨S4x8192x4x32, .f32⟩
  | 111 => ⟨S4x8192x4x32, .f32⟩
  | 112 => ⟨S4x8192x4x32, .f32⟩
  | 113 => ⟨S4x8192x4x32, .f32⟩
  | 114 => ⟨S4x8192x4x32, .f32⟩
  | 115 => ⟨S4x8192x4x32, .f32⟩
  | 116 => ⟨S4x8192x4x64, .f32⟩
  | 117 => ⟨S_, .f32⟩
  | 118 => ⟨S_, .f32⟩
  | 119 => ⟨S_, .f32⟩
  | 120 => ⟨S_, .f32⟩
  | 121 => ⟨S4x8192x16x64, .f32⟩
  | 122 => ⟨S4x8192x16x64, .f32⟩
  | 123 => ⟨S4x16x64x8192, .f32⟩
  | 124 => ⟨S4x1024x8192, .f32⟩
  | 125 => ⟨S4x8192x4x64, .f32⟩
  | 126 => ⟨S4x4x64x8192, .f32⟩
  | 127 => ⟨S_, .f32⟩
  | _ => ⟨S4x8192x1024, .f32⟩

abbrev hbmTy0_1 (i : Nat) : BufTy := match i % 128 with
  | 0 => ⟨S4x4x16x8192, .f32⟩
  | 1 => ⟨S4x4x80x8192, .f32⟩
  | 2 => ⟨S4x320x8192, .f32⟩
  | 3 => ⟨S4x8192x1024, .f32⟩
  | 4 => ⟨S4x8192x1024, .f32⟩
  | 5 => ⟨S_, .f32⟩
  | 6 => ⟨S4x8192x1024, .f32⟩
  | 7 => ⟨S4x8192x1024, .f32⟩
  | 8 => ⟨S_, .f32⟩
  | 9 => ⟨S4x8192x1024, .f32⟩
  | 10 => ⟨S4x8192x1024, .f32⟩
  | 11 => ⟨S4x8192x1024, .f32⟩
  | 12 => ⟨S4x8192x1024, .f32⟩
  | 13 => ⟨S4x8192x1024, .f32⟩
  | 14 => ⟨S_, .f32⟩
  | 15 => ⟨S4x8192x1024, .f32⟩
  | 16 => ⟨S4x8192x1024, .f32⟩
  | 17 => ⟨S_, .f32⟩
  | 18 => ⟨S4x8192x1024, .f32⟩
  | 19 => ⟨S4x8192x1024, .f32⟩
  | 20 => ⟨S4x8192x1024, .f32⟩
  | 21 => ⟨S4x8192x2048, .f32⟩
  | 22 => ⟨S4x8192x2048, .f32⟩
  | 23 => ⟨S_, .f32⟩
  | 24 => ⟨S4x8192x2048, .f32⟩
  | 25 => ⟨S4x8192x2048, .f32⟩
  | 26 => ⟨S_, .f32⟩
  | 27 => ⟨S4x8192x2048, .f32⟩
  | 28 => ⟨S4x8192x2048, .f32⟩
  | 29 => ⟨S4x8192x256, .f32⟩
  | 30 => ⟨S4x8192x1024, .bf16⟩
  | 31 => ⟨S4x8192x1024, .bf16⟩
  | 32 => ⟨S4x8192x1024, .bf16⟩
  | 33 => ⟨S4x8192x2048, .bf16⟩
  | 34 => ⟨S4x1024x8192, .bf16⟩
  | 35 => ⟨S4x8192x256, .bf16⟩
  | 36 => ⟨S4x320x8192, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_11 : Ref sig .tc := ⟨.hbm, 117, rfl⟩
abbrev main_v96 : Ref sig .tc := ⟨.hbm, 118, rfl⟩
abbrev main_cst_12 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_13 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_call0_v5 : Ref sig .tc := ⟨.hbm, 138, rfl⟩
abbrev main_v107 : Ref sig .tc := ⟨.hbm, 139, rfl⟩
abbrev main_call1_v0 : Ref sig .tc := ⟨.hbm, 140, rfl⟩
abbrev main_call1_v1 : Ref sig .tc := ⟨.hbm, 141, rfl⟩
abbrev main_call1_cst : Ref sig .tc := ⟨.hbm, 142, rfl⟩
abbrev main_call1_v2 : Ref sig .tc := ⟨.hbm, 143, rfl⟩
abbrev main_call1_v3 : Ref sig .tc := ⟨.hbm, 144, rfl⟩
abbrev main_call1_cst_0 : Ref sig .tc := ⟨.hbm, 145, rfl⟩
abbrev main_call1_v4 : Ref sig .tc := ⟨.hbm, 146, rfl⟩
abbrev main_call1_v5 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_14 : Ref sig .tc := ⟨.hbm, 151, rfl⟩
abbrev main_v111 : Ref sig .tc := ⟨.hbm, 152, rfl⟩
abbrev main_v112 : Ref sig .tc := ⟨.hbm, 153, rfl⟩
abbrev main_cst_15 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩

abbrev nD : Nat := 1
abbrev τ : Topo := Topo.v7x

variable {F : FTy → Type} [FloatOps F]
-- ==== Kernel3.lean ====
abbrev S4x1024 : Shape := ⟨2, ![4, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x3072, .f32⟩
  | .hbm, ⟨9, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x1024 : Shape := ⟨2, ![4, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x2x3072 : Shape := ⟨3, ![8, 2, 3072]⟩
abbrev S2x8x3072 : Shape := ⟨3, ![2, 8, 3072]⟩
abbrev S2x1x3072 : Shape := ⟨3, ![2, 1, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x2x3072, .f32⟩
  | .hbm, ⟨18, _⟩ => ⟨S2x8x3072, .f32⟩
  | .hbm, ⟨19, _⟩ => ⟨S2x1x3072, .f32⟩
  | .hbm, ⟨20, _⟩ => ⟨S2x8x3072, .f32⟩
  | .hbm, ⟨21, _⟩ => ⟨S2x8x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel4.lean ====
abbrev S4x256x1024 : Shape := ⟨3, ![4, 256, 1024]⟩
abbrev S1024 : Shape := ⟨1, ![1024]⟩
abbrev S1024x7680 : Shape := ⟨2, ![1024, 7680]⟩
abbrev S64 : Shape := ⟨1, ![64]⟩
abbrev S1024x3072 : Shape := ⟨2, ![1024, 3072]⟩
abbrev S1024x6144 : Shape := ⟨2, ![1024, 6144]⟩
abbrev S1024x1536 : Shape := ⟨2, ![1024, 1536]⟩
abbrev S1536x1024 : Shape := ⟨2, ![1536, 1024]⟩
abbrev S_ : Shape := ⟨0, ![]⟩
abbrev S64x1 : Shape := ⟨2, ![64, 1]⟩
abbrev S64x256 : Shape := ⟨2, ![64, 256]⟩
abbrev S4x1x1024 : Shape := ⟨3, ![4, 1, 1024]⟩
abbrev S1x1024 : Shape := ⟨2, ![1, 1024]⟩
abbrev S4x256x2048 : Shape := ⟨3, ![4, 256, 2048]⟩
abbrev S4x1024x256 : Shape := ⟨3, ![4, 1024, 256]⟩
abbrev S4x256x256 : Shape := ⟨3, ![4, 256, 256]⟩
abbrev S4x320x256 : Shape := ⟨3, ![4, 320, 256]⟩
abbrev S1x256x1024 : Shape := ⟨3, ![1, 256, 1024]⟩
abbrev S1x1x1024 : Shape := ⟨3, ![1, 1, 1024]⟩
abbrev S1x256x2048 : Shape := ⟨3, ![1, 256, 2048]⟩
abbrev S1x1024x256 : Shape := ⟨3, ![1, 1024, 256]⟩
abbrev S1x256x256 : Shape := ⟨3, ![1, 256, 256]⟩
abbrev S1x320x256 : Shape := ⟨3, ![1, 320, 256]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x2048 : Shape := ⟨2, ![1024, 2048]⟩
abbrev S256x2048 : Shape := ⟨2, ![256, 2048]⟩
abbrev S1536x256 : Shape := ⟨2, ![1536, 256]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S256x256 : Shape := ⟨2, ![256, 256]⟩
abbrev S4x64x256 : Shape := ⟨3, ![4, 64, 256]⟩
abbrev S4x256 : Shape := ⟨2, ![4, 256]⟩
abbrev S4x1x256 : Shape := ⟨3, ![4, 1, 256]⟩
abbrev S1x16x256 : Shape := ⟨3, ![1, 16, 256]⟩

abbrev nBuf : Space → Nat
  | .hbm => 34
  | .vmem => 25
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x7680, .f32⟩
  | .hbm, ⟨5, _⟩ => ⟨S64, .f32⟩
  | .hbm, ⟨6, _⟩ => ⟨S64, .f32⟩
  | .hbm, ⟨7, _⟩ => ⟨S1024x3072, .f32⟩
  | .hbm, ⟨8, _⟩ => ⟨S1024x3072, .f32⟩
  | .hbm, ⟨9, _⟩ => ⟨S1024x6144, .f32⟩
  | .hbm, ⟨10, _⟩ => ⟨S1024x6144, .bf16⟩
  | .hbm, ⟨11, _⟩ => ⟨S1024x1536, .f32⟩
  | .hbm, ⟨12, _⟩ => ⟨S1536x1024, .f32⟩
  | .hbm, ⟨13, _⟩ => ⟨S1536x1024, .bf16⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S64x256, .f32⟩
  | .hbm, ⟨22, _⟩ => ⟨S64x1, .f32⟩
  | .hbm, ⟨23, _⟩ => ⟨S64x256, .f32⟩
  | .hbm, ⟨24, _⟩ => ⟨S4x1x1024, .f32⟩
  | .hbm, ⟨25, _⟩ => ⟨S4x1x1024, .f32⟩
  | .hbm, ⟨26, _⟩ => ⟨S1x1024, .f32⟩
  | .hbm, ⟨27, _⟩ => ⟨S4x256x1024, .bf16⟩
  | .hbm, ⟨28, _⟩ => ⟨S4x256x1024, .bf16⟩
  | .hbm, ⟨29, _⟩ => ⟨S4x256x1024, .bf16⟩
  | .hbm, ⟨30, _⟩ => ⟨S4x256x2048, .bf16⟩
  | .hbm, ⟨31, _⟩ => ⟨S4x1024x256, .bf16⟩
  | .hbm, ⟨32, _⟩ => ⟨S4x256x256, .bf16⟩
  | .hbm, ⟨33, _⟩ => ⟨S4x320x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x6144, .bf16⟩
  | .local _ .vmem, ⟨8, _⟩ => ⟨S1536x1024, .bf16⟩
  | .local _ .vmem, ⟨9, _⟩ => ⟨S64x256, .f32⟩
  | .local _ .vmem, ⟨10, _⟩ => ⟨S64x256, .f32⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x320x256, .bf16⟩
  | .local _ .vmem, ⟨24, _⟩ => ⟨S1x320x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x320x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S4x256x1024 : Shape := ⟨3, ![4, 256, 1024]⟩
abbrev S1024 : Shape := ⟨1, ![1024]⟩
abbrev S1024x7680 : Shape := ⟨2, ![1024, 7680]⟩
abbrev S64 : Shape := ⟨1, ![64]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x7680 : Shape := ⟨3, ![4, 256, 7680]⟩
abbrev S4x256x2048 : Shape := ⟨3, ![4, 256, 2048]⟩
abbrev S4x256x256 : Shape := ⟨3, ![4, 256, 256]⟩
abbrev S4x256x16x64 : Shape := ⟨4, ![4, 256, 16, 64]⟩
abbrev S4x256x16 : Shape := ⟨3, ![4, 256, 16]⟩
abbrev S4x256x16x1 : Shape := ⟨4, ![4, 256, 16, 1]⟩
abbrev S1x1x1x64 : Shape := ⟨4, ![1, 1, 1, 64]⟩
abbrev S4x256x4x64 : Shape := ⟨4, ![4, 256, 4, 64]⟩
abbrev S4x256x4 : Shape := ⟨3, ![4, 256, 4]⟩
abbrev S4x256x4x1 : Shape := ⟨4, ![4, 256, 4, 1]⟩
abbrev S4x16x64x256 : Shape := ⟨4, ![4, 16, 64, 256]⟩
abbrev S4x1024x256 : Shape := ⟨3, ![4, 1024, 256]⟩
abbrev S4x4x64x256 : Shape := ⟨4, ![4, 4, 64, 256]⟩
abbrev S4x4x16x256 : Shape := ⟨4, ![4, 4, 16, 256]⟩
abbrev S4x4x80x256 : Shape := ⟨4, ![4, 4, 80, 256]⟩
abbrev S4x320x256 : Shape := ⟨3, ![4, 320, 256]⟩

abbrev nBuf : Space → Nat
  | .hbm => 133
  | .vmem => 0
  | .smem => 0
  | _ => 0

abbrev hbmTy0_0 (i : Nat) : BufTy := match i % 128 with
  | 0 => ⟨S4x256x1024, .f32⟩
  | 1 => ⟨S1024, .f32⟩
  | 2 => ⟨S1024, .f32⟩
  | 3 => ⟨S1024, .f32⟩
  | 4 => ⟨S1024x7680, .f32⟩
  | 5 => ⟨S64, .f32⟩
  | 6 => ⟨S64, .f32⟩
  | 7 => ⟨S4x256x1024, .f32⟩
  | 8 => ⟨S_, .f32⟩
  | 9 => ⟨S4x256, .f32⟩
  | 10 => ⟨S4x256x1, .f32⟩
  | 11 => ⟨S_, .f32⟩
  | 12 => ⟨S4x256x1, .f32⟩
  | 13 => ⟨S4x256x1, .f32⟩
  | 14 => ⟨S_, .f32⟩
  | 15 => ⟨S4x256x1, .f32⟩
  | 16 => ⟨S4x256x1, .f32⟩
  | 17 => ⟨S4x256x1, .f32⟩
  | 18 => ⟨S4x256x1024, .f32⟩
  | 19 => ⟨S4x256x1024, .f32⟩
  | 20 => ⟨S1x1x1024, .f32⟩
  | 21 => ⟨S4x256x1024, .f32⟩
  | 22 => ⟨S4x256x1024, .f32⟩
  | 23 => ⟨S_, .f32⟩
  | 24 => ⟨S1024, .f32⟩
  | 25 => ⟨S1024, .f32⟩
  | 26 => ⟨S1x1x1024, .f32⟩
  | 27 => ⟨S4x256x1024, .f32⟩
  | 28 => ⟨S4x256x1024, .f32⟩
  | 29 => ⟨S1x1x1024, .f32⟩
  | 30 => ⟨S4x256x1024, .f32⟩
  | 31 => ⟨S4x256x1024, .f32⟩
  | 32 => ⟨S4x256x7680, .f32⟩
  | 33 => ⟨S4x256x2048, .f32⟩
  | 34 => ⟨S4x256x1024, .f32⟩
  | 35 => ⟨S4x256x1024, .f32⟩
  | 36 => ⟨S4x256x256, .f32⟩
  | 37 => ⟨S4x256x256, .f32⟩
  | 38 => ⟨S4x256x1024, .f32⟩
  | 39 => ⟨S4x256x2048, .f32⟩
  | 40 => ⟨S4x256x1024, .f32⟩
  | 41 => ⟨S4x256x1024, .f32⟩
  | 42 => ⟨S4x256x1024, .f32⟩
  | 43 => ⟨S4x256x1024, .f32⟩
  | 44 => ⟨S_, .f32⟩
  | 45 => ⟨S4x256x1024, .f32⟩
  | 46 => ⟨S4x256x1024, .f32⟩
  | 47 => ⟨S_, .f32⟩
  | 48 => ⟨S4x256x1024, .f32⟩
  | 49 => ⟨S4x256x1024, .f32⟩
  | 50 => ⟨S4x256x1024, .f32⟩
  | 51 => ⟨S4x256x16x64, .f32⟩
  | 52 => ⟨S4x256x16x64, .f32⟩
  | 53 => ⟨S_, .f32⟩
  | 54 => ⟨S4x256x16, .f32⟩
  | 55 => ⟨S4x256x16x1, .f32⟩
  | 56 => ⟨S_, .f32⟩
  | 57 => ⟨S4x256x16x1, .f32⟩
  | 58 => ⟨S4x256x16x1, .f32⟩
  | 59 => ⟨S_, .f32⟩
  | 60 => ⟨S4x256x16x1, .f32⟩
  | 61 => ⟨S4x256x16x1, .f32⟩
  | 62 => ⟨S4x256x16x1, .f32⟩
  | 63 => ⟨S4x256x16x64, .f32⟩
  | 64 => ⟨S4x256x16x64, .f32⟩
  | 65 => ⟨S1x1x1x64, .f32⟩
  | 66 => ⟨S4x256x16x64, .f32⟩
  | 67 => ⟨S4x256x16x64, .f32⟩
  | 68 => ⟨S4x256x4x64, .f32⟩
  | 69 => ⟨S4x256x4x64, .f32⟩
  | 70 => ⟨S_, .f32⟩
  | 71 => ⟨S4x256x4, .f32⟩
  | 72 => ⟨S4x256x4x1, .f32⟩
  | 73 => ⟨S_, .f32⟩
  | 74 => ⟨S4x256x4x1, .f32⟩
  | 75 => ⟨S4x256x4x1, .f32⟩
  | 76 => ⟨S_, .f32⟩
  | 77 => ⟨S4x256x4x1, .f32⟩
  | 78 => ⟨S4x256x4x1, .f32⟩
  | 79 => ⟨S4x256x4x1, .f32⟩
  | 80 => ⟨S4x256x4x64, .f32⟩
  | 81 => ⟨S4x256x4x64, .f32⟩
  | 82 => ⟨S1x1x1x64, .f32⟩
  | 83 => ⟨S4x256x4x64, .f32⟩
  | 84 => ⟨S4x256x4x64, .f32⟩
  | 85 => ⟨S_, .f32⟩
  | 86 => ⟨S_, .f32⟩
  | 87 => ⟨S_, .f32⟩
  | 88 => ⟨S_, .f32⟩
  | 89 => ⟨S4x256x16x64, .f32⟩
  | 90 => ⟨S4x256x16x64, .f32⟩
  | 91 => ⟨S4x16x64x256, .f32⟩
  | 92 => ⟨S4x1024x256, .f32⟩
  | 93 => ⟨S4x256x4x64, .f32⟩
  | 94 => ⟨S4x4x64x256, .f32⟩
  | 95 => ⟨S_, .f32⟩
  | 96 => ⟨S4x4x16x256, .f32⟩
  | 97 => ⟨S4x4x80x256, .f32⟩
  | 98 => ⟨S4x320x256, .f32⟩
  | 99 => ⟨S4x256x1024, .f32⟩
  | 100 => ⟨S4x256x1024, .f32⟩
  | 101 => ⟨S_, .f32⟩
  | 102 => ⟨S4x256x1024, .f32⟩
  | 103 => ⟨S4x256x1024, .f32⟩
  | 104 => ⟨S_, .f32⟩
  | 105 => ⟨S4x256x1024, .f32⟩
  | 106 => ⟨S4x256x1024, .f32⟩
  | 107 => ⟨S4x256x1024, .f32⟩
  | 108 => ⟨S4x256x1024, .f32⟩
  | 109 => ⟨S4x256x1024, .f32⟩
  | 110 => ⟨S_, .f32⟩
  | 111 => ⟨S4x256x1024, .f32⟩
  | 112 => ⟨S4x256x1024, .f32⟩
  | 113 => ⟨S_, .f32⟩
  | 114 => ⟨S4x256x1024, .f32⟩
  | 115 => ⟨S4x256x1024, .f32⟩
  | 116 => ⟨S4x256x1024, .f32⟩
  | 117 => ⟨S4x256x2048, .f32⟩
  | 118 => ⟨S4x256x2048, .f32⟩
  | 119 => ⟨S_, .f32⟩
  | 120 => ⟨S4x256x2048, .f32⟩
  | 121 => ⟨S4x256x2048, .f32⟩
  | 122 => ⟨S_, .f32⟩
  | 123 => ⟨S4x256x2048, .f32⟩
  | 124 => ⟨S4x256x2048, .f32⟩
  | 125 => ⟨S4x256x256, .f32⟩
  | 126 => ⟨S4x256x1024, .bf16⟩
  | 127 => ⟨S4x256x1024, .bf16⟩
  | _ => ⟨S4x256x1024, .f32⟩

abbrev hbmTy0_1 (i : Nat) : BufTy := match i % 128 with
  | 0 => ⟨S4x256x1024, .bf16⟩
  | 1 => ⟨S4x256x2048, .bf16⟩
  | 2 => ⟨S4x1024x256, .bf16⟩
  | 3 => ⟨S4x256x256, .bf16⟩
  | 4 => ⟨S4x320x256, .bf16⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_call0_v5 : Ref sig .tc := ⟨.hbm, 106, rfl⟩
abbrev main_v77 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_14 : Ref sig .tc := ⟨.hbm, 119, rfl⟩
abbrev main_v81 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Proof.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The arithmetic of one pass of the loop for one group of queries, each the kernel's own printed expression. -/

/-- The running maximum after a block whose column maxima are `mb`. -/
def newMax (m mb : Vec F S1x256 .f32) : FVec F S1x256 .f32 := Gen.k0_pay5 m mb
/-- The factor that rescales what was summed under the old maximum. -/
def newAlpha (m mb : Vec F S1x256 .f32) : FVec F S1x256 .f32 := Gen.k0_pay4 m mb
/-- The exponentials of a block of scores under the new maximum. -/
def newP (m mb : Vec F S1x256 .f32) (s : Vec F S768x256 .f32) : FVec F S768x256 .bf16 := Gen.k0_pay7 (Gen.k0_pay6 m mb s)
/-- The rescaled accumulator plus the values of a block weighted by its exponentials. -/
def newAcc (v : Vec F S1x80x768 .bf16) (al : Vec F S1x256 .f32) (acc : Vec F S80x256 .f32) (p : Vec F S768x256 .bf16) : FVec F S80x256 .f32 :=
  Gen.k0_pay2 v al acc p
/-- The scores of 256 keys against a group's queries. -/
def scoreRows (k : Vec F S1x256x256 .bf16) (q : Vec F S256x256 .bf16) : FVec F S256x256 .f32 := Gen.k0_pay9 k q
/-- The column maxima of three runs of 256 scores. -/
def blockMax (k0 k1 k2 : Vec F S1x256x256 .bf16) (q : Vec F S256x256 .bf16) : FVec F S1x256 .f32 :=
  Gen.k0_pay15 (Gen.k0_pay12 k0 q k1 q) k2 q

/-- What the twelve buffers the loop writes hold. -/
structure St (F : FTy → Type) [FloatOps F] (c : Dev nD) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) where
  b8 : Buf (Elt F) (arg8.view.loc (c : Thread nD τ))
  b9 : Buf (Elt F) (arg9.view.loc (c : Thread nD τ))
  b10 : Buf (Elt F) (arg10.view.loc (c : Thread nD τ))
  b11 : Buf (Elt F) (arg11.view.loc (c : Thread nD τ))
  b12 : Buf (Elt F) (arg12.view.loc (c : Thread nD τ))
  b13 : Buf (Elt F) (arg13.view.loc (c : Thread nD τ))
  b14 : Buf (Elt F) (arg14.view.loc (c : Thread nD τ))
  b15 : Buf (Elt F) (arg15.view.loc (c : Thread nD τ))
  b16 : Buf (Elt F) (arg16.view.loc (c : Thread nD τ))
  b17 : Buf (Elt F) (arg17.view.loc (c : Thread nD τ))
  b18 : Buf (Elt F) (arg18.view.loc (c : Thread nD τ))
  b19 : Buf (Elt F) (arg19.view.loc (c : Thread nD τ))

/-- What one pass of the loop leaves in the buffers it writes. -/
@[irreducible] def next (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ)))
    (k : Fin k0_t1_loop.trips) (X : St F c arg8 arg9 arg10 arg11 arg12 arg13 arg14 arg15 arg16 arg17 arg18 arg19) : St F c arg8 arg9 arg10 arg11 arg12 arg13 arg14 arg15 arg16 arg17 arg18 arg19 where
  b8 := arg8.view.writes (Elt F) X.b8
      [⟨(Rect.unit (s := S1x1024) ![0, 768] S1x256.size Gen.inb_S1x1024_S1x256_0_768), newMax (arg8.view.readAt (Elt F) (Rect.unit (s := S1x1024) ![0, 768] S1x256.size Gen.inb_S1x1024_S1x256_0_768).toLoadRect X.b8) (arg10.view.readAt (Elt F) (Rect.unit (s := S1x1024) ![0, 768] S1x256.size Gen.inb_S1x1024_S1x256_0_768).toLoadRect X.b10)⟩,
       ⟨(Rect.unit (s := S1x1024) ![0, 512] S1x256.size Gen.inb_S1x1024_S1x256_0_512), newMax (arg8.view.readAt (Elt F) (Rect.unit (s := S1x1024) ![0, 512] S1x256.size Gen.inb_S1x1024_S1x256_0_512).toLoadRect X.b8) (arg10.view.readAt (Elt F) (Rect.unit (s := S1x1024) ![0, 512] S1x256.size Gen.inb_S1x1024_S1x256_0_512).toLoadRect X.b10)⟩,
       ⟨(Rect.unit (s := S1x1024) ![0, 256] S1x256.size Gen.inb_S1x1024_S1x256_0_256), newMax (arg8.view.readAt (Elt F) (Rect.unit (s := S1x1024) ![0, 256] S1x256.size Gen.inb_S1x1024_S1x256_0_256).toLoadRect X.b8) (arg10.view.readAt (Elt F) (Rect.unit (s := S1x1024) ![0, 256] S1x256.size Gen.inb_S1x1024_S1x256_0_256).toLoadRect X.b10)⟩,
       ⟨(Rect.unit (s := S1x1024) ![0, 0] S1x256.size Gen.inb_S1x1024_S1x256_0_0), newMax (arg8.view.readAt (Elt F) (Rect.unit (s := S1x1024) ![0, 0] S1x256.size Gen.inb_S1x1024_S1x256_0_0).toLoadRect X.b8) (arg10.view.readAt (Elt F) (Rect.unit (s := S1x1024) ![0, 0] S1x256.size Gen.inb_S1x1024_S1x256_0_0).toLoadRect X.b10)⟩]
  b9 := arg9.view.writes (Elt F) X.b9
      [⟨(Rect.unit (s := S1x1024) ![0, 768] S1x256.size Gen.inb_S1x1024_S1x256_0_768), newAlpha (arg8.view.readAt (Elt F) (Rect.unit (s := S1x1024) ![0, 768] S1x256.size Gen.inb_S1x1024_S1x256_0_768).toLoadRect X.b8) (arg10.view.readAt (Elt F) (Rect.unit (s := S1x1024) ![0, 768] S1x256.size Gen.inb_S1x1024_S1x256_0_768).toLoadRect X.b10)⟩,
       ⟨(Rect.unit (s := S1x1024) ![0, 512] S1x256.size Gen.inb_S1x1024_S1x256_0_512), newAlpha (arg8.view.readAt (Elt F) (Rect.unit (s := S1x1024) ![0, 512] S1x256.size Gen.inb_S1x1024_S1x256_0_512).toLoadRect X.b8) (arg10.view.readAt (Elt F) (Rect.unit (s := S1x1024) ![0, 512] S1x256.size Gen.inb_S1x1024_S1x256_0_512).toLoadRect X.b10)⟩,
       ⟨(Rect.unit (s := S1x1024) ![0, 256] S1x256.size Gen.inb_S1x1024_S1x256_0_256), newAlpha (arg8.view.readAt (Elt F) (Rect.unit (s := S1x1024) ![0, 256] S1x256.size Gen.inb_S1x1024_S1x256_0_256).toLoadRect X.b8) (arg10.view.readAt (Elt F) (Rect.unit (s := S1x1024) ![0, 256] S1x256.size Gen.inb_S1x1024_S1x256_0_256).toLoadRect X.b10)⟩,
       ⟨(Rect.unit (s := S1x1024) ![0, 0] S1x256.size Gen.inb_S1x1024_S1x256_0_0), newAlpha (arg8.view.readAt (Elt F) (Rect.unit (s := S1x1024) ![0, 0] S1x256.size Gen.inb_S1x1024_S1x256_0_0).toLoadRect X.b8) (arg10.view.readAt (Elt F) (Rect.unit (s := S1x1024) ![0, 0] S1x256.size Gen.inb_S1x1024_S1x256_0_0).toLoadRect X.b10)⟩]
  b10 := arg10.view.writes (Elt F) X.b10
      [⟨(Rect.unit (s := S1x1024) ![0, 768] S1x256.size Gen.inb_S1x1024_S1x256_0_768), blockMax (arg4.view.readAt (Elt F) (Rect.unit (s := S1x8448x256) (k0_off6 k 0#32) S1x256x256.size (Gen.k0_off6_inb k 0)).toLoadRect f4) (arg4.view.readAt (Elt F) (Rect.unit (s := S1x8448x256) (k0_off6 k 256#32) S1x256x256.size (Gen.k0_off6_inb k 1)).toLoadRect f4) (arg4.view.readAt (Elt F) (Rect.unit (s := S1x8448x256) (k0_off6 k 512#32) S1x256x256.size (Gen.k0_off6_inb k 2)).toLoadRect f4) (arg7.view.readAt (Elt F) (Rect.unit (s := S256x1024) ![0, 768] S256x256.size Gen.inb_S256x1024_S256x256_0_768).toLoadRect f7)⟩,
       ⟨(Rect.unit (s := S1x1024) ![0, 512] S1x256.size Gen.inb_S1x1024_S1x256_0_512), blockMax (arg4.view.readAt (Elt F) (Rect.unit (s := S1x8448x256) (k0_off6 k 0#32) S1x256x256.size (Gen.k0_off6_inb k 0)).toLoadRect f4) (arg4.view.readAt (Elt F) (Rect.unit (s := S1x8448x256) (k0_off6 k 256#32) S1x256x256.size (Gen.k0_off6_inb k 1)).toLoadRect f4) (arg4.view.readAt (Elt F) (Rect.unit (s := S1x8448x256) (k0_off6 k 512#32) S1x256x256.size (Gen.k0_off6_inb k 2)).toLoadRect f4) (arg7.view.readAt (Elt F) (Rect.unit (s := S256x1024) ![0, 512] S256x256.size Gen.inb_S256x1024_S256x256_0_512).toLoadRect f7)⟩,
       ⟨(Rect.unit (s := S1x1024) ![0, 256] S1x256.size Gen.inb_S1x1024_S1x256_0_256), blockMax (arg4.view.readAt (Elt F) (Rect.unit (s := S1x8448x256) (k0_off6 k 0#32) S1x256x256.size (Gen.k0_off6_inb k 0)).toLoadRect f4) (arg4.view.readAt (Elt F) (Rect.unit (s := S1x8448x256) (k0_off6 k 256#32) S1x256x256.size (Gen.k0_off6_inb k 1)).toLoadRect f4) (arg4.view.readAt (Elt F) (Rect.unit (s := S1x8448x256) (k0_off6 k 512#32) S1x256x256.size (Gen.k0_off6_inb k 2)).toLoadRect f4) (arg7.view.readAt (Elt F) (Rect.unit (s := S256x1024) ![0, 256] S256x256.size Gen.inb_S256x1024_S256x256_0_256).toLoadRect f7)⟩,
       ⟨(Rect.unit (s := S1x1024) ![0, 0] S1x256.size Gen.inb_S1x1024_S1x256_0_0), blockMax (arg4.view.readAt (Elt F) (Rect.unit (s := S1x8448x256) (k0_off6 k 0#32) S1x256x256.size (Gen.k0_off6_inb k 0)).toLoadRect f4) (arg4.view.readAt (Elt F) (Rect.unit (s := S1x8448x256) (k0_off6 k 256#32) S1x256x256.size (Gen.k0_off6_inb k 1)).toLoadRect f4) (arg4.view.readAt (Elt F) (Rect.unit (s := S1x8448x256) (k0_off6 k 512#32) S1x256x256.size (Gen.k0_off6_inb k 2)).toLoadRect f4) (arg7.view.readAt (Elt F) (Rect.unit (s := S256x1024) ![0, 0] S256x256.size Gen.inb_S256x1024_S256x256_0_0).toLoadRect f7)⟩]
  b11 := arg11.view.writes (Elt F) X.b11
      [⟨(Rect.unit (s := S80x1024) ![0, 768] S80x256.size Gen.inb_S80x1024_S80x256_0_768), newAcc (arg5.view.readAt (Elt F) (Rect.unit (s := S1x80x8448) (k0_off5 k) S1x80x768.size (Gen.k0_off5_inb k)).toLoadRect f5) (arg9.view.readAt (Elt F) (Rect.unit (s := S1x1024) ![0, 768] S1x256.size Gen.inb_S1x1024_S1x256_0_768).toLoadRect X.b9) (arg11.view.readAt (Elt F) (Rect.unit (s := S80x1024) ![0, 768] S80x256.size Gen.inb_S80x1024_S80x256_0_768).toLoadRect X.b11) (arg19.view.readAt (Elt F) (Rect.unit (s := S768x256) ![0, 0] S768x256.size Gen.inb_S768x256_S768x256_0_0).toLoadRect X.b19)⟩,
       ⟨(Rect.unit (s := S80x1024) ![0, 512] S80x256.size Gen.inb_S80x1024_S80x256_0_512), newAcc (arg5.view.readAt (Elt F) (Rect.unit (s := S1x80x8448) (k0_off5 k) S1x80x768.size (Gen.k0_off5_inb k)).toLoadRect f5) (arg9.view.readAt (Elt F) (Rect.unit (s := S1x1024) ![0, 512] S1x256.size Gen.inb_S1x1024_S1x256_0_512).toLoadRect X.b9) (arg11.view.readAt (Elt F) (Rect.unit (s := S80x1024) ![0, 512] S80x256.size Gen.inb_S80x1024_S80x256_0_512).toLoadRect X.b11) (arg18.view.readAt (Elt F) (Rect.unit (s := S768x256) ![0, 0] S768x256.size Gen.inb_S768x256_S768x256_0_0).toLoadRect X.b18)⟩,
       ⟨(Rect.unit (s := S80x1024) ![0, 256] S80x256.size Gen.inb_S80x1024_S80x256_0_256), newAcc (arg5.view.readAt (Elt F) (Rect.unit (s := S1x80x8448) (k0_off5 k) S1x80x768.size (Gen.k0_off5_inb k)).toLoadRect f5) (arg9.view.readAt (Elt F) (Rect.unit (s := S1x1024) ![0, 256] S1x256.size Gen.inb_S1x1024_S1x256_0_256).toLoadRect X.b9) (arg11.view.readAt (Elt F) (Rect.unit (s := S80x1024) ![0, 256] S80x256.size Gen.inb_S80x1024_S80x256_0_256).toLoadRect X.b11) (arg17.view.readAt (Elt F) (Rect.unit (s := S768x256) ![0, 0] S768x256.size Gen.inb_S768x256_S768x256_0_0).toLoadRect X.b17)⟩,
       ⟨(Rect.unit (s := S80x1024) ![0, 0] S80x256.size Gen.inb_S80x1024_S80x256_0_0), newAcc (arg5.view.readAt (Elt F) (Rect.unit (s := S1x80x8448) (k0_off5 k) S1x80x768.size (Gen.k0_off5_inb k)).toLoadRect f5) (arg9.view.readAt (Elt F) (Rect.unit (s := S1x1024) ![0, 0] S1x256.size Gen.inb_S1x1024_S1x256_0_0).toLoadRect X.b9) (arg11.view.readAt (Elt F) (Rect.unit (s := S80x1024) ![0, 0] S80x256.size Gen.inb_S80x1024_S80x256_0_0).toLoadRect X.b11) (arg16.view.readAt (Elt F) (Rect.unit (s := S768x256) ![0, 0] S768x256.size Gen.inb_S768x256_S768x256_0_0).toLoadRect X.b16)⟩]
  b12 := arg12.view.writes (Elt F) X.b12
      [⟨(Rect.unit (s := S768x256) ![512, 0] S256x256.size Gen.inb_S768x256_S256x256_512_0), scoreRows (arg4.view.readAt (Elt F) (Rect.unit (s := S1x8448x256) (k0_off6 k 512#32) S1x256x256.size (Gen.k0_off6_inb k 2)).toLoadRect f4) (arg7.view.readAt (Elt F) (Rect.unit (s := S256x1024) ![0, 0] S256x256.size Gen.inb_S256x1024_S256x256_0_0).toLoadRect f7)⟩,
       ⟨(Rect.unit (s := S768x256) ![256, 0] S256x256.size Gen.inb_S768x256_S256x256_256_0), scoreRows (arg4.view.readAt (Elt F) (Rect.unit (s := S1x8448x256) (k0_off6 k 256#32) S1x256x256.size (Gen.k0_off6_inb k 1)).toLoadRect f4) (arg7.view.readAt (Elt F) (Rect.unit (s := S256x1024) ![0, 0] S256x256.size Gen.inb_S256x1024_S256x256_0_0).toLoadRect f7)⟩,
       ⟨(Rect.unit (s := S768x256) ![0, 0] S256x256.size Gen.inb_S768x256_S256x256_0_0), scoreRows (arg4.view.readAt (Elt F) (Rect.unit (s := S1x8448x256) (k0_off6 k 0#32) S1x256x256.size (Gen.k0_off6_inb k 0)).toLoadRect f4) (arg7.view.readAt (Elt F) (Rect.unit (s := S256x1024) ![0, 0] S256x256.size Gen.inb_S256x1024_S256x256_0_0).toLoadRect f7)⟩]
  b13 := arg13.view.writes (Elt F) X.b13
      [⟨(Rect.unit (s := S768x256) ![512, 0] S256x256.size Gen.inb_S768x256_S256x256_512_0), scoreRows (arg4.view.readAt (Elt F) (Rect.unit (s := S1x8448x256) (k0_off6 k 512#32) S1x256x256.size (Gen.k0_off6_inb k 2)).toLoadRect f4) (arg7.view.readAt (Elt F) (Rect.unit (s := S256x1024) ![0, 256] S256x256.size Gen.inb_S256x1024_S256x256_0_256).toLoadRect f7)⟩,
       ⟨(Rect.unit (s := S768x256) ![256, 0] S256x256.size Gen.inb_S768x256_S256x256_256_0), scoreRows (arg4.view.readAt (Elt F) (Rect.unit (s := S1x8448x256) (k0_off6 k 256#32) S1x256x256.size (Gen.k0_off6_inb k 1)).toLoadRect f4) (arg7.view.readAt (Elt F) (Rect.unit (s := S256x1024) ![0, 256] S256x256.size Gen.inb_S256x1024_S256x256_0_256).toLoadRect f7)⟩,
       ⟨(Rect.unit (s := S768x256) ![0, 0] S256x256.size Gen.inb_S768x256_S256x256_0_0), scoreRows (arg4.view.readAt (Elt F) (Rect.unit (s := S1x8448x256) (k0_off6 k 0#32) S1x256x256.size (Gen.k0_off6_inb k 0)).toLoadRect f4) (arg7.view.readAt (Elt F) (Rect.unit (s := S256x1024) ![0, 256] S256x256.size Gen.inb_S256x1024_S256x256_0_256).toLoadRect f7)⟩]
  b14 := arg14.view.writes (Elt F) X.b14
      [⟨(Rect.unit (s := S768x256) ![512, 0] S256x256.size Gen.inb_S768x256_S256x256_512_0), scoreRows (arg4.view.readAt (Elt F) (Rect.unit (s := S1x8448x256) (k0_off6 k 512#32) S1x256x256.size (Gen.k0_off6_inb k 2)).toLoadRect f4) (arg7.view.readAt (Elt F) (Rect.unit (s := S256x1024) ![0, 512] S256x256.size Gen.inb_S256x1024_S256x256_0_512).toLoadRect f7)⟩,
       ⟨(Rect.unit (s := S768x256) ![256, 0] S256x256.size Gen.inb_S768x256_S256x256_256_0), scoreRows (arg4.view.readAt (Elt F) (Rect.unit (s := S1x8448x256) (k0_off6 k 256#32) S1x256x256.size (Gen.k0_off6_inb k 1)).toLoadRect f4) (arg7.view.readAt (Elt F) (Rect.unit (s := S256x1024) ![0, 512] S256x256.size Gen.inb_S256x1024_S256x256_0_512).toLoadRect f7)⟩,
       ⟨(Rect.unit (s := S768x256) ![0, 0] S256x256.size Gen.inb_S768x256_S256x256_0_0), scoreRows (arg4.view.readAt (Elt F) (Rect.unit (s := S1x8448x256) (k0_off6 k 0#32) S1x256x256.size (Gen.k0_off6_inb k 0)).toLoadRect f4) (arg7.view.readAt (Elt F) (Rect.unit (s := S256x1024) ![0, 512] S256x256.size Gen.inb_S256x1024_S256x256_0_512).toLoadRect f7)⟩]
  b15 := arg15.view.writes (Elt F) X.b15
      [⟨(Rect.unit (s := S768x256) ![512, 0] S256x256.size Gen.inb_S768x256_S256x256_512_0), scoreRows (arg4.view.readAt (Elt F) (Rect.unit (s := S1x8448x256) (k0_off6 k 512#32) S1x256x256.size (Gen.k0_off6_inb k 2)).toLoadRect f4) (arg7.view.readAt (Elt F) (Rect.unit (s := S256x1024) ![0, 768] S256x256.size Gen.inb_S256x1024_S256x256_0_768).toLoadRect f7)⟩,
       ⟨(Rect.unit (s := S768x256) ![256, 0] S256x256.size Gen.inb_S768x256_S256x256_256_0), scoreRows (arg4.view.readAt (Elt F) (Rect.unit (s := S1x8448x256) (k0_off6 k 256#32) S1x256x256.size (Gen.k0_off6_inb k 1)).toLoadRect f4) (arg7.view.readAt (Elt F) (Rect.unit (s := S256x1024) ![0, 768] S256x256.size Gen.inb_S256x1024_S256x256_0_768).toLoadRect f7)⟩,
       ⟨(Rect.unit (s := S768x256) ![0, 0] S256x256.size Gen.inb_S768x256_S256x256_0_0), scoreRows (arg4.view.readAt (Elt F) (Rect.unit (s := S1x8448x256) (k0_off6 k 0#32) S1x256x256.size (Gen.k0_off6_inb k 0)).toLoadRect f4) (arg7.view.readAt (Elt F) (Rect.unit (s := S256x1024) ![0, 768] S256x256.size Gen.inb_S256x1024_S256x256_0_768).toLoadRect f7)⟩]
  b16 := arg16.view.writes (Elt F) X.b16
      [⟨(Rect.unit (s := S768x256) ![0, 0] S768x256.size Gen.inb_S768x256_S768x256_0_0), newP (arg8.view.readAt (Elt F) (Rect.unit (s := S1x1024) ![0, 0] S1x256.size Gen.inb_S1x1024_S1x256_0_0).toLoadRect X.b8) (arg10.view.readAt (Elt F) (Rect.unit (s := S1x1024) ![0, 0] S1x256.size Gen.inb_S1x1024_S1x256_0_0).toLoadRect X.b10) (arg12.view.readAt (Elt F) (Rect.unit (s := S768x256) ![0, 0] S768x256.size Gen.inb_S768x256_S768x256_0_0).toLoadRect X.b12)⟩]
  b17 := arg17.view.writes (Elt F) X.b17
      [⟨(Rect.unit (s := S768x256) ![0, 0] S768x256.size Gen.inb_S768x256_S768x256_0_0), newP (arg8.view.readAt (Elt F) (Rect.unit (s := S1x1024) ![0, 256] S1x256.size Gen.inb_S1x1024_S1x256_0_256).toLoadRect X.b8) (arg10.view.readAt (Elt F) (Rect.unit (s := S1x1024) ![0, 256] S1x256.size Gen.inb_S1x1024_S1x256_0_256).toLoadRect X.b10) (arg13.view.readAt (Elt F) (Rect.unit (s := S768x256) ![0, 0] S768x256.size Gen.inb_S768x256_S768x256_0_0).toLoadRect X.b13)⟩]
  b18 := arg18.view.writes (Elt F) X.b18
      [⟨(Rect.unit (s := S768x256) ![0, 0] S768x256.size Gen.inb_S768x256_S768x256_0_0), newP (arg8.view.readAt (Elt F) (Rect.unit (s := S1x1024) ![0, 512] S1x256.size Gen.inb_S1x1024_S1x256_0_512).toLoadRect X.b8) (arg10.view.readAt (Elt F) (Rect.unit (s := S1x1024) ![0, 512] S1x256.size Gen.inb_S1x1024_S1x256_0_512).toLoadRect X.b10) (arg14.view.readAt (Elt F) (Rect.unit (s := S768x256) ![0, 0] S768x256.size Gen.inb_S768x256_S768x256_0_0).toLoadRect X.b14)⟩]
  b19 := arg19.view.writes (Elt F) X.b19
      [⟨(Rect.unit (s := S768x256) ![0, 0] S768x256.size Gen.inb_S768x256_S768x256_0_0), newP (arg8.view.readAt (Elt F) (Rect.unit (s := S1x1024) ![0, 768] S1x256.size Gen.inb_S1x1024_S1x256_0_768).toLoadRect X.b8) (arg10.view.readAt (Elt F) (Rect.unit (s := S1x1024) ![0, 768] S1x256.size Gen.inb_S1x1024_S1x256_0_768).toLoadRect X.b10) (arg15.view.readAt (Elt F) (Rect.unit (s := S768x256) ![0, 0] S768x256.size Gen.inb_S768x256_S768x256_0_0).toLoadRect X.b15)⟩]

set_option maxHeartbeats 4000000 in
set_option maxRecDepth 65536 in
/-- One pass of the loop, from any contents of the buffers it writes. -/
theorem trip (c : Dev nD) (i : grid0.Coords) (arg3 : Memref sig .tc .vmem S1x256x256 .bf16) (harg3 : arg3.IsWhole) (arg4 : Memref sig .tc .vmem S1x8448x256 .bf16) (harg4 : arg4.IsWhole) (arg5 : Memref sig .tc .vmem S1x80x8448 .bf16) (harg5 : arg5.IsWhole) (arg6 : Memref sig .tc .vmem S1x256x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S80x1024 .f32) (harg11 : arg11.IsWhole) (arg12 : Memref sig .tc .vmem S768x256 .f32) (harg12 : arg12.IsWhole) (arg13 : Memref sig .tc .vmem S768x256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768x256 .bf16) (harg16 : arg16.IsWhole) (arg17 : Memref sig .tc .vmem S768x256 .bf16) (harg17 : arg17.IsWhole) (arg18 : Memref sig .tc .vmem S768x256 .bf16) (harg18 : arg18.IsWhole) (arg19 : Memref sig .tc .vmem S768x256 .bf16) (harg19 : arg19.IsWhole) (v182 : FVec F S1x256 .f32) (v188 : FVec F S256x256 .f32)
    (k : Fin k0_t1_loop.trips) (acc : Unit) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) :
    (iprop((arg4.view.loc (c : Thread nD τ) ↦{fullShare} f4) ∗ (arg5.view.loc (c : Thread nD τ) ↦{fullShare} f5) ∗ (arg7.view.loc (c : Thread nD τ) ↦{fullShare} f7) ∗ (arg8.view.loc (c : Thread nD τ) ↦{fullShare} X.b8) ∗ (arg9.view.loc (c : Thread nD τ) ↦{fullShare} X.b9) ∗ (arg10.view.loc (c : Thread nD τ) ↦{fullShare} X.b10) ∗ (arg11.view.loc (c : Thread nD τ) ↦{fullShare} X.b11) ∗ (arg12.view.loc (c : Thread nD τ) ↦{fullShare} X.b12) ∗ (arg13.view.loc (c : Thread nD τ) ↦{fullShare} X.b13) ∗ (arg14.view.loc (c : Thread nD τ) ↦{fullShare} X.b14) ∗ (arg15.view.loc (c : Thread nD τ) ↦{fullShare} X.b15) ∗ (arg16.view.loc (c : Thread nD τ) ↦{fullShare} X.b16) ∗ (arg17.view.loc (c : Thread nD τ) ↦{fullShare} X.b17) ∗ (arg18.view.loc (c : Thread nD τ) ↦{fullShare} X.b18) ∗ (arg19.view.loc (c : Thread nD τ) ↦{fullShare} X.b19)) : sProp 𝕄) ⊢ wp Idealize.ShloMosaic.frame (wpE (defs₀ (F := F)) Variants.none (c : Thread nD τ) none) Set.univ
      (Gen.k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v182 v188 k acc)
      (fun _ => iprop((arg4.view.loc (c : Thread nD τ) ↦{fullShare} f4) ∗ (arg5.view.loc (c : Thread nD τ) ↦{fullShare} f5) ∗ (arg7.view.loc (c : Thread nD τ) ↦{fullShare} f7) ∗ (arg8.view.loc (c : Thread nD τ) ↦{fullShare} (next c arg4 arg5 arg7 arg8 arg9 arg10 arg11 arg12 arg13 arg14 arg15 arg16 arg17 arg18 arg19 f4 f5 f7 k X).b8) ∗ (arg9.view.loc (c : Thread nD τ) ↦{fullShare} (next c arg4 arg5 arg7 arg8 arg9 arg10 arg11 arg12 arg13 arg14 arg15 arg16 arg17 arg18 arg19 f4 f5 f7 k X).b9) ∗ (arg10.view.loc (c : Thread nD τ) ↦{fullShare} (next c arg4 arg5 arg7 arg8 arg9 arg10 arg11 arg12 arg13 arg14 arg15 arg16 arg17 arg18 arg19 f4 f5 f7 k X).b10) ∗ (arg11.view.loc (c : Thread nD τ) ↦{fullShare} (next c arg4 arg5 arg7 arg8 arg9 arg10 arg11 arg12 arg13 arg14 arg15 arg16 arg17 arg18 arg19 f4 f5 f7 k X).b11) ∗ (arg12.view.loc (c : Thread nD τ) ↦{fullShare} (next c arg4 arg5 arg7 arg8 arg9 arg10 arg11 arg12 arg13 arg14 arg15 arg16 arg17 arg18 arg19 f4 f5 f7 k X).b12) ∗ (arg13.view.loc (c : Thread nD τ) ↦{fullShare} (next c arg4 arg5 arg7 arg8 arg9 arg10 arg11 arg12 arg13 arg14 arg15 arg16 arg17 arg18 arg19 f4 f5 f7 k X).b13) ∗ (arg14.view.loc (c : Thread nD τ) ↦{fullShare} (next c arg4 arg5 arg7 arg8 arg9 arg10 arg11 arg12 arg13 arg14 arg15 arg16 arg17 arg18 arg19 f4 f5 f7 k X).b14) ∗ (arg15.view.loc (c : Thread nD τ) ↦{fullShare} (next c arg4 arg5 arg7 arg8 arg9 arg10 arg11 arg12 arg13 arg14 arg15 arg16 arg17 arg18 arg19 f4 f5 f7 k X).b15) ∗ (arg16.view.loc (c : Thread nD τ) ↦{fullShare} (next c arg4 arg5 arg7 arg8 arg9 arg10 arg11 arg12 arg13 arg14 arg15 arg16 arg17 arg18 arg19 f4 f5 f7 k X).b16) ∗ (arg17.view.loc (c : Thread nD τ) ↦{fullShare} (next c arg4 arg5 arg7 arg8 arg9 arg10 arg11 arg12 arg13 arg14 arg15 arg16 arg17 arg18 arg19 f4 f5 f7 k X).b17) ∗ (arg18.view.loc (c : Thread nD τ) ↦{fullShare} (next c arg4 arg5 arg7 arg8 arg9 arg10 arg11 arg12 arg13 arg14 arg15 arg16 arg17 arg18 arg19 f4 f5 f7 k X).b18) ∗ (arg19.view.loc (c : Thread nD τ) ↦{fullShare} (next c arg4 arg5 arg7 arg8 arg9 arg10 arg11 arg12 arg13 arg14 arg15 arg16 arg17 arg18 arg19 f4 f5 f7 k X).b19))) := by
  unfold Gen.k0_t1_body
  iintro ⟨H4, H5, H7, H8, H9, H10, H11, H12, H13, H14, H15, H16, H17, H18, H19⟩
  sl_exec
  sl_step
  unfold next
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.Proof.KernelIdeal
-- ==== Proof.Windows.lean ====
module

public import proofs.«01_k».proof.Proof.Trip
public import Idealize.ShloMosaic.Lib.VecWindow
public import Idealize.ShloMosaic.Lib.PointwiseCore

@[expose] public section

noncomputable section

namespace Cert.Proof.KernelIdeal

open Cert.KernelIdeal
open Idealize.ShloMosaic

/-! How a load reads through a list of stores when its columns are those of one of them. -/

section Reads

variable {κ : Kind} {sp : Space} {Val : EltTy → Type}

/-- A load of exactly what the last store wrote. -/
theorem rd_hit {s : Shape} {e : EltTy} (v : View sig κ sp s e) (f : v.ty.Contents Val) {off size : Fin s.rank → ℕ}
    (inb inb' : ∀ a, off a + size a ≤ s.size a) (w : (Rect.unit off size inb').shape.Idx → Val e) (L : List (View.Piece Val s e)) :
    v.readAt Val (Rect.unit off size inb).toLoadRect (v.writes Val f (⟨Rect.unit off size inb', w⟩ :: L)) = w :=
  funext fun y => View.read_writes_cons_unit_of_mem v f inb' w L _ y rfl fun a => by
    show off a + 1 * (y a).val = _
    rw [Nat.one_mul]

/-- A load of columns the last store did not write. -/
theorem rd_skip {n0 n1 : ℕ} {e : EltTy} (v : View sig κ sp (⟨2, ![n0, n1]⟩ : Shape) e) (f : v.ty.Contents Val) {r r' o o' : ℕ}
    {sz sz' : Fin 2 → ℕ} (inb : ∀ a : Fin 2, (![r, o] : Fin 2 → ℕ) a + sz a ≤ (⟨2, ![n0, n1]⟩ : Shape).size a)
    (inb' : ∀ a : Fin 2, (![r', o'] : Fin 2 → ℕ) a + sz' a ≤ (⟨2, ![n0, n1]⟩ : Shape).size a)
    (w : (Rect.unit (s := ⟨2, ![n0, n1]⟩) ![r', o'] sz' inb').shape.Idx → Val e) (L : List (View.Piece Val (⟨2, ![n0, n1]⟩ : Shape) e))
    (h : o + sz 1 ≤ o' ∨ o' + sz' 1 ≤ o) :
    v.readAt Val (Rect.unit (s := ⟨2, ![n0, n1]⟩) ![r, o] sz inb).toLoadRect
        (v.writes Val f (⟨Rect.unit (s := ⟨2, ![n0, n1]⟩) ![r', o'] sz' inb', w⟩ :: L))
      = v.readAt Val (Rect.unit (s := ⟨2, ![n0, n1]⟩) ![r, o] sz inb).toLoadRect (v.writes Val f L) :=
  funext fun y => View.read_writes_cons_unit_of_not_mem v f inb' w L _ rfl (1 : Fin 2) (by
    have hy : (y (1 : Fin 2)).val < sz 1 := (y (1 : Fin 2)).isLt
    show o + 1 * (y (1 : Fin 2)).val < o' ∨ o' + sz' 1 ≤ o + 1 * (y (1 : Fin 2)).val
    omega)

/-- A load of whatever part of a buffer whose last store filled it with one value. -/
theorem rd_const {s : Shape} {e : EltTy} (v : View sig κ sp s e) (f : v.ty.Contents Val) {off off' size : Fin s.rank → ℕ}
    (inb : ∀ a, off a + size a ≤ s.size a) (inb' : ∀ a, off' a + s.size a ≤ s.size a) (x : Val e) (L : List (View.Piece Val s e)) :
    v.readAt Val (Rect.unit off size inb).toLoadRect (v.writes Val f (⟨Rect.unit off' s.size inb', fun _ => x⟩ :: L)) = fun _ => x :=
  funext fun y => congrFun (View.read_writes_full v f inb' (fun _ => x) L) _

end Reads

section Stack

variable {κ : Kind} {sp : Space} {F : FTy → Type}

/-- Three runs of 256 rows, one above the other. -/
def rows3 (a b d : Vec F S256x256 .f32) : Vec F S768x256 .f32 := fun y =>
  if h0 : (y 0).val < 256 then a (ix2 ⟨(y 0).val, h0⟩ (y 1))
  else if h1 : (y 0).val < 512 then b (ix2 ⟨(y 0).val - 256, by omega⟩ (y 1))
  else d (ix2 ⟨(y 0).val - 512, by have h : (y 0).val < 768 := (y 0).isLt; omega⟩ (y 1))

/-- Four runs of 256 columns, side by side. -/
def cols4 (a b d e : Vec F S80x256 .f32) : Vec F S80x1024 .f32 := fun y =>
  if h0 : (y 1).val < 256 then a (ix2 (y 0) ⟨(y 1).val, h0⟩)
  else if h1 : (y 1).val < 512 then b (ix2 (y 0) ⟨(y 1).val - 256, by omega⟩)
  else if h2 : (y 1).val < 768 then d (ix2 (y 0) ⟨(y 1).val - 512, by omega⟩)
  else e (ix2 (y 0) ⟨(y 1).val - 768, by have h : (y 1).val < 1024 := (y 1).isLt; omega⟩)

variable [FloatOps F]

/-- A load of all rows after three stores of 256 rows each. -/
theorem rd_rows3 (v : View sig κ sp S768x256 .f32) (f : v.ty.Contents (Elt F)) (inb inb0 inb1 inb2)
    (a b d : Vec F S256x256 .f32) (L : List (View.Piece (Elt F) S768x256 .f32)) :
    v.readAt (Elt F) (Rect.unit (s := S768x256) ![0, 0] S768x256.size inb).toLoadRect
        (v.writes (Elt F) f (⟨Rect.unit (s := S768x256) ![512, 0] S256x256.size inb2, d⟩
          :: ⟨Rect.unit (s := S768x256) ![256, 0] S256x256.size inb1, b⟩
          :: ⟨Rect.unit (s := S768x256) ![0, 0] S256x256.size inb0, a⟩ :: L)) = rows3 a b d := by
  rw [View.readAt_full]
  funext y
  have hy : (y (0 : Fin 2)).val < 768 := (y (0 : Fin 2)).isLt
  unfold rows3
  by_cases h0 : (y (0 : Fin 2)).val < 256
  · rw [dif_pos h0,
      View.read_writes_cons_unit_of_not_mem v f inb2 d _ y rfl (0 : Fin 2) (.inl (by show (y (0 : Fin 2)).val < 512; omega)),
      View.read_writes_cons_unit_of_not_mem v f inb1 b _ y rfl (0 : Fin 2) (.inl h0)]
    exact View.read_writes_cons_unit_of_mem v f inb0 a L y _ rfl
      (Fin.forall_fin_two.mpr ⟨by show _ = 0 + (y (0 : Fin 2)).val; omega, by show _ = 0 + (y (1 : Fin 2)).val; omega⟩)
  · rw [dif_neg h0]
    by_cases h1 : (y (0 : Fin 2)).val < 512
    · rw [dif_pos h1,
        View.read_writes_cons_unit_of_not_mem v f inb2 d _ y rfl (0 : Fin 2) (.inl h1)]
      exact View.read_writes_cons_unit_of_mem v f inb1 b _ y (ix2 ⟨(y 0).val - 256, by omega⟩ (y 1)) rfl
        (Fin.forall_fin_two.mpr ⟨by show _ = 256 + ((y (0 : Fin 2)).val - 256); omega, by show _ = 0 + (y (1 : Fin 2)).val; omega⟩)
    · rw [dif_neg h1]
      exact View.read_writes_cons_unit_of_mem v f inb2 d _ y (ix2 ⟨(y 0).val - 512, by omega⟩ (y 1)) rfl
        (Fin.forall_fin_two.mpr ⟨by show _ = 512 + ((y (0 : Fin 2)).val - 512); omega, by show _ = 0 + (y (1 : Fin 2)).val; omega⟩)

/-- What is held after four stores of 256 columns each. -/
theorem rd_cols4 (v : View sig κ sp S80x1024 .f32) (f : v.ty.Contents (Elt F)) (inb0 inb1 inb2 inb3)
    (a b d e : Vec F S80x256 .f32) (L : List (View.Piece (Elt F) S80x1024 .f32)) :
    v.read (Elt F) (v.writes (Elt F) f (⟨Rect.unit (s := S80x1024) ![0, 768] S80x256.size inb3, e⟩
          :: ⟨Rect.unit (s := S80x1024) ![0, 512] S80x256.size inb2, d⟩
          :: ⟨Rect.unit (s := S80x1024) ![0, 256] S80x256.size inb1, b⟩
          :: ⟨Rect.unit (s := S80x1024) ![0, 0] S80x256.size inb0, a⟩ :: L)) = cols4 a b d e := by
  funext y
  have hy : (y (1 : Fin 2)).val < 1024 := (y (1 : Fin 2)).isLt
  unfold cols4
  by_cases h0 : (y (1 : Fin 2)).val < 256
  · rw [dif_pos h0,
      View.read_writes_cons_unit_of_not_mem v f inb3 e _ y rfl (1 : Fin 2) (.inl (by show (y (1 : Fin 2)).val < 768; omega)),
      View.read_writes_cons_unit_of_not_mem v f inb2 d _ y rfl (1 : Fin 2) (.inl (by show (y (1 : Fin 2)).val < 512; omega)),
      View.read_writes_cons_unit_of_not_mem v f inb1 b _ y rfl (1 : Fin 2) (.inl h0)]
    exact View.read_writes_cons_unit_of_mem v f inb0 a L y _ rfl
      (Fin.forall_fin_two.mpr ⟨by show _ = 0 + (y (0 : Fin 2)).val; omega, by show _ = 0 + (y (1 : Fin 2)).val; omega⟩)
  · rw [dif_neg h0]
    by_cases h1 : (y (1 : Fin 2)).val < 512
    · rw [dif_pos h1,
        View.read_writes_cons_unit_of_not_mem v f inb3 e _ y rfl (1 : Fin 2) (.inl (by show (y (1 : Fin 2)).val < 768; omega)),
        View.read_writes_cons_unit_of_not_mem v f inb2 d _ y rfl (1 : Fin 2) (.inl h1)]
      exact View.read_writes_cons_unit_of_mem v f inb1 b _ y (ix2 (y 0) ⟨(y 1).val - 256, by omega⟩) rfl
        (Fin.forall_fin_two.mpr ⟨by show _ = 0 + (y (0 : Fin 2)).val; omega, by show _ = 256 + ((y (1 : Fin 2)).val - 256); omega⟩)
    · rw [dif_neg h1]
      by_cases h2 : (y (1 : Fin 2)).val < 768
      · rw [dif_pos h2,
          View.read_writes_cons_unit_of_not_mem v f inb3 e _ y rfl (1 : Fin 2) (.inl h2)]
        exact View.read_writes_cons_unit_of_mem v f inb2 d _ y (ix2 (y 0) ⟨(y 1).val - 512, by omega⟩) rfl
          (Fin.forall_fin_two.mpr ⟨by show _ = 0 + (y (0 : Fin 2)).val; omega, by show _ = 512 + ((y (1 : Fin 2)).val - 512); omega⟩)
      · rw [dif_neg h2]
        exact View.read_writes_cons_unit_of_mem v f inb3 e _ y (ix2 (y 0) ⟨(y 1).val - 768, by omega⟩) rfl
          (Fin.forall_fin_two.mpr ⟨by show _ = 0 + (y (0 : Fin 2)).val; omega, by show _ = 768 + ((y (1 : Fin 2)).val - 768); omega⟩)

end Stack

/-! The kernel's arithmetic on values alone: one query group's state and its steps. -/

section Model

variable {F : FTy → Type} [FloatOps F]

/-- 256 keys from row `o` of the block of keys. -/
def keyRows (x4 : Vec F S1x8448x256 .bf16) (o : ℕ) : Vec F S1x256x256 .bf16 := fun y =>
  x4 (ix3 0 ⟨(o + (y 1).val) % 8448, Nat.mod_lt _ (by decide)⟩ (y 2))

/-- 768 columns from column `o` of the block of values. -/
def valCols (x5 : Vec F S1x80x8448 .bf16) (o : ℕ) : Vec F S1x80x768 .bf16 := fun y =>
  x5 (ix3 0 (y 1) ⟨(o + (y 2).val) % 8448, Nat.mod_lt _ (by decide)⟩)

/-- The queries of group `g` at the rows of head `h` among the four, zero at the others. -/
def queryCols (h g : ℕ) (x3 : Vec F S1x256x256 .bf16) : Vec F S256x256 .bf16 := fun y =>
  if 64 * h ≤ (y 0).val ∧ (y 0).val < 64 * h + 64 then x3 (ix3 0 ⟨(64 * g + ((y 0).val - 64 * h)) % 256, Nat.mod_lt _ (by decide)⟩ (y 1))
  else Scalar.ofBits .bf16 0x0000#16

/-- The scores of the 768 keys from row `o`. -/
def scores (x4 : Vec F S1x8448x256 .bf16) (o : ℕ) (q : Vec F S256x256 .bf16) : Vec F S768x256 .f32 :=
  rows3 (scoreRows (keyRows x4 o) q) (scoreRows (keyRows x4 (o + 256)) q) (scoreRows (keyRows x4 (o + 512)) q)

/-- The column maxima of those scores. -/
def scoresMax (x4 : Vec F S1x8448x256 .bf16) (o : ℕ) (q : Vec F S256x256 .bf16) : Vec F S1x256 .f32 :=
  blockMax (keyRows x4 o) (keyRows x4 (o + 256)) (keyRows x4 (o + 512)) q

/-- One query group's state: running maximum, factor, block maxima, accumulator, scores, exponentials. -/
structure GS (F : FTy → Type) where
  m : Vec F S1x256 .f32
  al : Vec F S1x256 .f32
  mb : Vec F S1x256 .f32
  acc : Vec F S80x256 .f32
  s : Vec F S768x256 .f32
  p : Vec F S768x256 .bf16

/-- The state before the loop. -/
def gs0 (x4 : Vec F S1x8448x256 .bf16) (q : Vec F S256x256 .bf16) : GS F where
  m := fun _ => Scalar.ofBits .f32 0xF149F2CA#32
  al := fun _ => Scalar.ofBits .f32 0x3F800000#32
  mb := scoresMax x4 0 q
  acc := fun _ => Scalar.ofBits .f32 0x00000000#32
  s := scores x4 0 q
  p := fun _ => Scalar.ofBits .bf16 0x0000#16

/-- One pass of the loop on one group's state. -/
def gnext (x4 : Vec F S1x8448x256 .bf16) (x5 : Vec F S1x80x8448 .bf16) (q : Vec F S256x256 .bf16) (k : ℕ) (G : GS F) : GS F where
  m := newMax G.m G.mb
  al := newAlpha G.m G.mb
  mb := scoresMax x4 (768 * k + 768) q
  acc := newAcc (valCols x5 (768 * (k - 1))) G.al G.acc G.p
  s := scores x4 (768 * k + 768) q
  p := newP G.m G.mb G.s

/-- The state before pass `k`. -/
def gst (x4 : Vec F S1x8448x256 .bf16) (x5 : Vec F S1x80x8448 .bf16) (q : Vec F S256x256 .bf16) : ℕ → GS F
  | 0 => gs0 x4 q
  | k + 1 => gnext x4 x5 q k (gst x4 x5 q k)

/-- The accumulator in the end, from the state after the loop. -/
def accEnd (x5 : Vec F S1x80x8448 .bf16) (G : GS F) : Vec F S80x256 .f32 :=
  newAcc (valCols x5 7680) (newAlpha G.m G.mb) (newAcc (valCols x5 6912) G.al G.acc G.p) (newP G.m G.mb G.s)

/-- The four groups' accumulators. -/
def accAll (h : ℕ) (x3 : Vec F S1x256x256 .bf16) (x4 : Vec F S1x8448x256 .bf16) (x5 : Vec F S1x80x8448 .bf16) : Vec F S80x1024 .f32 :=
  cols4 (accEnd x5 (gst x4 x5 (queryCols h 0 x3) 10)) (accEnd x5 (gst x4 x5 (queryCols h 1 x3) 10))
    (accEnd x5 (gst x4 x5 (queryCols h 2 x3) 10)) (accEnd x5 (gst x4 x5 (queryCols h 3 x3) 10))

/-- Its rows of weighted values. -/
def accVal (A : Vec F S80x1024 .f32) : Vec F S64x1024 .f32 := fun y => A (ix2 ⟨(y 0).val, by have h : (y 0).val < 64 := (y 0).isLt; omega⟩ (y 1))
/-- Its row of weights. -/
def accSum (A : Vec F S80x1024 .f32) : Vec F S1x1024 .f32 := fun y => A (ix2 ⟨64, by decide⟩ (y 1))

/-- What the body leaves in the block of the result. -/
def outVal (h : ℕ) (x3 : Vec F S1x256x256 .bf16) (x4 : Vec F S1x8448x256 .bf16) (x5 : Vec F S1x80x8448 .bf16) : Vec F S1x256x256 .bf16 :=
  Gen.k0_pay1 (Gen.k0_pay136 (accVal (accAll h x3 x4 x5)) (accSum (accAll h x3 x4 x5))) (Gen.k0_pay137 (accVal (accAll h x3 x4 x5)) (accSum (accAll h x3 x4 x5)))
    (Gen.k0_pay138 (accVal (accAll h x3 x4 x5)) (accSum (accAll h x3 x4 x5))) (Gen.k0_pay139 (accVal (accAll h x3 x4 x5)) (accSum (accAll h x3 x4 x5)))

end Model

end Cert.Proof.KernelIdeal
-- ==== Proof.Loop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Trip

@[expose] public section

set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the buffers hold before pass `k`. -/
def iter (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ)))
    (X : St F c arg8 arg9 arg10 arg11 arg12 arg13 arg14 arg15 arg16 arg17 arg18 arg19) : ℕ → St F c arg8 arg9 arg10 arg11 arg12 arg13 arg14 arg15 arg16 arg17 arg18 arg19
  | 0 => X
  | k + 1 => if h : k < k0_t1_loop.trips then next c arg4 arg5 arg7 arg8 arg9 arg10 arg11 arg12 arg13 arg14 arg15 arg16 arg17 arg18 arg19 f4 f5 f7 ⟨k, h⟩ (iter c arg4 arg5 arg7 arg8 arg9 arg10 arg11 arg12 arg13 arg14 arg15 arg16 arg17 arg18 arg19 f4 f5 f7 X k)
      else iter c arg4 arg5 arg7 arg8 arg9 arg10 arg11 arg12 arg13 arg14 arg15 arg16 arg17 arg18 arg19 f4 f5 f7 X k

/-- The contents of buffer 8 before pass `k`, with the entry contents singled out. -/
theorem iter_b8 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b8 = Nat.rec (motive := fun _ => Buf (Elt F) (arg8.view.loc (c : Thread nD τ))) X.b8
      (fun j _ => (iter c arg4 arg5 arg7 arg8 arg9 arg10 arg11 arg12 arg13 arg14 arg15 arg16 arg17 arg18 arg19 f4 f5 f7 X (j + 1)).b8) k := by cases k <;> rfl

/-- The contents of buffer 9 before pass `k`, with the entry contents singled out. -/
theorem iter_b9 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b9 = Nat.rec (motive := fun _ => Buf (Elt F) (arg9.view.loc (c : Thread nD τ))) X.b9
      (fun j _ => (iter c arg4 arg5 arg7 arg8 arg9 arg10 arg11 arg12 arg13 arg14 arg15 arg16 arg17 arg18 arg19 f4 f5 f7 X (j + 1)).b9) k := by cases k <;> rfl

/-- The contents of buffer 10 before pass `k`, with the entry contents singled out. -/
theorem iter_b10 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b10 = Nat.rec (motive := fun _ => Buf (Elt F) (arg10.view.loc (c : Thread nD τ))) X.b10
      (fun j _ => (iter c arg4 arg5 arg7 arg8 arg9 arg10 arg11 arg12 arg13 arg14 arg15 arg16 arg17 arg18 arg19 f4 f5 f7 X (j + 1)).b10) k := by cases k <;> rfl

/-- The contents of buffer 11 before pass `k`, with the entry contents singled out. -/
theorem iter_b11 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b11 = Nat.rec (motive := fun _ => Buf (Elt F) (arg11.view.loc (c : Thread nD τ))) X.b11
      (fun j _ => (iter c arg4 arg5 arg7 arg8 arg9 arg10 arg11 arg12 arg13 arg14 arg15 arg16 arg17 arg18 arg19 f4 f5 f7 X (j + 1)).b11) k := by cases k <;> rfl

/-- The contents of buffer 12 before pass `k`, with the entry contents singled out. -/
theorem iter_b12 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b12 = Nat.rec (motive := fun _ => Buf (Elt F) (arg12.view.loc (c : Thread nD τ))) X.b12
      (fun j _ => (iter c arg4 arg5 arg7 arg8 arg9 arg10 arg11 arg12 arg13 arg14 arg15 arg16 arg17 arg18 arg19 f4 f5 f7 X (j + 1)).b12) k := by cases k <;> rfl

/-- The contents of buffer 13 before pass `k`, with the entry contents singled out. -/
theorem iter_b13 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b13 = Nat.rec (motive := fun _ => Buf (Elt F) (arg13.view.loc (c : Thread nD τ))) X.b13
      (fun j _ => (iter c arg4 arg5 arg7 arg8 arg9 arg10 arg11 arg12 arg13 arg14 arg15 arg16 arg17 arg18 arg19 f4 f5 f7 X (j + 1)).b13) k := by cases k <;> rfl

/-- The contents of buffer 14 before pass `k`, with the entry contents singled out. -/
theorem iter_b14 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b14 = Nat.rec (motive := fun _ => Buf (Elt F) (arg14.view.loc (c : Thread nD τ))) X.b14
      (fun j _ => (iter c arg4 arg5 arg7 arg8 arg9 arg10 arg11 arg12 arg13 arg14 arg15 arg16 arg17 arg18 arg19 f4 f5 f7 X (j + 1)).b14) k := by cases k <;> rfl

/-- The contents of buffer 15 before pass `k`, with the entry contents singled out. -/
theorem iter_b15 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b15 = Nat.rec (motive := fun _ => Buf (Elt F) (arg15.view.loc (c : Thread nD τ))) X.b15
      (fun j _ => (iter c arg4 arg5 arg7 arg8 arg9 arg10 arg11 arg12 arg13 arg14 arg15 arg16 arg17 arg18 arg19 f4 f5 f7 X (j + 1)).b15) k := by cases k <;> rfl

/-- The contents of buffer 16 before pass `k`, with the entry contents singled out. -/
theorem iter_b16 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b16 = Nat.rec (motive := fun _ => Buf (Elt F) (arg16.view.loc (c : Thread nD τ))) X.b16
      (fun j _ => (iter c arg4 arg5 arg7 arg8 arg9 arg10 arg11 arg12 arg13 arg14 arg15 arg16 arg17 arg18 arg19 f4 f5 f7 X (j + 1)).b16) k := by cases k <;> rfl

/-- The contents of buffer 17 before pass `k`, with the entry contents singled out. -/
theorem iter_b17 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b17 = Nat.rec (motive := fun _ => Buf (Elt F) (arg17.view.loc (c : Thread nD τ))) X.b17
      (fun j _ => (iter c arg4 arg5 arg7 arg8 arg9 arg10 arg11 arg12 arg13 arg14 arg15 arg16 arg17 arg18 arg19 f4 f5 f7 X (j + 1)).b17) k := by cases k <;> rfl

/-- The contents of buffer 18 before pass `k`, with the entry contents singled out. -/
theorem iter_b18 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b18 = Nat.rec (motive := fun _ => Buf (Elt F) (arg18.view.loc (c : Thread nD τ))) X.b18
      (fun j _ => (iter c arg4 arg5 arg7 arg8 arg9 arg10 arg11 arg12 arg13 arg14 arg15 arg16 arg17 arg18 arg19 f4 f5 f7 X (j + 1)).b18) k := by cases k <;> rfl

/-- The contents of buffer 19 before pass `k`, with the entry contents singled out. -/
theorem iter_b19 (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f4 : Buf (Elt F) (arg4.view.loc (c : Thread nD τ))) (f5 : Buf (Elt F) (arg5.view.loc (c : Thread nD τ))) (f7 : Buf (Elt F) (arg7.view.loc (c : Thread nD τ))) (X : St F c arg8 arg9 arg10 arg11 arg12 arg13 arg14 arg15 arg16 arg17 arg18 arg19) (k : ℕ) :
    (iter c arg4 arg5 arg7 arg8 arg9 arg10 arg11 arg12 arg13 arg14 arg15 arg16 arg17 arg18 arg19 f4 f5 f7 X k).b19 = Nat.rec (motive := fun _ => Buf (Elt F) (arg19.view.loc (c : Thread nD τ))) X.b19
      (fun j _ => (iter c arg4 arg5 arg7 arg8 arg9 arg10 arg11 arg12 arg13 arg14 arg15 arg16 arg17 arg18 arg19 f4 f5 f7 X (j + 1)).b19) k := by cases k <;> rfl

/-- The loop's invariant: before pass `k` each buffer it writes holds what `iter` says, and what it only reads is as it was. -/
@[sl_loop] def loopInv (c : Dev nD) (i : grid0.Coords) (arg3 : Memref sig .tc .vmem S1x256x256 .bf16) (harg3 : arg3.IsWhole) (arg4 : Memref sig .tc .vmem S1x8448x256 .bf16) (harg4 : arg4.IsWhole) (arg5 : Memref sig .tc .vmem S1x80x8448 .bf16) (harg5 : arg5.IsWhole) (arg6 : Memref sig .tc .vmem S1x256x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S80x1024 .f32) (harg11 : arg11.IsWhole) (arg12 : Memref sig .tc .vmem S768x256 .f32) (harg12 : arg12.IsWhole) (arg13 : Memref sig .tc .vmem S768x256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768x256 .bf16) (harg16 : arg16.IsWhole) (arg17 : Memref sig .tc .vmem S768x256 .bf16) (harg17 : arg17.IsWhole) (arg18 : Memref sig .tc .vmem S768x256 .bf16) (harg18 : arg18.IsWhole) (arg19 : Memref sig .tc .vmem S768x256 .bf16) (harg19 : arg19.IsWhole) (v182 : FVec F S1x256 .f32) (v188 : FVec F S256x256 .f32)
    (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) :
    Cert.KernelIdeal.Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v182 v188 where
  inv := fun k _ => iprop((arg4.view.loc (c : Thread nD τ) ↦{fullShare} f4) ∗ (arg5.view.loc (c : Thread nD τ) ↦{fullShare} f5) ∗ (arg7.view.loc (c : Thread nD τ) ↦{fullShare} f7) ∗ (∃ g, (arg8.view.loc (c : Thread nD τ) ↦{fullShare} g) ∗ ⌜g = Nat.rec (motive := fun _ => Buf (Elt F) (arg8.view.loc (c : Thread nD τ))) f8 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b8) k⌝) ∗ (∃ g, (arg9.view.loc (c : Thread nD τ) ↦{fullShare} g) ∗ ⌜g = Nat.rec (motive := fun _ => Buf (Elt F) (arg9.view.loc (c : Thread nD τ))) f9 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b9) k⌝) ∗ (∃ g, (arg10.view.loc (c : Thread nD τ) ↦{fullShare} g) ∗ ⌜g = Nat.rec (motive := fun _ => Buf (Elt F) (arg10.view.loc (c : Thread nD τ))) f10 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b10) k⌝) ∗ (∃ g, (arg11.view.loc (c : Thread nD τ) ↦{fullShare} g) ∗ ⌜g = Nat.rec (motive := fun _ => Buf (Elt F) (arg11.view.loc (c : Thread nD τ))) f11 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b11) k⌝) ∗ (∃ g, (arg12.view.loc (c : Thread nD τ) ↦{fullShare} g) ∗ ⌜g = Nat.rec (motive := fun _ => Buf (Elt F) (arg12.view.loc (c : Thread nD τ))) f12 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b12) k⌝) ∗ (∃ g, (arg13.view.loc (c : Thread nD τ) ↦{fullShare} g) ∗ ⌜g = Nat.rec (motive := fun _ => Buf (Elt F) (arg13.view.loc (c : Thread nD τ))) f13 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b13) k⌝) ∗ (∃ g, (arg14.view.loc (c : Thread nD τ) ↦{fullShare} g) ∗ ⌜g = Nat.rec (motive := fun _ => Buf (Elt F) (arg14.view.loc (c : Thread nD τ))) f14 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b14) k⌝) ∗ (∃ g, (arg15.view.loc (c : Thread nD τ) ↦{fullShare} g) ∗ ⌜g = Nat.rec (motive := fun _ => Buf (Elt F) (arg15.view.loc (c : Thread nD τ))) f15 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b15) k⌝) ∗ (∃ g, (arg16.view.loc (c : Thread nD τ) ↦{fullShare} g) ∗ ⌜g = Nat.rec (motive := fun _ => Buf (Elt F) (arg16.view.loc (c : Thread nD τ))) f16 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b16) k⌝) ∗ (∃ g, (arg17.view.loc (c : Thread nD τ) ↦{fullShare} g) ∗ ⌜g = Nat.rec (motive := fun _ => Buf (Elt F) (arg17.view.loc (c : Thread nD τ))) f17 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b17) k⌝) ∗ (∃ g, (arg18.view.loc (c : Thread nD τ) ↦{fullShare} g) ∗ ⌜g = Nat.rec (motive := fun _ => Buf (Elt F) (arg18.view.loc (c : Thread nD τ))) f18 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b18) k⌝) ∗ (∃ g, (arg19.view.loc (c : Thread nD τ) ↦{fullShare} g) ∗ ⌜g = Nat.rec (motive := fun _ => Buf (Elt F) (arg19.view.loc (c : Thread nD τ))) f19 (fun j _ => (iter c arg4 arg5 arg7 arg8 arg9 arg10 arg11 arg12 arg13 arg14 arg15 arg16 arg17 arg18 arg19 f4 f5 f7 ⟨f8, f9, f10, f11, f12, f13, f14, f15, f16, f17, f18, f19⟩ (j + 1)).b19) k⌝))
  step := fun k acc => by
    iintro ⟨H4, H5, H7, ⟨%g8, H8, %h8⟩, ⟨%g9, H9, %h9⟩, ⟨%g10, H10, %h10⟩, ⟨%g11, H11, %h11⟩, ⟨%g12, H12, %h12⟩, ⟨%g13, H13, %h13⟩, ⟨%g14, H14, %h14⟩, ⟨%g15, H15, %h15⟩, ⟨%g16, H16, %h16⟩, ⟨%g17, H17, %h17⟩, ⟨%g18, H18, %h18⟩, ⟨%g19, H19, %h19⟩⟩
    replace h8 := h8.trans (iter_b8 c arg4 arg5 arg7 arg8 arg9 arg10 arg11 arg12 arg13 arg14 arg15 arg16 arg17 arg18 arg19 f4 f5 f7 ⟨f8, f9, f10, f11, f12, f13, f14, f15, f16, f17, f18, f19⟩ k.val).symm; subst h8
    replace h9 := h9.trans (iter_b9 c arg4 arg5 arg7 arg8 arg9 arg10 arg11 arg12 arg13 arg14 arg15 arg16 arg17 arg18 arg19 f4 f5 f7 ⟨f8, f9, f10, f11, f12, f13, f14, f15, f16, f17, f18, f19⟩ k.val).symm; subst h9
    replace h10 := h10.trans (iter_b10 c arg4 arg5 arg7 arg8 arg9 arg10 arg11 arg12 arg13 arg14 arg15 arg16 arg17 arg18 arg19 f4 f5 f7 ⟨f8, f9, f10, f11, f12, f13, f14, f15, f16, f17, f18, f19⟩ k.val).symm; subst h10
    replace h11 := h11.trans (iter_b11 c arg4 arg5 arg7 arg8 arg9 arg10 arg11 arg12 arg13 arg14 arg15 arg16 arg17 arg18 arg19 f4 f5 f7 ⟨f8, f9, f10, f11, f12, f13, f14, f15, f16, f17, f18, f19⟩ k.val).symm; subst h11
    replace h12 := h12.trans (iter_b12 c arg4 arg5 arg7 arg8 arg9 arg10 arg11 arg12 arg13 arg14 arg15 arg16 arg17 arg18 arg19 f4 f5 f7 ⟨f8, f9, f10, f11, f12, f13, f14, f15, f16, f17, f18, f19⟩ k.val).symm; subst h12
    replace h13 := h13.trans (iter_b13 c arg4 arg5 arg7 arg8 arg9 arg10 arg11 arg12 arg13 arg14 arg15 arg16 arg17 arg18 arg19 f4 f5 f7 ⟨f8, f9, f10, f11, f12, f13, f14, f15, f16, f17, f18, f19⟩ k.val).symm; subst h13
    replace h14 := h14.trans (iter_b14 c arg4 arg5 arg7 arg8 arg9 arg10 arg11 arg12 arg13 arg14 arg15 arg16 arg17 arg18 arg19 f4 f5 f7 ⟨f8, f9, f10, f11, f12, f13, f14, f15, f16, f17, f18, f19⟩ k.val).symm; subst h14
    replace h15 := h15.trans (iter_b15 c arg4 arg5 arg7 arg8 arg9 arg10 arg11 arg12 arg13 arg14 arg15 arg16 arg17 arg18 arg19 f4 f5 f7 ⟨f8, f9, f10, f11, f12, f13, f14, f15, f16, f17, f18, f19⟩ k.val).symm; subst h15
    replace h16 := h16.trans (iter_b16 c arg4 arg5 arg7 arg8 arg9 arg10 arg11 arg12 arg13 arg14 arg15 arg16 arg17 arg18 arg19 f4 f5 f7 ⟨f8, f9, f10, f11, f12, f13, f14, f15, f16, f17, f18, f19⟩ k.val).symm; subst h16
    replace h17 := h17.trans (iter_b17 c arg4 arg5 arg7 arg8 arg9 arg10 arg11 arg12 arg13 arg14 arg15 arg16 arg17 arg18 arg19 f4 f5 f7 ⟨f8, f9, f10, f11, f12, f13, f14, f15, f16, f17, f18, f19⟩ k.val).symm; subst h17
    replace h18 := h18.trans (iter_b18 c arg4 arg5 arg7 arg8 arg9 arg10 arg11 arg12 arg13 arg14 arg15 arg16 arg17 arg18 arg19 f4 f5 f7 ⟨f8, f9, f10, f11, f12, f13, f14, f15, f16, f17, f18, f19⟩ k.val).symm; subst h18
    replace h19 := h19.trans (iter_b19 c arg4 arg5 arg7 arg8 arg9 arg10 arg11 arg12 arg13 arg14 arg15 arg16 arg17 arg18 arg19 f4 f5 f7 ⟨f8, f9, f10, f11, f12, f13, f14, f15, f16, f17, f18, f19⟩ k.val).symm; subst h19
    iapply (wp_wand_r _ _)
    isplitl [H4 H5 H7 H8 H9 H10 H11 H12 H13 H14 H15 H16 H17 H18 H19]
    · iapply (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v182 v188 k acc f4 f5 f7 (iter c arg4 arg5 arg7 arg8 arg9 arg10 arg11 arg12 arg13 arg14 arg15 arg16 arg17 arg18 arg19 f4 f5 f7 ⟨f8, f9, f10, f11, f12, f13, f14, f15, f16, f17, f18, f19⟩ k))
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · iintro %_ ⟨H4, H5, H7, H8, H9, H10, H11, H12, H13, H14, H15, H16, H17, H18, H19⟩
      have e : iter c arg4 arg5 arg7 arg8 arg9 arg10 arg11 arg12 arg13 arg14 arg15 arg16 arg17 arg18 arg19 f4 f5 f7 ⟨f8, f9, f10, f11, f12, f13, f14, f15, f16, f17, f18, f19⟩ (k.val + 1) = next c arg4 arg5 arg7 arg8 arg9 arg10 arg11 arg12 arg13 arg14 arg15 arg16 arg17 arg18 arg19 f4 f5 f7 k (iter c arg4 arg5 arg7 arg8 arg9 arg10 arg11 arg12 arg13 arg14 arg15 arg16 arg17 arg18 arg19 f4 f5 f7 ⟨f8, f9, f10, f11, f12, f13, f14, f15, f16, f17, f18, f19⟩ k) := by
        rw [iter, dif_pos k.isLt]
      isplitl [H4]; · iexact H4
      isplitl [H5]; · iexact H5
      isplitl [H7]; · iexact H7
      isplitl [H8]
      · iexists _; isplitl [H8]; · iexact H8
        ipureintro; exact (congrArg (fun Y => Y.b8) e).symm
      isplitl [H9]
      · iexists _; isplitl [H9]; · iexact H9
        ipureintro; exact (congrArg (fun Y => Y.b9) e).symm
      isplitl [H10]
      · iexists _; isplitl [H10]; · iexact H10
        ipureintro; exact (congrArg (fun Y => Y.b10) e).symm
      isplitl [H11]
      · iexists _; isplitl [H11]; · iexact H11
        ipureintro; exact (congrArg (fun Y => Y.b11) e).symm
      isplitl [H12]
      · iexists _; isplitl [H12]; · iexact H12
        ipureintro; exact (congrArg (fun Y => Y.b12) e).symm
      isplitl [H13]
      · iexists _; isplitl [H13]; · iexact H13
        ipureintro; exact (congrArg (fun Y => Y.b13) e).symm
      isplitl [H14]
      · iexists _; isplitl [H14]; · iexact H14
        ipureintro; exact (congrArg (fun Y => Y.b14) e).symm
      isplitl [H15]
      · iexists _; isplitl [H15]; · iexact H15
        ipureintro; exact (congrArg (fun Y => Y.b15) e).symm
      isplitl [H16]
      · iexists _; isplitl [H16]; · iexact H16
        ipureintro; exact (congrArg (fun Y => Y.b16) e).symm
      isplitl [H17]
      · iexists _; isplitl [H17]; · iexact H17
        ipureintro; exact (congrArg (fun Y => Y.b17) e).symm
      isplitl [H18]
      · iexists _; isplitl [H18]; · iexact H18
        ipureintro; exact (congrArg (fun Y => Y.b18) e).symm
      iexists _; isplitl [H19]; · iexact H19
      ipureintro; exact (congrArg (fun Y => Y.b19) e).symm

end Cert.Proof.KernelIdeal
-- ==== Proof.Reads.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Windows
public import proofs.«01_k».proof.Proof.Loop

@[expose] public section

set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! What the loads of the loop read, buffer by buffer. -/

section Blocks

variable {κ : Kind} {sp : Space}

/-- A load of 256 keys. -/
theorem rd_keys (v : View sig κ sp S1x8448x256 .bf16) (f : v.ty.Contents (Elt F)) {off : Fin 3 → ℕ}
    (inb : ∀ a, off a + S1x256x256.size a ≤ S1x8448x256.size a) (o : ℕ) (ho : off = ![0, o, 0]) :
    v.readAt (Elt F) (Rect.unit (s := S1x8448x256) off S1x256x256.size inb).toLoadRect f = keyRows (v.read (Elt F) f) o := by
  subst ho
  funext y
  have h1 : o + 256 ≤ 8448 := inb (1 : Fin 3)
  have hy1 : (y (1 : Fin 3)).val < 256 := (y (1 : Fin 3)).isLt
  have hy0 : (y (0 : Fin 3)).val < 1 := (y (0 : Fin 3)).isLt
  refine congrArg (v.read (Elt F) f) (funext fun a => Fin.ext ?_)
  match a with
  | ⟨0, _⟩ => show 0 + 1 * (y (0 : Fin 3)).val = 0; omega
  | ⟨1, _⟩ => show o + 1 * (y (1 : Fin 3)).val = (o + (y (1 : Fin 3)).val) % 8448; omega
  | ⟨2, _⟩ => show 0 + 1 * (y (2 : Fin 3)).val = (y (2 : Fin 3)).val; omega

/-- A load of 768 columns of values. -/
theorem rd_vals (v : View sig κ sp S1x80x8448 .bf16) (f : v.ty.Contents (Elt F)) {off : Fin 3 → ℕ}
    (inb : ∀ a, off a + S1x80x768.size a ≤ S1x80x8448.size a) (o : ℕ) (ho : off = ![0, 0, o]) :
    v.readAt (Elt F) (Rect.unit (s := S1x80x8448) off S1x80x768.size inb).toLoadRect f = valCols (v.read (Elt F) f) o := by
  subst ho
  funext y
  have h1 : o + 768 ≤ 8448 := inb (2 : Fin 3)
  have hy2 : (y (2 : Fin 3)).val < 768 := (y (2 : Fin 3)).isLt
  have hy0 : (y (0 : Fin 3)).val < 1 := (y (0 : Fin 3)).isLt
  refine congrArg (v.read (Elt F) f) (funext fun a => Fin.ext ?_)
  match a with
  | ⟨0, _⟩ => show 0 + 1 * (y (0 : Fin 3)).val = 0; omega
  | ⟨1, _⟩ => show 0 + 1 * (y (1 : Fin 3)).val = (y (1 : Fin 3)).val; omega
  | ⟨2, _⟩ => show o + 1 * (y (2 : Fin 3)).val = (o + (y (2 : Fin 3)).val) % 8448; omega

/-- The pass's offset into the values. -/
theorem off5_eq : ∀ k : Fin k0_t1_loop.trips, k0_off5 k = ![0, 0, 768 * (k.val - 1)] := by decide +kernel

/-- A load of one group's columns after a store of 64 of its rows. -/
theorem rd_rowsOf (v : View sig κ sp S256x1024 .bf16) (f : v.ty.Contents (Elt F)) {off : Fin 2 → ℕ} {o h : ℕ}
    (inb : ∀ a : Fin 2, (![0, o] : Fin 2 → ℕ) a + S256x256.size a ≤ S256x1024.size a)
    (inb' : ∀ a : Fin 2, off a + S64x256.size a ≤ S256x1024.size a) (ho : off = ![64 * h, o])
    (w : Vec F S64x256 .bf16) (L : List (View.Piece (Elt F) S256x1024 .bf16)) :
    v.readAt (Elt F) (Rect.unit (s := S256x1024) ![0, o] S256x256.size inb).toLoadRect
        (v.writes (Elt F) f (⟨Rect.unit (s := S256x1024) off S64x256.size inb', w⟩ :: L))
      = fun y => if hy : 64 * h ≤ (y 0).val ∧ (y 0).val < 64 * h + 64 then w (ix2 ⟨(y 0).val - 64 * h, by omega⟩ (y 1))
        else v.readAt (Elt F) (Rect.unit (s := S256x1024) ![0, o] S256x256.size inb).toLoadRect (v.writes (Elt F) f L) y := by
  subst ho
  funext y
  split
  · exact View.read_writes_cons_unit_of_mem v f inb' w L _ (ix2 ⟨(y 0).val - 64 * h, by omega⟩ (y 1)) rfl
      (Fin.forall_fin_two.mpr ⟨by show 0 + 1 * (y (0 : Fin 2)).val = 64 * h + ((y (0 : Fin 2)).val - 64 * h); omega,
        by show o + 1 * (y (1 : Fin 2)).val = o + (y (1 : Fin 2)).val; omega⟩)
  · exact View.read_writes_cons_unit_of_not_mem v f inb' w L _ rfl (0 : Fin 2)
      (by show 0 + 1 * (y (0 : Fin 2)).val < 64 * h ∨ 64 * h + 64 ≤ 0 + 1 * (y (0 : Fin 2)).val; omega)

/-- The queries' 64 rows of one group, as loaded. -/
theorem rd_group (v : View sig κ sp S1x256x256 .bf16) (f : v.ty.Contents (Elt F)) (g : ℕ)
    (inb : ∀ a : Fin 3, (![0, 64 * g, 0] : Fin 3 → ℕ) a + S1x64x256.size a ≤ S1x256x256.size a) (a : Fin 64) (b : Fin 256) :
    Gen.k0_pay53 (v.readAt (Elt F) (Rect.unit (s := S1x256x256) ![0, 64 * g, 0] S1x64x256.size inb).toLoadRect f) (ix2 a b)
      = v.read (Elt F) f (ix3 0 ⟨(64 * g + a.val) % 256, Nat.mod_lt _ (by decide)⟩ b) := by
  have h1 : 64 * g + 64 ≤ 256 := inb (1 : Fin 3)
  have e : Gen.k0_pay53 (v.readAt (Elt F) (Rect.unit (s := S1x256x256) ![0, 64 * g, 0] S1x64x256.size inb).toLoadRect f) (ix2 a b)
      = v.readAt (Elt F) (Rect.unit (s := S1x256x256) ![0, 64 * g, 0] S1x64x256.size inb).toLoadRect f (ix3 0 a b) := by
    pointwise [Gen.k0_pay53]
  rw [e]
  refine congrArg (v.read (Elt F) f) (funext fun x => Fin.ext ?_)
  match x with
  | ⟨0, _⟩ => rfl
  | ⟨1, _⟩ => show 64 * g + 1 * a.val = (64 * g + a.val) % 256; omega
  | ⟨2, _⟩ => show 0 + 1 * b.val = b.val; omega

/-- The stores of the queries into the padded buffer, newest first. -/
def padList (i : grid0.Coords) (w0 w1 w2 w3 : Vec F S64x256 .bf16) : List (View.Piece (Elt F) S256x1024 .bf16) :=
  [⟨Rect.unit (s := S256x1024) (k0_off4 i) S64x256.size (Gen.k0_off4_inb i), w3⟩,
   ⟨Rect.unit (s := S256x1024) (k0_off3 i) S64x256.size (Gen.k0_off3_inb i), w2⟩,
   ⟨Rect.unit (s := S256x1024) (k0_off2 i) S64x256.size (Gen.k0_off2_inb i), w1⟩,
   ⟨Rect.unit (s := S256x1024) (k0_off1 i) S64x256.size (Gen.k0_off1_inb i), w0⟩,
   ⟨Rect.unit (s := S256x1024) ![0, 0] S256x1024.size Gen.inb_S256x1024_S256x1024_0_0, fun _ => Scalar.ofBits .bf16 0x0000#16⟩]

/-- The offset of a store may be any expression equal to its value. -/
theorem rd_skipE (v : View sig κ sp S256x1024 .bf16) (f : v.ty.Contents (Elt F)) {off : Fin 2 → ℕ} {r o o' : ℕ} (ho : off = ![r, o'])
    (inb : ∀ a : Fin 2, (![0, o] : Fin 2 → ℕ) a + S256x256.size a ≤ S256x1024.size a)
    (inb' : ∀ a : Fin 2, off a + S64x256.size a ≤ S256x1024.size a)
    (w : Vec F S64x256 .bf16) (L : List (View.Piece (Elt F) S256x1024 .bf16)) (h : o + 256 ≤ o' ∨ o' + 256 ≤ o) :
    v.readAt (Elt F) (Rect.unit (s := S256x1024) ![0, o] S256x256.size inb).toLoadRect
        (v.writes (Elt F) f (⟨Rect.unit (s := S256x1024) off S64x256.size inb', w⟩ :: L))
      = v.readAt (Elt F) (Rect.unit (s := S256x1024) ![0, o] S256x256.size inb).toLoadRect (v.writes (Elt F) f L) := by
  subst ho
  exact rd_skip v f inb inb' w L h

/-- The columns of group 0 after those stores. -/
theorem rd_pad0 (v : View sig κ sp S256x1024 .bf16) (f : v.ty.Contents (Elt F)) (i : grid0.Coords) (w0 w1 w2 w3 : Vec F S64x256 .bf16) :
    v.readAt (Elt F) (Rect.unit (s := S256x1024) ![0, 0] S256x256.size Gen.inb_S256x1024_S256x256_0_0).toLoadRect (v.writes (Elt F) f (padList i w0 w1 w2 w3))
      = fun y => if hy : 64 * (i 1).val ≤ (y 0).val ∧ (y 0).val < 64 * (i 1).val + 64 then w0 (ix2 ⟨(y 0).val - 64 * (i 1).val, by omega⟩ (y 1))
        else Scalar.ofBits .bf16 0x0000#16 := by
  unfold padList
  rw [rd_skipE (r := 64 * (i 1).val) (o := 0) (o' := 768) (ho := Gen.k0_off4_eq i) (h := by decide), rd_skipE (r := 64 * (i 1).val) (o := 0) (o' := 512) (ho := Gen.k0_off3_eq i) (h := by decide), rd_skipE (r := 64 * (i 1).val) (o := 0) (o' := 256) (ho := Gen.k0_off2_eq i) (h := by decide), rd_rowsOf (h := (i 1).val) (ho := Gen.k0_off1_eq i), rd_const]

/-- The columns of group 1 after those stores. -/
theorem rd_pad1 (v : View sig κ sp S256x1024 .bf16) (f : v.ty.Contents (Elt F)) (i : grid0.Coords) (w0 w1 w2 w3 : Vec F S64x256 .bf16) :
    v.readAt (Elt F) (Rect.unit (s := S256x1024) ![0, 256] S256x256.size Gen.inb_S256x1024_S256x256_0_256).toLoadRect (v.writes (Elt F) f (padList i w0 w1 w2 w3))
      = fun y => if hy : 64 * (i 1).val ≤ (y 0).val ∧ (y 0).val < 64 * (i 1).val + 64 then w1 (ix2 ⟨(y 0).val - 64 * (i 1).val, by omega⟩ (y 1))
        else Scalar.ofBits .bf16 0x0000#16 := by
  unfold padList
  rw [rd_skipE (r := 64 * (i 1).val) (o := 256) (o' := 768) (ho := Gen.k0_off4_eq i) (h := by decide), rd_skipE (r := 64 * (i 1).val) (o := 256) (o' := 512) (ho := Gen.k0_off3_eq i) (h := by decide), rd_rowsOf (h := (i 1).val) (ho := Gen.k0_off2_eq i), rd_skipE (r := 64 * (i 1).val) (o := 256) (o' := 0) (ho := Gen.k0_off1_eq i) (h := by decide), rd_const]

/-- The columns of group 2 after those stores. -/
theorem rd_pad2 (v : View sig κ sp S256x1024 .bf16) (f : v.ty.Contents (Elt F)) (i : grid0.Coords) (w0 w1 w2 w3 : Vec F S64x256 .bf16) :
    v.readAt (Elt F) (Rect.unit (s := S256x1024) ![0, 512] S256x256.size Gen.inb_S256x1024_S256x256_0_512).toLoadRect (v.writes (Elt F) f (padList i w0 w1 w2 w3))
      = fun y => if hy : 64 * (i 1).val ≤ (y 0).val ∧ (y 0).val < 64 * (i 1).val + 64 then w2 (ix2 ⟨(y 0).val - 64 * (i 1).val, by omega⟩ (y 1))
        else Scalar.ofBits .bf16 0x0000#16 := by
  unfold padList
  rw [rd_skipE (r := 64 * (i 1).val) (o := 512) (o' := 768) (ho := Gen.k0_off4_eq i) (h := by decide), rd_rowsOf (h := (i 1).val) (ho := Gen.k0_off3_eq i), rd_skipE (r := 64 * (i 1).val) (o := 512) (o' := 256) (ho := Gen.k0_off2_eq i) (h := by decide), rd_skipE (r := 64 * (i 1).val) (o := 512) (o' := 0) (ho := Gen.k0_off1_eq i) (h := by decide), rd_const]

/-- The columns of group 3 after those stores. -/
theorem rd_pad3 (v : View sig κ sp S256x1024 .bf16) (f : v.ty.Contents (Elt F)) (i : grid0.Coords) (w0 w1 w2 w3 : Vec F S64x256 .bf16) :
    v.readAt (Elt F) (Rect.unit (s := S256x1024) ![0, 768] S256x256.size Gen.inb_S256x1024_S256x256_0_768).toLoadRect (v.writes (Elt F) f (padList i w0 w1 w2 w3))
      = fun y => if hy : 64 * (i 1).val ≤ (y 0).val ∧ (y 0).val < 64 * (i 1).val + 64 then w3 (ix2 ⟨(y 0).val - 64 * (i 1).val, by omega⟩ (y 1))
        else Scalar.ofBits .bf16 0x0000#16 := by
  unfold padList
  rw [rd_rowsOf (h := (i 1).val) (ho := Gen.k0_off4_eq i), rd_skipE (r := 64 * (i 1).val) (o := 768) (o' := 512) (ho := Gen.k0_off3_eq i) (h := by decide), rd_skipE (r := 64 * (i 1).val) (o := 768) (o' := 256) (ho := Gen.k0_off2_eq i) (h := by decide), rd_skipE (r := 64 * (i 1).val) (o := 768) (o' := 0) (ho := Gen.k0_off1_eq i) (h := by decide), rd_const]

end Blocks

/-- The buffers, read where the loop loads them, hold the four groups' states. -/
structure Rd (c : Dev nD) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (X : St F c arg8 arg9 arg10 arg11 arg12 arg13 arg14 arg15 arg16 arg17 arg18 arg19) (G0 G1 G2 G3 : GS F) : Prop where
  m0 : arg8.view.readAt (Elt F) (Rect.unit (s := S1x1024) ![0, 0] S1x256.size Gen.inb_S1x1024_S1x256_0_0).toLoadRect X.b8 = G0.m
  m1 : arg8.view.readAt (Elt F) (Rect.unit (s := S1x1024) ![0, 256] S1x256.size Gen.inb_S1x1024_S1x256_0_256).toLoadRect X.b8 = G1.m
  m2 : arg8.view.readAt (Elt F) (Rect.unit (s := S1x1024) ![0, 512] S1x256.size Gen.inb_S1x1024_S1x256_0_512).toLoadRect X.b8 = G2.m
  m3 : arg8.view.readAt (Elt F) (Rect.unit (s := S1x1024) ![0, 768] S1x256.size Gen.inb_S1x1024_S1x256_0_768).toLoadRect X.b8 = G3.m
  a0 : arg9.view.readAt (Elt F) (Rect.unit (s := S1x1024) ![0, 0] S1x256.size Gen.inb_S1x1024_S1x256_0_0).toLoadRect X.b9 = G0.al
  a1 : arg9.view.readAt (Elt F) (Rect.unit (s := S1x1024) ![0, 256] S1x256.size Gen.inb_S1x1024_S1x256_0_256).toLoadRect X.b9 = G1.al
  a2 : arg9.view.readAt (Elt F) (Rect.unit (s := S1x1024) ![0, 512] S1x256.size Gen.inb_S1x1024_S1x256_0_512).toLoadRect X.b9 = G2.al
  a3 : arg9.view.readAt (Elt F) (Rect.unit (s := S1x1024) ![0, 768] S1x256.size Gen.inb_S1x1024_S1x256_0_768).toLoadRect X.b9 = G3.al
  b0 : arg10.view.readAt (Elt F) (Rect.unit (s := S1x1024) ![0, 0] S1x256.size Gen.inb_S1x1024_S1x256_0_0).toLoadRect X.b10 = G0.mb
  b1 : arg10.view.readAt (Elt F) (Rect.unit (s := S1x1024) ![0, 256] S1x256.size Gen.inb_S1x1024_S1x256_0_256).toLoadRect X.b10 = G1.mb
  b2 : arg10.view.readAt (Elt F) (Rect.unit (s := S1x1024) ![0, 512] S1x256.size Gen.inb_S1x1024_S1x256_0_512).toLoadRect X.b10 = G2.mb
  b3 : arg10.view.readAt (Elt F) (Rect.unit (s := S1x1024) ![0, 768] S1x256.size Gen.inb_S1x1024_S1x256_0_768).toLoadRect X.b10 = G3.mb
  c0 : arg11.view.readAt (Elt F) (Rect.unit (s := S80x1024) ![0, 0] S80x256.size Gen.inb_S80x1024_S80x256_0_0).toLoadRect X.b11 = G0.acc
  c1 : arg11.view.readAt (Elt F) (Rect.unit (s := S80x1024) ![0, 256] S80x256.size Gen.inb_S80x1024_S80x256_0_256).toLoadRect X.b11 = G1.acc
  c2 : arg11.view.readAt (Elt F) (Rect.unit (s := S80x1024) ![0, 512] S80x256.size Gen.inb_S80x1024_S80x256_0_512).toLoadRect X.b11 = G2.acc
  c3 : arg11.view.readAt (Elt F) (Rect.unit (s := S80x1024) ![0, 768] S80x256.size Gen.inb_S80x1024_S80x256_0_768).toLoadRect X.b11 = G3.acc
  s0 : arg12.view.readAt (Elt F) (Rect.unit (s := S768x256) ![0, 0] S768x256.size Gen.inb_S768x256_S768x256_0_0).toLoadRect X.b12 = G0.s
  s1 : arg13.view.readAt (Elt F) (Rect.unit (s := S768x256) ![0, 0] S768x256.size Gen.inb_S768x256_S768x256_0_0).toLoadRect X.b13 = G1.s
  s2 : arg14.view.readAt (Elt F) (Rect.unit (s := S768x256) ![0, 0] S768x256.size Gen.inb_S768x256_S768x256_0_0).toLoadRect X.b14 = G2.s
  s3 : arg15.view.readAt (Elt F) (Rect.unit (s := S768x256) ![0, 0] S768x256.size Gen.inb_S768x256_S768x256_0_0).toLoadRect X.b15 = G3.s
  p0 : arg16.view.readAt (Elt F) (Rect.unit (s := S768x256) ![0, 0] S768x256.size Gen.inb_S768x256_S768x256_0_0).toLoadRect X.b16 = G0.p
  p1 : arg17.view.readAt (Elt F) (Rect.unit (s := S768x256) ![0, 0] S768x256.size Gen.inb_S768x256_S768x256_0_0).toLoadRect X.b17 = G1.p
  p2 : arg18.view.readAt (Elt F) (Rect.unit (s := S768x256) ![0, 0] S768x256.size Gen.inb_S768x256_S768x256_0_0).toLoadRect X.b18 = G2.p
  p3 : arg19.view.readAt (Elt F) (Rect.unit (s := S768x256) ![0, 0] S768x256.size Gen.inb_S768x256_S768x256_0_0).toLoadRect X.b19 = G3.p

set_option maxHeartbeats 1000000 in
/-- One pass of the loop takes each group's state to the next. -/
theorem Rd.next (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16)
    (f4 : Buf (Elt F) (arg4.view.loc (c : Thread nD τ))) (f5 : Buf (Elt F) (arg5.view.loc (c : Thread nD τ))) (f7 : Buf (Elt F) (arg7.view.loc (c : Thread nD τ)))
    (q0 q1 q2 q3 : Vec F S256x256 .bf16)
    (hq0 : arg7.view.readAt (Elt F) (Rect.unit (s := S256x1024) ![0, 0] S256x256.size Gen.inb_S256x1024_S256x256_0_0).toLoadRect f7 = q0)
    (hq1 : arg7.view.readAt (Elt F) (Rect.unit (s := S256x1024) ![0, 256] S256x256.size Gen.inb_S256x1024_S256x256_0_256).toLoadRect f7 = q1)
    (hq2 : arg7.view.readAt (Elt F) (Rect.unit (s := S256x1024) ![0, 512] S256x256.size Gen.inb_S256x1024_S256x256_0_512).toLoadRect f7 = q2)
    (hq3 : arg7.view.readAt (Elt F) (Rect.unit (s := S256x1024) ![0, 768] S256x256.size Gen.inb_S256x1024_S256x256_0_768).toLoadRect f7 = q3)
    (k : Fin k0_t1_loop.trips) (X : St F c arg8 arg9 arg10 arg11 arg12 arg13 arg14 arg15 arg16 arg17 arg18 arg19) (G0 G1 G2 G3 : GS F) (hX : Rd c arg8 arg9 arg10 arg11 arg12 arg13 arg14 arg15 arg16 arg17 arg18 arg19 X G0 G1 G2 G3) :
    Rd c arg8 arg9 arg10 arg11 arg12 arg13 arg14 arg15 arg16 arg17 arg18 arg19 (next c arg4 arg5 arg7 arg8 arg9 arg10 arg11 arg12 arg13 arg14 arg15 arg16 arg17 arg18 arg19 f4 f5 f7 k X)
      (gnext (arg4.view.read (Elt F) f4) (arg5.view.read (Elt F) f5) q0 k.val G0) (gnext (arg4.view.read (Elt F) f4) (arg5.view.read (Elt F) f5) q1 k.val G1) (gnext (arg4.view.read (Elt F) f4) (arg5.view.read (Elt F) f5) q2 k.val G2) (gnext (arg4.view.read (Elt F) f4) (arg5.view.read (Elt F) f5) q3 k.val G3) := by
  have hk0 := rd_keys (F := F) arg4.view f4 (off := k0_off6 k 0#32) (Gen.k0_off6_inb k 0) (768 * k.val + 768) (by rw [show 768 * k.val + 768 = 768 * k.val + 256 * (0 : Fin 3).val + 768 by show _ = 768 * k.val + 256 * 0 + 768; omega]; exact Gen.k0_off6_eq k 0)
  have hk1 := rd_keys (F := F) arg4.view f4 (off := k0_off6 k 256#32) (Gen.k0_off6_inb k 1) (768 * k.val + 768 + 256) (by have h := Gen.k0_off6_eq k 1; rw [show 768 * k.val + 768 + 256 = 768 * k.val + 256 * (1 : Fin 3).val + 768 by show _ = 768 * k.val + 256 * 1 + 768; omega]; exact h)
  have hk2 := rd_keys (F := F) arg4.view f4 (off := k0_off6 k 512#32) (Gen.k0_off6_inb k 2) (768 * k.val + 768 + 512) (by have h := Gen.k0_off6_eq k 2; rw [show 768 * k.val + 768 + 512 = 768 * k.val + 256 * (2 : Fin 3).val + 768 by show _ = 768 * k.val + 256 * 2 + 768; omega]; exact h)
  have hv := rd_vals (F := F) arg5.view f5 (Gen.k0_off5_inb k) (768 * (k.val - 1)) (off5_eq k)
  unfold KernelIdeal.next
  constructor
  · rw [rd_skip (r := 0) (r' := 0) (o := 0) (o' := 768) (sz := S1x256.size) (sz' := S1x256.size) (h := by decide), rd_skip (r := 0) (r' := 0) (o := 0) (o' := 512) (sz := S1x256.size) (sz' := S1x256.size) (h := by decide), rd_skip (r := 0) (r' := 0) (o := 0) (o' := 256) (sz := S1x256.size) (sz' := S1x256.size) (h := by decide), rd_hit, hX.m0, hX.b0]; rfl
  · rw [rd_skip (r := 0) (r' := 0) (o := 256) (o' := 768) (sz := S1x256.size) (sz' := S1x256.size) (h := by decide), rd_skip (r := 0) (r' := 0) (o := 256) (o' := 512) (sz := S1x256.size) (sz' := S1x256.size) (h := by decide), rd_hit, hX.m1, hX.b1]; rfl
  · rw [rd_skip (r := 0) (r' := 0) (o := 512) (o' := 768) (sz := S1x256.size) (sz' := S1x256.size) (h := by decide), rd_hit, hX.m2, hX.b2]; rfl
  · rw [rd_hit, hX.m3, hX.b3]; rfl
  · rw [rd_skip (r := 0) (r' := 0) (o := 0) (o' := 768) (sz := S1x256.size) (sz' := S1x256.size) (h := by decide), rd_skip (r := 0) (r' := 0) (o := 0) (o' := 512) (sz := S1x256.size) (sz' := S1x256.size) (h := by decide), rd_skip (r := 0) (r' := 0) (o := 0) (o' := 256) (sz := S1x256.size) (sz' := S1x256.size) (h := by decide), rd_hit, hX.m0, hX.b0]; rfl
  · rw [rd_skip (r := 0) (r' := 0) (o := 256) (o' := 768) (sz := S1x256.size) (sz' := S1x256.size) (h := by decide), rd_skip (r := 0) (r' := 0) (o := 256) (o' := 512) (sz := S1x256.size) (sz' := S1x256.size) (h := by decide), rd_hit, hX.m1, hX.b1]; rfl
  · rw [rd_skip (r := 0) (r' := 0) (o := 512) (o' := 768) (sz := S1x256.size) (sz' := S1x256.size) (h := by decide), rd_hit, hX.m2, hX.b2]; rfl
  · rw [rd_hit, hX.m3, hX.b3]; rfl
  · rw [rd_skip (r := 0) (r' := 0) (o := 0) (o' := 768) (sz := S1x256.size) (sz' := S1x256.size) (h := by decide), rd_skip (r := 0) (r' := 0) (o := 0) (o' := 512) (sz := S1x256.size) (sz' := S1x256.size) (h := by decide), rd_skip (r := 0) (r' := 0) (o := 0) (o' := 256) (sz := S1x256.size) (sz' := S1x256.size) (h := by decide), rd_hit, hq0, hk0, hk1, hk2]; rfl
  · rw [rd_skip (r := 0) (r' := 0) (o := 256) (o' := 768) (sz := S1x256.size) (sz' := S1x256.size) (h := by decide), rd_skip (r := 0) (r' := 0) (o := 256) (o' := 512) (sz := S1x256.size) (sz' := S1x256.size) (h := by decide), rd_hit, hq1, hk0, hk1, hk2]; rfl
  · rw [rd_skip (r := 0) (r' := 0) (o := 512) (o' := 768) (sz := S1x256.size) (sz' := S1x256.size) (h := by decide), rd_hit, hq2, hk0, hk1, hk2]; rfl
  · rw [rd_hit, hq3, hk0, hk1, hk2]; rfl
  · rw [rd_skip (r := 0) (r' := 0) (o := 0) (o' := 768) (sz := S80x256.size) (sz' := S80x256.size) (h := by decide), rd_skip (r := 0) (r' := 0) (o := 0) (o' := 512) (sz := S80x256.size) (sz' := S80x256.size) (h := by decide), rd_skip (r := 0) (r' := 0) (o := 0) (o' := 256) (sz := S80x256.size) (sz' := S80x256.size) (h := by decide), rd_hit, hv, hX.a0, hX.c0, hX.p0]; rfl
  · rw [rd_skip (r := 0) (r' := 0) (o := 256) (o' := 768) (sz := S80x256.size) (sz' := S80x256.size) (h := by decide), rd_skip (r := 0) (r' := 0) (o := 256) (o' := 512) (sz := S80x256.size) (sz' := S80x256.size) (h := by decide), rd_hit, hv, hX.a1, hX.c1, hX.p1]; rfl
  · rw [rd_skip (r := 0) (r' := 0) (o := 512) (o' := 768) (sz := S80x256.size) (sz' := S80x256.size) (h := by decide), rd_hit, hv, hX.a2, hX.c2, hX.p2]; rfl
  · rw [rd_hit, hv, hX.a3, hX.c3, hX.p3]; rfl
  · rw [rd_rows3, hq0, hk0, hk1, hk2]; rfl
  · rw [rd_rows3, hq1, hk0, hk1, hk2]; rfl
  · rw [rd_rows3, hq2, hk0, hk1, hk2]; rfl
  · rw [rd_rows3, hq3, hk0, hk1, hk2]; rfl
  · rw [rd_hit, hX.m0, hX.b0, hX.s0]; rfl
  · rw [rd_hit, hX.m1, hX.b1, hX.s1]; rfl
  · rw [rd_hit, hX.m2, hX.b2, hX.s2]; rfl
  · rw [rd_hit, hX.m3, hX.b3, hX.s3]; rfl

/-- Before any pass the buffers hold the groups' states of that pass. -/
theorem Rd.iter (c : Dev nD) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16)
    (f4 : Buf (Elt F) (arg4.view.loc (c : Thread nD τ))) (f5 : Buf (Elt F) (arg5.view.loc (c : Thread nD τ))) (f7 : Buf (Elt F) (arg7.view.loc (c : Thread nD τ)))
    (q0 q1 q2 q3 : Vec F S256x256 .bf16)
    (hq0 : arg7.view.readAt (Elt F) (Rect.unit (s := S256x1024) ![0, 0] S256x256.size Gen.inb_S256x1024_S256x256_0_0).toLoadRect f7 = q0)
    (hq1 : arg7.view.readAt (Elt F) (Rect.unit (s := S256x1024) ![0, 256] S256x256.size Gen.inb_S256x1024_S256x256_0_256).toLoadRect f7 = q1)
    (hq2 : arg7.view.readAt (Elt F) (Rect.unit (s := S256x1024) ![0, 512] S256x256.size Gen.inb_S256x1024_S256x256_0_512).toLoadRect f7 = q2)
    (hq3 : arg7.view.readAt (Elt F) (Rect.unit (s := S256x1024) ![0, 768] S256x256.size Gen.inb_S256x1024_S256x256_0_768).toLoadRect f7 = q3)
    (X : St F c arg8 arg9 arg10 arg11 arg12 arg13 arg14 arg15 arg16 arg17 arg18 arg19)
    (hX : Rd c arg8 arg9 arg10 arg11 arg12 arg13 arg14 arg15 arg16 arg17 arg18 arg19 X (gs0 (arg4.view.read (Elt F) f4) q0) (gs0 (arg4.view.read (Elt F) f4) q1) (gs0 (arg4.view.read (Elt F) f4) q2) (gs0 (arg4.view.read (Elt F) f4) q3)) :
    ∀ k, k ≤ k0_t1_loop.trips → Rd c arg8 arg9 arg10 arg11 arg12 arg13 arg14 arg15 arg16 arg17 arg18 arg19 (KernelIdeal.iter c arg4 arg5 arg7 arg8 arg9 arg10 arg11 arg12 arg13 arg14 arg15 arg16 arg17 arg18 arg19 f4 f5 f7 X k)
      (gst (arg4.view.read (Elt F) f4) (arg5.view.read (Elt F) f5) q0 k) (gst (arg4.view.read (Elt F) f4) (arg5.view.read (Elt F) f5) q1 k) (gst (arg4.view.read (Elt F) f4) (arg5.view.read (Elt F) f5) q2 k) (gst (arg4.view.read (Elt F) f4) (arg5.view.read (Elt F) f5) q3 k)
  | 0, _ => hX
  | k + 1, hk => by
    rw [show KernelIdeal.iter c arg4 arg5 arg7 arg8 arg9 arg10 arg11 arg12 arg13 arg14 arg15 arg16 arg17 arg18 arg19 f4 f5 f7 X (k + 1) = KernelIdeal.next c arg4 arg5 arg7 arg8 arg9 arg10 arg11 arg12 arg13 arg14 arg15 arg16 arg17 arg18 arg19 f4 f5 f7 ⟨k, hk⟩ (KernelIdeal.iter c arg4 arg5 arg7 arg8 arg9 arg10 arg11 arg12 arg13 arg14 arg15 arg16 arg17 arg18 arg19 f4 f5 f7 X k) from dif_pos hk]
    exact Rd.next c arg4 arg5 arg7 arg8 arg9 arg10 arg11 arg12 arg13 arg14 arg15 arg16 arg17 arg18 arg19 f4 f5 f7 q0 q1 q2 q3 hq0 hq1 hq2 hq3 ⟨k, hk⟩ _ _ _ _ _
      (Rd.iter c arg4 arg5 arg7 arg8 arg9 arg10 arg11 arg12 arg13 arg14 arg15 arg16 arg17 arg18 arg19 f4 f5 f7 q0 q1 q2 q3 hq0 hq1 hq2 hq3 X hX k (Nat.le_of_succ_le hk))

end Cert.Proof.KernelIdeal
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Reads

@[expose] public section

set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
set_option maxRecDepth 65536 in
/-- The body's run: what it leaves in the block of the result, and that it leaves it. -/
def bodyRun (c : Dev nD) (i : grid0.Coords) (arg3 : Memref sig .tc .vmem S1x256x256 .bf16) (harg3 : arg3.IsWhole) (arg4 : Memref sig .tc .vmem S1x8448x256 .bf16) (harg4 : arg4.IsWhole) (arg5 : Memref sig .tc .vmem S1x80x8448 .bf16) (harg5 : arg5.IsWhole) (arg6 : Memref sig .tc .vmem S1x256x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S80x1024 .f32) (harg11 : arg11.IsWhole) (arg12 : Memref sig .tc .vmem S768x256 .f32) (harg12 : arg12.IsWhole) (arg13 : Memref sig .tc .vmem S768x256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768x256 .bf16) (harg16 : arg16.IsWhole) (arg17 : Memref sig .tc .vmem S768x256 .bf16) (harg17 : arg17.IsWhole) (arg18 : Memref sig .tc .vmem S768x256 .bf16) (harg18 : arg18.IsWhole) (arg19 : Memref sig .tc .vmem S768x256 .bf16) (harg19 : arg19.IsWhole) (f3 : Buf (Elt F) (arg3.view.loc (c : Thread nD τ))) (f4 : Buf (Elt F) (arg4.view.loc (c : Thread nD τ))) (f5 : Buf (Elt F) (arg5.view.loc (c : Thread nD τ))) (f7 : Buf (Elt F) (arg7.view.loc (c : Thread nD τ))) :
    {Y : Vec F S1x256x256 .bf16 // ∀ (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))),
      (iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) ∗ (arg13.view.loc (c : Thread nD τ) ↦{fullShare} f13) ∗ (arg14.view.loc (c : Thread nD τ) ↦{fullShare} f14) ∗ (arg15.view.loc (c : Thread nD τ) ↦{fullShare} f15) ∗ (arg16.view.loc (c : Thread nD τ) ↦{fullShare} f16) ∗ (arg17.view.loc (c : Thread nD τ) ↦{fullShare} f17) ∗ (arg18.view.loc (c : Thread nD τ) ↦{fullShare} f18) ∗ (arg19.view.loc (c : Thread nD τ) ↦{fullShare} f19)) : sProp 𝕄) ⊢ wp Idealize.ShloMosaic.frame (wpE (defs₀ (F := F)) Variants.none (c : Thread nD τ) none) Set.univ
        (cc0_attn_kv8448 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} (arg6.view.writes (Elt F) f6 [⟨Rect.unit (s := S1x256x256) ![0, 0, 0] S1x256x256.size Gen.inb_S1x256x256_S1x256x256_0_0_0, Y⟩])) ∗ (∃ g, arg7.view.loc (c : Thread nD τ) ↦{fullShare} g) ∗ (∃ g, arg8.view.loc (c : Thread nD τ) ↦{fullShare} g) ∗ (∃ g, arg9.view.loc (c : Thread nD τ) ↦{fullShare} g) ∗ (∃ g, arg10.view.loc (c : Thread nD τ) ↦{fullShare} g) ∗ (∃ g, arg11.view.loc (c : Thread nD τ) ↦{fullShare} g) ∗ (∃ g, arg12.view.loc (c : Thread nD τ) ↦{fullShare} g) ∗ (∃ g, arg13.view.loc (c : Thread nD τ) ↦{fullShare} g) ∗ (∃ g, arg14.view.loc (c : Thread nD τ) ↦{fullShare} g) ∗ (∃ g, arg15.view.loc (c : Thread nD τ) ↦{fullShare} g) ∗ (∃ g, arg16.view.loc (c : Thread nD τ) ↦{fullShare} g) ∗ (∃ g, arg17.view.loc (c : Thread nD τ) ↦{fullShare} g) ∗ (∃ g, arg18.view.loc (c : Thread nD τ) ↦{fullShare} g) ∗ (∃ g, arg19.view.loc (c : Thread nD τ) ↦{fullShare} g)))} := by
  refine ⟨?_, fun f6 f8 f9 f10 f11 f12 f13 f14 f15 f16 f17 f18 f19 => ?_⟩
  rotate_left
  · rw [Gen.cc0_attn_kv8448_eq_skeleton]; unfold Gen.cc0_attn_kv8448_skel
    iintro ⟨H3, H4, H5, H6, H7, H8, H9, H10, H11, H12, H13, H14, H15, H16, H17, H18, H19⟩
    sl_exec
    sl_step
    isplitl [H3]; · iexact H3
    isplitl [H4]; · iexact H4
    isplitl [H5]; · iexact H5
    isplitl [H6]; · iexact H6
    sl_close

end Cert.Proof.KernelIdeal
-- ==== Proof.BodyVal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Windows
public import proofs.«01_k».proof.Proof.Body

@[expose] public section

set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! What the body leaves in the block of the result, as a function of the three blocks it reads. -/

/-- The padded queries of group 0, whatever the buffer held before. -/
theorem pad0 (c : Dev nD) (i : grid0.Coords) (arg3 : Memref sig .tc .vmem S1x256x256 .bf16) (arg7 : Memref sig .tc .vmem S256x1024 .bf16)
    (f3 : Buf (Elt F) (arg3.view.loc (c : Thread nD τ))) (f : arg7.view.ty.Contents (Elt F)) :
    arg7.view.readAt (Elt F) (Rect.unit (s := S256x1024) ![0, 0] S256x256.size Gen.inb_S256x1024_S256x256_0_0).toLoadRect (arg7.view.writes (Elt F) f (bodyRun.sl.H7_5 c i arg3 f3)) = (queryCols (i 1).val 0 (arg3.view.read (Elt F) f3)) := by
  refine (rd_pad0 arg7.view f i _ _ _ _).trans ?_
  funext y
  unfold queryCols
  by_cases h : 64 * (i 1).val ≤ (y 0).val ∧ (y 0).val < 64 * (i 1).val + 64
  · rw [dif_pos h, if_pos h]
    exact rd_group arg3.view f3 0 _ _ _
  · rw [dif_neg h, if_neg h]

/-- The padded queries of group 1, whatever the buffer held before. -/
theorem pad1 (c : Dev nD) (i : grid0.Coords) (arg3 : Memref sig .tc .vmem S1x256x256 .bf16) (arg7 : Memref sig .tc .vmem S256x1024 .bf16)
    (f3 : Buf (Elt F) (arg3.view.loc (c : Thread nD τ))) (f : arg7.view.ty.Contents (Elt F)) :
    arg7.view.readAt (Elt F) (Rect.unit (s := S256x1024) ![0, 256] S256x256.size Gen.inb_S256x1024_S256x256_0_256).toLoadRect (arg7.view.writes (Elt F) f (bodyRun.sl.H7_5 c i arg3 f3)) = (queryCols (i 1).val 1 (arg3.view.read (Elt F) f3)) := by
  refine (rd_pad1 arg7.view f i _ _ _ _).trans ?_
  funext y
  unfold queryCols
  by_cases h : 64 * (i 1).val ≤ (y 0).val ∧ (y 0).val < 64 * (i 1).val + 64
  · rw [dif_pos h, if_pos h]
    exact rd_group arg3.view f3 1 _ _ _
  · rw [dif_neg h, if_neg h]

/-- The padded queries of group 2, whatever the buffer held before. -/
theorem pad2 (c : Dev nD) (i : grid0.Coords) (arg3 : Memref sig .tc .vmem S1x256x256 .bf16) (arg7 : Memref sig .tc .vmem S256x1024 .bf16)
    (f3 : Buf (Elt F) (arg3.view.loc (c : Thread nD τ))) (f : arg7.view.ty.Contents (Elt F)) :
    arg7.view.readAt (Elt F) (Rect.unit (s := S256x1024) ![0, 512] S256x256.size Gen.inb_S256x1024_S256x256_0_512).toLoadRect (arg7.view.writes (Elt F) f (bodyRun.sl.H7_5 c i arg3 f3)) = (queryCols (i 1).val 2 (arg3.view.read (Elt F) f3)) := by
  refine (rd_pad2 arg7.view f i _ _ _ _).trans ?_
  funext y
  unfold queryCols
  by_cases h : 64 * (i 1).val ≤ (y 0).val ∧ (y 0).val < 64 * (i 1).val + 64
  · rw [dif_pos h, if_pos h]
    exact rd_group arg3.view f3 2 _ _ _
  · rw [dif_neg h, if_neg h]

/-- The padded queries of group 3, whatever the buffer held before. -/
theorem pad3 (c : Dev nD) (i : grid0.Coords) (arg3 : Memref sig .tc .vmem S1x256x256 .bf16) (arg7 : Memref sig .tc .vmem S256x1024 .bf16)
    (f3 : Buf (Elt F) (arg3.view.loc (c : Thread nD τ))) (f : arg7.view.ty.Contents (Elt F)) :
    arg7.view.readAt (Elt F) (Rect.unit (s := S256x1024) ![0, 768] S256x256.size Gen.inb_S256x1024_S256x256_0_768).toLoadRect (arg7.view.writes (Elt F) f (bodyRun.sl.H7_5 c i arg3 f3)) = (queryCols (i 1).val 3 (arg3.view.read (Elt F) f3)) := by
  refine (rd_pad3 arg7.view f i _ _ _ _).trans ?_
  funext y
  unfold queryCols
  by_cases h : 64 * (i 1).val ≤ (y 0).val ∧ (y 0).val < 64 * (i 1).val + 64
  · rw [dif_pos h, if_pos h]
    exact rd_group arg3.view f3 3 _ _ _
  · rw [dif_neg h, if_neg h]

theorem e8 : bodyRun.sl.H8_1 (F := F) = [⟨Rect.unit (s := S1x1024) ![0, 0] S1x1024.size Gen.inb_S1x1024_S1x1024_0_0, fun _ => Scalar.ofBits .f32 0xF149F2CA#32⟩] := rfl
theorem e9 : bodyRun.sl.H9_1 (F := F) = [⟨Rect.unit (s := S1x1024) ![0, 0] S1x1024.size Gen.inb_S1x1024_S1x1024_0_0, fun _ => Scalar.ofBits .f32 0x3F800000#32⟩] := rfl
theorem e11 : bodyRun.sl.H11_1 (F := F) = [⟨Rect.unit (s := S80x1024) ![0, 0] S80x1024.size Gen.inb_S80x1024_S80x1024_0_0, fun _ => Scalar.ofBits .f32 0x00000000#32⟩] := rfl
theorem e16 : bodyRun.sl.H16_1 (F := F) = [⟨Rect.unit (s := S768x256) ![0, 0] S768x256.size Gen.inb_S768x256_S768x256_0_0, fun _ => Scalar.ofBits .bf16 0x0000#16⟩] := rfl
theorem e17 : bodyRun.sl.H17_1 (F := F) = [⟨Rect.unit (s := S768x256) ![0, 0] S768x256.size Gen.inb_S768x256_S768x256_0_0, fun _ => Scalar.ofBits .bf16 0x0000#16⟩] := rfl
theorem e18 : bodyRun.sl.H18_1 (F := F) = [⟨Rect.unit (s := S768x256) ![0, 0] S768x256.size Gen.inb_S768x256_S768x256_0_0, fun _ => Scalar.ofBits .bf16 0x0000#16⟩] := rfl
theorem e19 : bodyRun.sl.H19_1 (F := F) = [⟨Rect.unit (s := S768x256) ![0, 0] S768x256.size Gen.inb_S768x256_S768x256_0_0, fun _ => Scalar.ofBits .bf16 0x0000#16⟩] := rfl
set_option maxHeartbeats 2000000 in
set_option maxRecDepth 16384 in
/-- Before the loop the buffers hold the groups' first states. -/
theorem entry (c : Dev nD) (i : grid0.Coords) (arg3 : Memref sig .tc .vmem S1x256x256 .bf16) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f3 : Buf (Elt F) (arg3.view.loc (c : Thread nD τ))) (f4 : Buf (Elt F) (arg4.view.loc (c : Thread nD τ))) (f5 : Buf (Elt F) (arg5.view.loc (c : Thread nD τ))) (f7 : Buf (Elt F) (arg7.view.loc (c : Thread nD τ))) :
    Rd c arg8 arg9 arg10 arg11 arg12 arg13 arg14 arg15 arg16 arg17 arg18 arg19 { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } (gs0 (arg4.view.read (Elt F) f4) (queryCols (i 1).val 0 (arg3.view.read (Elt F) f3))) (gs0 (arg4.view.read (Elt F) f4) (queryCols (i 1).val 1 (arg3.view.read (Elt F) f3))) (gs0 (arg4.view.read (Elt F) f4) (queryCols (i 1).val 2 (arg3.view.read (Elt F) f3))) (gs0 (arg4.view.read (Elt F) f4) (queryCols (i 1).val 3 (arg3.view.read (Elt F) f3))) := by
  have hk0 := rd_keys (F := F) arg4.view f4 (off := ![0, 0, 0]) Gen.inb_S1x8448x256_S1x256x256_0_0_0 0 rfl
  have hk1 := rd_keys (F := F) arg4.view f4 (off := ![0, 256, 0]) Gen.inb_S1x8448x256_S1x256x256_0_256_0 256 rfl
  have hk2 := rd_keys (F := F) arg4.view f4 (off := ![0, 512, 0]) Gen.inb_S1x8448x256_S1x256x256_0_512_0 512 rfl
  have hq0 : bodyRun.sl.v62 c i arg3 arg7 f3 = (queryCols (i 1).val 0 (arg3.view.read (Elt F) f3)) := pad0 c i arg3 arg7 f3 arg7.view.junk
  have hq1 : bodyRun.sl.v100 c i arg3 arg7 f3 = (queryCols (i 1).val 1 (arg3.view.read (Elt F) f3)) := pad1 c i arg3 arg7 f3 arg7.view.junk
  have hq2 : bodyRun.sl.v138 c i arg3 arg7 f3 = (queryCols (i 1).val 2 (arg3.view.read (Elt F) f3)) := pad2 c i arg3 arg7 f3 arg7.view.junk
  have hq3 : bodyRun.sl.v176 c i arg3 arg7 f3 = (queryCols (i 1).val 3 (arg3.view.read (Elt F) f3)) := pad3 c i arg3 arg7 f3 arg7.view.junk
  constructor
  · dsimp only [gs0]
    rw [e8, rd_const]; try rfl
  · dsimp only [gs0]
    rw [e8, rd_const]; try rfl
  · dsimp only [gs0]
    rw [e8, rd_const]; try rfl
  · dsimp only [gs0]
    rw [e8, rd_const]; try rfl
  · dsimp only [gs0]
    rw [e9, rd_const]; try rfl
  · dsimp only [gs0]
    rw [e9, rd_const]; try rfl
  · dsimp only [gs0]
    rw [e9, rd_const]; try rfl
  · dsimp only [gs0]
    rw [e9, rd_const]; try rfl
  · dsimp only [gs0]
    show arg10.view.readAt (Elt F) (Rect.unit (s := S1x1024) ![0, 0] S1x256.size Gen.inb_S1x1024_S1x256_0_0).toLoadRect (arg10.view.writes (Elt F) arg10.view.junk [⟨(Rect.unit (s := S1x1024) ![0, 768] S1x256.size Gen.inb_S1x1024_S1x256_0_768), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v176 c i arg3 arg7 f3)⟩, ⟨(Rect.unit (s := S1x1024) ![0, 512] S1x256.size Gen.inb_S1x1024_S1x256_0_512), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v138 c i arg3 arg7 f3)⟩, ⟨(Rect.unit (s := S1x1024) ![0, 256] S1x256.size Gen.inb_S1x1024_S1x256_0_256), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v100 c i arg3 arg7 f3)⟩, ⟨(Rect.unit (s := S1x1024) ![0, 0] S1x256.size Gen.inb_S1x1024_S1x256_0_0), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v62 c i arg3 arg7 f3)⟩]) = _
    rw [rd_skip (r := 0) (r' := 0) (o := 0) (o' := 768) (sz := S1x256.size) (sz' := S1x256.size) (h := by decide), rd_skip (r := 0) (r' := 0) (o := 0) (o' := 512) (sz := S1x256.size) (sz' := S1x256.size) (h := by decide), rd_skip (r := 0) (r' := 0) (o := 0) (o' := 256) (sz := S1x256.size) (sz' := S1x256.size) (h := by decide), rd_hit, hq0, hk0, hk1, hk2]; rfl
  · dsimp only [gs0]
    show arg10.view.readAt (Elt F) (Rect.unit (s := S1x1024) ![0, 256] S1x256.size Gen.inb_S1x1024_S1x256_0_256).toLoadRect (arg10.view.writes (Elt F) arg10.view.junk [⟨(Rect.unit (s := S1x1024) ![0, 768] S1x256.size Gen.inb_S1x1024_S1x256_0_768), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v176 c i arg3 arg7 f3)⟩, ⟨(Rect.unit (s := S1x1024) ![0, 512] S1x256.size Gen.inb_S1x1024_S1x256_0_512), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v138 c i arg3 arg7 f3)⟩, ⟨(Rect.unit (s := S1x1024) ![0, 256] S1x256.size Gen.inb_S1x1024_S1x256_0_256), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v100 c i arg3 arg7 f3)⟩, ⟨(Rect.unit (s := S1x1024) ![0, 0] S1x256.size Gen.inb_S1x1024_S1x256_0_0), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v62 c i arg3 arg7 f3)⟩]) = _
    rw [rd_skip (r := 0) (r' := 0) (o := 256) (o' := 768) (sz := S1x256.size) (sz' := S1x256.size) (h := by decide), rd_skip (r := 0) (r' := 0) (o := 256) (o' := 512) (sz := S1x256.size) (sz' := S1x256.size) (h := by decide), rd_hit, hq1, hk0, hk1, hk2]; rfl
  · dsimp only [gs0]
    show arg10.view.readAt (Elt F) (Rect.unit (s := S1x1024) ![0, 512] S1x256.size Gen.inb_S1x1024_S1x256_0_512).toLoadRect (arg10.view.writes (Elt F) arg10.view.junk [⟨(Rect.unit (s := S1x1024) ![0, 768] S1x256.size Gen.inb_S1x1024_S1x256_0_768), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v176 c i arg3 arg7 f3)⟩, ⟨(Rect.unit (s := S1x1024) ![0, 512] S1x256.size Gen.inb_S1x1024_S1x256_0_512), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v138 c i arg3 arg7 f3)⟩, ⟨(Rect.unit (s := S1x1024) ![0, 256] S1x256.size Gen.inb_S1x1024_S1x256_0_256), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v100 c i arg3 arg7 f3)⟩, ⟨(Rect.unit (s := S1x1024) ![0, 0] S1x256.size Gen.inb_S1x1024_S1x256_0_0), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v62 c i arg3 arg7 f3)⟩]) = _
    rw [rd_skip (r := 0) (r' := 0) (o := 512) (o' := 768) (sz := S1x256.size) (sz' := S1x256.size) (h := by decide), rd_hit, hq2, hk0, hk1, hk2]; rfl
  · dsimp only [gs0]
    show arg10.view.readAt (Elt F) (Rect.unit (s := S1x1024) ![0, 768] S1x256.size Gen.inb_S1x1024_S1x256_0_768).toLoadRect (arg10.view.writes (Elt F) arg10.view.junk [⟨(Rect.unit (s := S1x1024) ![0, 768] S1x256.size Gen.inb_S1x1024_S1x256_0_768), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v176 c i arg3 arg7 f3)⟩, ⟨(Rect.unit (s := S1x1024) ![0, 512] S1x256.size Gen.inb_S1x1024_S1x256_0_512), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v138 c i arg3 arg7 f3)⟩, ⟨(Rect.unit (s := S1x1024) ![0, 256] S1x256.size Gen.inb_S1x1024_S1x256_0_256), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v100 c i arg3 arg7 f3)⟩, ⟨(Rect.unit (s := S1x1024) ![0, 0] S1x256.size Gen.inb_S1x1024_S1x256_0_0), blockMax (arg4.view.readAt (Elt F) (Rect.unit (s := S1x8448x256) ![0, 0, 0] S1x256x256.size Gen.inb_S1x8448x256_S1x256x256_0_0_0).toLoadRect f4) (arg4.view.readAt (Elt F) (Rect.unit (s := S1x8448x256) ![0, 256, 0] S1x256x256.size Gen.inb_S1x8448x256_S1x256x256_0_256_0).toLoadRect f4) (arg4.view.readAt (Elt F) (Rect.unit (s := S1x8448x256) ![0, 512, 0] S1x256x256.size Gen.inb_S1x8448x256_S1x256x256_0_512_0).toLoadRect f4) (bodyRun.sl.v62 c i arg3 arg7 f3)⟩]) = _
    rw [rd_hit, hq3, hk0, hk1, hk2]; rfl
  · dsimp only [gs0]
    rw [e11, rd_const]; try rfl
  · dsimp only [gs0]
    rw [e11, rd_const]; try rfl
  · dsimp only [gs0]
    rw [e11, rd_const]; try rfl
  · dsimp only [gs0]
    rw [e11, rd_const]; try rfl
  · dsimp only [gs0]
    show arg12.view.readAt (Elt F) (Rect.unit (s := S768x256) ![0, 0] S768x256.size Gen.inb_S768x256_S768x256_0_0).toLoadRect (arg12.view.writes (Elt F) arg12.view.junk [⟨Rect.unit (s := S768x256) ![512, 0] S256x256.size Gen.inb_S768x256_S256x256_512_0, scoreRows (arg4.view.readAt (Elt F) (Rect.unit (s := S1x8448x256) ![0, 512, 0] S1x256x256.size Gen.inb_S1x8448x256_S1x256x256_0_512_0).toLoadRect f4) (bodyRun.sl.v62 c i arg3 arg7 f3)⟩, ⟨Rect.unit (s := S768x256) ![256, 0] S256x256.size Gen.inb_S768x256_S256x256_256_0, scoreRows (arg4.view.readAt (Elt F) (Rect.unit (s := S1x8448x256) ![0, 256, 0] S1x256x256.size Gen.inb_S1x8448x256_S1x256x256_0_256_0).toLoadRect f4) (bodyRun.sl.v62 c i arg3 arg7 f3)⟩, ⟨Rect.unit (s := S768x256) ![0, 0] S256x256.size Gen.inb_S768x256_S256x256_0_0, scoreRows (arg4.view.readAt (Elt F) (Rect.unit (s := S1x8448x256) ![0, 0, 0] S1x256x256.size Gen.inb_S1x8448x256_S1x256x256_0_0_0).toLoadRect f4) (bodyRun.sl.v62 c i arg3 arg7 f3)⟩]) = _
    rw [rd_rows3, hq0, hk0, hk1, hk2]; rfl
  · dsimp only [gs0]
    show arg13.view.readAt (Elt F) (Rect.unit (s := S768x256) ![0, 0] S768x256.size Gen.inb_S768x256_S768x256_0_0).toLoadRect (arg13.view.writes (Elt F) arg13.view.junk [⟨Rect.unit (s := S768x256) ![512, 0] S256x256.size Gen.inb_S768x256_S256x256_512_0, scoreRows (arg4.view.readAt (Elt F) (Rect.unit (s := S1x8448x256) ![0, 512, 0] S1x256x256.size Gen.inb_S1x8448x256_S1x256x256_0_512_0).toLoadRect f4) (bodyRun.sl.v100 c i arg3 arg7 f3)⟩, ⟨Rect.unit (s := S768x256) ![256, 0] S256x256.size Gen.inb_S768x256_S256x256_256_0, scoreRows (arg4.view.readAt (Elt F) (Rect.unit (s := S1x8448x256) ![0, 256, 0] S1x256x256.size Gen.inb_S1x8448x256_S1x256x256_0_256_0).toLoadRect f4) (bodyRun.sl.v100 c i arg3 arg7 f3)⟩, ⟨Rect.unit (s := S768x256) ![0, 0] S256x256.size Gen.inb_S768x256_S256x256_0_0, scoreRows (arg4.view.readAt (Elt F) (Rect.unit (s := S1x8448x256) ![0, 0, 0] S1x256x256.size Gen.inb_S1x8448x256_S1x256x256_0_0_0).toLoadRect f4) (bodyRun.sl.v100 c i arg3 arg7 f3)⟩]) = _
    rw [rd_rows3, hq1, hk0, hk1, hk2]; rfl
  · dsimp only [gs0]
    show arg14.view.readAt (Elt F) (Rect.unit (s := S768x256) ![0, 0] S768x256.size Gen.inb_S768x256_S768x256_0_0).toLoadRect (arg14.view.writes (Elt F) arg14.view.junk [⟨Rect.unit (s := S768x256) ![512, 0] S256x256.size Gen.inb_S768x256_S256x256_512_0, scoreRows (arg4.view.readAt (Elt F) (Rect.unit (s := S1x8448x256) ![0, 512, 0] S1x256x256.size Gen.inb_S1x8448x256_S1x256x256_0_512_0).toLoadRect f4) (bodyRun.sl.v138 c i arg3 arg7 f3)⟩, ⟨Rect.unit (s := S768x256) ![256, 0] S256x256.size Gen.inb_S768x256_S256x256_256_0, scoreRows (arg4.view.readAt (Elt F) (Rect.unit (s := S1x8448x256) ![0, 256, 0] S1x256x256.size Gen.inb_S1x8448x256_S1x256x256_0_256_0).toLoadRect f4) (bodyRun.sl.v138 c i arg3 arg7 f3)⟩, ⟨Rect.unit (s := S768x256) ![0, 0] S256x256.size Gen.inb_S768x256_S256x256_0_0, scoreRows (arg4.view.readAt (Elt F) (Rect.unit (s := S1x8448x256) ![0, 0, 0] S1x256x256.size Gen.inb_S1x8448x256_S1x256x256_0_0_0).toLoadRect f4) (bodyRun.sl.v138 c i arg3 arg7 f3)⟩]) = _
    rw [rd_rows3, hq2, hk0, hk1, hk2]; rfl
  · dsimp only [gs0]
    show arg15.view.readAt (Elt F) (Rect.unit (s := S768x256) ![0, 0] S768x256.size Gen.inb_S768x256_S768x256_0_0).toLoadRect (arg15.view.writes (Elt F) arg15.view.junk [⟨Rect.unit (s := S768x256) ![512, 0] S256x256.size Gen.inb_S768x256_S256x256_512_0, scoreRows (arg4.view.readAt (Elt F) (Rect.unit (s := S1x8448x256) ![0, 512, 0] S1x256x256.size Gen.inb_S1x8448x256_S1x256x256_0_512_0).toLoadRect f4) (bodyRun.sl.v176 c i arg3 arg7 f3)⟩, ⟨Rect.unit (s := S768x256) ![256, 0] S256x256.size Gen.inb_S768x256_S256x256_256_0, scoreRows (arg4.view.readAt (Elt F) (Rect.unit (s := S1x8448x256) ![0, 256, 0] S1x256x256.size Gen.inb_S1x8448x256_S1x256x256_0_256_0).toLoadRect f4) (bodyRun.sl.v176 c i arg3 arg7 f3)⟩, ⟨Rect.unit (s := S768x256) ![0, 0] S256x256.size Gen.inb_S768x256_S256x256_0_0, scoreRows (arg4.view.readAt (Elt F) (Rect.unit (s := S1x8448x256) ![0, 0, 0] S1x256x256.size Gen.inb_S1x8448x256_S1x256x256_0_0_0).toLoadRect f4) (bodyRun.sl.v176 c i arg3 arg7 f3)⟩]) = _
    rw [rd_rows3, hq3, hk0, hk1, hk2]; rfl
  · dsimp only [gs0]
    rw [e16, rd_const]; try rfl
  · dsimp only [gs0]
    rw [e17, rd_const]; try rfl
  · dsimp only [gs0]
    rw [e18, rd_const]; try rfl
  · dsimp only [gs0]
    rw [e19, rd_const]; try rfl

theorem trips_eq : k0_t1_loop.trips = 10 := by decide

/-- After the loop they hold the states after ten passes. -/
theorem exit (c : Dev nD) (i : grid0.Coords) (arg3 : Memref sig .tc .vmem S1x256x256 .bf16) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f3 : Buf (Elt F) (arg3.view.loc (c : Thread nD τ))) (f4 : Buf (Elt F) (arg4.view.loc (c : Thread nD τ))) (f5 : Buf (Elt F) (arg5.view.loc (c : Thread nD τ))) (f7 : Buf (Elt F) (arg7.view.loc (c : Thread nD τ))) :
    Rd c arg8 arg9 arg10 arg11 arg12 arg13 arg14 arg15 arg16 arg17 arg18 arg19 (iter c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips) (gst (arg4.view.read (Elt F) f4) (arg5.view.read (Elt F) f5) (queryCols (i 1).val 0 (arg3.view.read (Elt F) f3)) 10) (gst (arg4.view.read (Elt F) f4) (arg5.view.read (Elt F) f5) (queryCols (i 1).val 1 (arg3.view.read (Elt F) f3)) 10) (gst (arg4.view.read (Elt F) f4) (arg5.view.read (Elt F) f5) (queryCols (i 1).val 2 (arg3.view.read (Elt F) f3)) 10) (gst (arg4.view.read (Elt F) f4) (arg5.view.read (Elt F) f5) (queryCols (i 1).val 3 (arg3.view.read (Elt F) f3)) 10) := by
  have h := Rd.iter c arg4 arg5 arg7 arg8 arg9 arg10 arg11 arg12 arg13 arg14 arg15 arg16 arg17 arg18 arg19 f4 f5 (arg7.view.writes (Elt F) f7 (bodyRun.sl.H7_5 c i arg3 f3)) _ _ _ _ (pad0 c i arg3 arg7 f3 f7) (pad1 c i arg3 arg7 f3 f7) (pad2 c i arg3 arg7 f3 f7)
    (pad3 c i arg3 arg7 f3 f7) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } (entry c i arg3 arg4 arg5 arg7 arg8 arg9 arg10 arg11 arg12 arg13 arg14 arg15 arg16 arg17 arg18 arg19 f3 f4 f5 f7) k0_t1_loop.trips le_rfl
  rw [show ∀ q, gst (arg4.view.read (Elt F) f4) (arg5.view.read (Elt F) f5) q k0_t1_loop.trips = gst (arg4.view.read (Elt F) f4) (arg5.view.read (Elt F) f5) q 10 from fun q => by rw [trips_eq]] at h
  rw [show ∀ q, gst (arg4.view.read (Elt F) f4) (arg5.view.read (Elt F) f5) q k0_t1_loop.trips = gst (arg4.view.read (Elt F) f4) (arg5.view.read (Elt F) f5) q 10 from fun q => by rw [trips_eq]] at h
  rw [show ∀ q, gst (arg4.view.read (Elt F) f4) (arg5.view.read (Elt F) f5) q k0_t1_loop.trips = gst (arg4.view.read (Elt F) f4) (arg5.view.read (Elt F) f5) q 10 from fun q => by rw [trips_eq]] at h
  rw [show ∀ q, gst (arg4.view.read (Elt F) f4) (arg5.view.read (Elt F) f5) q k0_t1_loop.trips = gst (arg4.view.read (Elt F) f4) (arg5.view.read (Elt F) f5) q 10 from fun q => by rw [trips_eq]] at h
  exact h

set_option maxHeartbeats 4000000 in
set_option maxRecDepth 16384 in
/-- The accumulators that the body divides in the end. -/
theorem accs (c : Dev nD) (i : grid0.Coords) (arg3 : Memref sig .tc .vmem S1x256x256 .bf16) (arg4 : Memref sig .tc .vmem S1x8448x256 .bf16) (arg5 : Memref sig .tc .vmem S1x80x8448 .bf16) (arg7 : Memref sig .tc .vmem S256x1024 .bf16) (arg8 : Memref sig .tc .vmem S1x1024 .f32) (arg9 : Memref sig .tc .vmem S1x1024 .f32) (arg10 : Memref sig .tc .vmem S1x1024 .f32) (arg11 : Memref sig .tc .vmem S80x1024 .f32) (arg12 : Memref sig .tc .vmem S768x256 .f32) (arg13 : Memref sig .tc .vmem S768x256 .f32) (arg14 : Memref sig .tc .vmem S768x256 .f32) (arg15 : Memref sig .tc .vmem S768x256 .f32) (arg16 : Memref sig .tc .vmem S768x256 .bf16) (arg17 : Memref sig .tc .vmem S768x256 .bf16) (arg18 : Memref sig .tc .vmem S768x256 .bf16) (arg19 : Memref sig .tc .vmem S768x256 .bf16) (f3 : Buf (Elt F) (arg3.view.loc (c : Thread nD τ))) (f4 : Buf (Elt F) (arg4.view.loc (c : Thread nD τ))) (f5 : Buf (Elt F) (arg5.view.loc (c : Thread nD τ))) (f7 : Buf (Elt F) (arg7.view.loc (c : Thread nD τ))) :
    arg11.view.read (Elt F) (arg11.view.writes (Elt F) arg11.view.junk (bodyRun.sl.H11_8 c i arg3 arg4 arg5 arg7 arg8 arg9 arg10 arg11 arg12 arg13 arg14 arg15 arg16 arg17 arg18 arg19 f3 f4 f5 f7)) = accAll (i 1).val (arg3.view.read (Elt F) f3) (arg4.view.read (Elt F) f4) (arg5.view.read (Elt F) f5) := by
  have hN := exit c i arg3 arg4 arg5 arg7 arg8 arg9 arg10 arg11 arg12 arg13 arg14 arg15 arg16 arg17 arg18 arg19 f3 f4 f5 f7
  have hv0 := rd_vals (F := F) arg5.view f5 (off := ![0, 0, 6912]) Gen.inb_S1x80x8448_S1x80x768_0_0_6912 6912 rfl
  have hv1 := rd_vals (F := F) arg5.view f5 (off := ![0, 0, 7680]) Gen.inb_S1x80x8448_S1x80x768_0_0_7680 7680 rfl
  have m0 : (bodyRun.sl.v225 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 0 (arg3.view.read (Elt F) f3)) 10).m :=
    (congrArg (arg8.view.readAt (Elt F) (Rect.unit (s := S1x1024) ![0, 0] S1x256.size Gen.inb_S1x1024_S1x256_0_0).toLoadRect) (iter_b8 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.m0
  have a0 : (bodyRun.sl.v215 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 0 (arg3.view.read (Elt F) f3)) 10).al :=
    (congrArg (arg9.view.readAt (Elt F) (Rect.unit (s := S1x1024) ![0, 0] S1x256.size Gen.inb_S1x1024_S1x256_0_0).toLoadRect) (iter_b9 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.a0
  have b0 : (bodyRun.sl.v226 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 0 (arg3.view.read (Elt F) f3)) 10).mb :=
    (congrArg (arg10.view.readAt (Elt F) (Rect.unit (s := S1x1024) ![0, 0] S1x256.size Gen.inb_S1x1024_S1x256_0_0).toLoadRect) (iter_b10 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.b0
  have c0 : (bodyRun.sl.v216 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 0 (arg3.view.read (Elt F) f3)) 10).acc :=
    (congrArg (arg11.view.readAt (Elt F) (Rect.unit (s := S80x1024) ![0, 0] S80x256.size Gen.inb_S80x1024_S80x256_0_0).toLoadRect) (iter_b11 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.c0
  have s0 : (bodyRun.sl.v236 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 0 (arg3.view.read (Elt F) f3)) 10).s :=
    (congrArg (arg12.view.readAt (Elt F) (Rect.unit (s := S768x256) ![0, 0] S768x256.size Gen.inb_S768x256_S768x256_0_0).toLoadRect) (iter_b12 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.s0
  have p0 : (bodyRun.sl.v219 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 0 (arg3.view.read (Elt F) f3)) 10).p :=
    (congrArg (arg16.view.readAt (Elt F) (Rect.unit (s := S768x256) ![0, 0] S768x256.size Gen.inb_S768x256_S768x256_0_0).toLoadRect) (iter_b16 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.p0
  have m1 : (bodyRun.sl.v258 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 1 (arg3.view.read (Elt F) f3)) 10).m :=
    (congrArg (arg8.view.readAt (Elt F) (Rect.unit (s := S1x1024) ![0, 256] S1x256.size Gen.inb_S1x1024_S1x256_0_256).toLoadRect) (iter_b8 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.m1
  have a1 : (bodyRun.sl.v248 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 1 (arg3.view.read (Elt F) f3)) 10).al :=
    (congrArg (arg9.view.readAt (Elt F) (Rect.unit (s := S1x1024) ![0, 256] S1x256.size Gen.inb_S1x1024_S1x256_0_256).toLoadRect) (iter_b9 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.a1
  have b1 : (bodyRun.sl.v259 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 1 (arg3.view.read (Elt F) f3)) 10).mb :=
    (congrArg (arg10.view.readAt (Elt F) (Rect.unit (s := S1x1024) ![0, 256] S1x256.size Gen.inb_S1x1024_S1x256_0_256).toLoadRect) (iter_b10 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.b1
  have c1 : (bodyRun.sl.v249 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 1 (arg3.view.read (Elt F) f3)) 10).acc :=
    (congrArg (arg11.view.readAt (Elt F) (Rect.unit (s := S80x1024) ![0, 256] S80x256.size Gen.inb_S80x1024_S80x256_0_256).toLoadRect) (iter_b11 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.c1
  have s1 : (bodyRun.sl.v269 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 1 (arg3.view.read (Elt F) f3)) 10).s :=
    (congrArg (arg13.view.readAt (Elt F) (Rect.unit (s := S768x256) ![0, 0] S768x256.size Gen.inb_S768x256_S768x256_0_0).toLoadRect) (iter_b13 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.s1
  have p1 : (bodyRun.sl.v252 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 1 (arg3.view.read (Elt F) f3)) 10).p :=
    (congrArg (arg17.view.readAt (Elt F) (Rect.unit (s := S768x256) ![0, 0] S768x256.size Gen.inb_S768x256_S768x256_0_0).toLoadRect) (iter_b17 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.p1
  have m2 : (bodyRun.sl.v291 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 2 (arg3.view.read (Elt F) f3)) 10).m :=
    (congrArg (arg8.view.readAt (Elt F) (Rect.unit (s := S1x1024) ![0, 512] S1x256.size Gen.inb_S1x1024_S1x256_0_512).toLoadRect) (iter_b8 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.m2
  have a2 : (bodyRun.sl.v281 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 2 (arg3.view.read (Elt F) f3)) 10).al :=
    (congrArg (arg9.view.readAt (Elt F) (Rect.unit (s := S1x1024) ![0, 512] S1x256.size Gen.inb_S1x1024_S1x256_0_512).toLoadRect) (iter_b9 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.a2
  have b2 : (bodyRun.sl.v292 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 2 (arg3.view.read (Elt F) f3)) 10).mb :=
    (congrArg (arg10.view.readAt (Elt F) (Rect.unit (s := S1x1024) ![0, 512] S1x256.size Gen.inb_S1x1024_S1x256_0_512).toLoadRect) (iter_b10 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.b2
  have c2 : (bodyRun.sl.v282 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 2 (arg3.view.read (Elt F) f3)) 10).acc :=
    (congrArg (arg11.view.readAt (Elt F) (Rect.unit (s := S80x1024) ![0, 512] S80x256.size Gen.inb_S80x1024_S80x256_0_512).toLoadRect) (iter_b11 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.c2
  have s2 : (bodyRun.sl.v302 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 2 (arg3.view.read (Elt F) f3)) 10).s :=
    (congrArg (arg14.view.readAt (Elt F) (Rect.unit (s := S768x256) ![0, 0] S768x256.size Gen.inb_S768x256_S768x256_0_0).toLoadRect) (iter_b14 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.s2
  have p2 : (bodyRun.sl.v285 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 2 (arg3.view.read (Elt F) f3)) 10).p :=
    (congrArg (arg18.view.readAt (Elt F) (Rect.unit (s := S768x256) ![0, 0] S768x256.size Gen.inb_S768x256_S768x256_0_0).toLoadRect) (iter_b18 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.p2
  have m3 : (bodyRun.sl.v324 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 3 (arg3.view.read (Elt F) f3)) 10).m :=
    (congrArg (arg8.view.readAt (Elt F) (Rect.unit (s := S1x1024) ![0, 768] S1x256.size Gen.inb_S1x1024_S1x256_0_768).toLoadRect) (iter_b8 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.m3
  have a3 : (bodyRun.sl.v314 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 3 (arg3.view.read (Elt F) f3)) 10).al :=
    (congrArg (arg9.view.readAt (Elt F) (Rect.unit (s := S1x1024) ![0, 768] S1x256.size Gen.inb_S1x1024_S1x256_0_768).toLoadRect) (iter_b9 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.a3
  have b3 : (bodyRun.sl.v325 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 3 (arg3.view.read (Elt F) f3)) 10).mb :=
    (congrArg (arg10.view.readAt (Elt F) (Rect.unit (s := S1x1024) ![0, 768] S1x256.size Gen.inb_S1x1024_S1x256_0_768).toLoadRect) (iter_b10 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.b3
  have c3 : (bodyRun.sl.v315 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 3 (arg3.view.read (Elt F) f3)) 10).acc :=
    (congrArg (arg11.view.readAt (Elt F) (Rect.unit (s := S80x1024) ![0, 768] S80x256.size Gen.inb_S80x1024_S80x256_0_768).toLoadRect) (iter_b11 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.c3
  have s3 : (bodyRun.sl.v335 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 3 (arg3.view.read (Elt F) f3)) 10).s :=
    (congrArg (arg15.view.readAt (Elt F) (Rect.unit (s := S768x256) ![0, 0] S768x256.size Gen.inb_S768x256_S768x256_0_0).toLoadRect) (iter_b15 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.s3
  have p3 : (bodyRun.sl.v318 c i arg3 arg4 arg5 arg7 arg8 arg9 arg10 arg11 arg12 arg13 arg14 arg15 arg16 arg17 arg18 arg19 f3 f4 f5 f7) = (gst (arg4.view.read (Elt F) f4) (arg5.view.read (Elt F) f5) (queryCols (i 1).val 3 (arg3.view.read (Elt F) f3)) 10).p :=
    (congrArg (arg19.view.readAt (Elt F) (Rect.unit (s := S768x256) ![0, 0] S768x256.size Gen.inb_S768x256_S768x256_0_0).toLoadRect) (iter_b19 c arg4 arg5 arg7 arg8 arg9 arg10 arg11 arg12 arg13 arg14 arg15 arg16 arg17 arg18 arg19 f4 f5 (arg7.view.writes (Elt F) f7 (bodyRun.sl.H7_5 c i arg3 f3)) { b8 := arg8.view.writes (Elt F) arg8.view.junk bodyRun.sl.H8_1, b9 := arg9.view.writes (Elt F) arg9.view.junk bodyRun.sl.H9_1, b10 := arg10.view.writes (Elt F) arg10.view.junk (bodyRun.sl.H10_4 c i arg3 arg4 arg7 f3 f4), b11 := arg11.view.writes (Elt F) arg11.view.junk bodyRun.sl.H11_1, b12 := arg12.view.writes (Elt F) arg12.view.junk (bodyRun.sl.H12_3 c i arg3 arg4 arg7 f3 f4), b13 := arg13.view.writes (Elt F) arg13.view.junk (bodyRun.sl.H13_3 c i arg3 arg4 arg7 f3 f4), b14 := arg14.view.writes (Elt F) arg14.view.junk (bodyRun.sl.H14_3 c i arg3 arg4 arg7 f3 f4), b15 := arg15.view.writes (Elt F) arg15.view.junk (bodyRun.sl.H15_3 c i arg3 arg4 arg7 f3 f4), b16 := arg16.view.writes (Elt F) arg16.view.junk bodyRun.sl.H16_1, b17 := arg17.view.writes (Elt F) arg17.view.junk bodyRun.sl.H17_1, b18 := arg18.view.writes (Elt F) arg18.view.junk bodyRun.sl.H18_1, b19 := arg19.view.writes (Elt F) arg19.view.junk bodyRun.sl.H19_1 } k0_t1_loop.trips).symm).trans hN.p3
  have A0 : (bodyRun.sl.v347 c i arg3 arg4 arg5 arg7 arg8 arg9 arg10 arg11 arg12 arg13 arg14 arg15 arg16 arg17 arg18 arg19 f3 f4 f5 f7) = newAlpha (gst (arg4.view.read (Elt F) f4) (arg5.view.read (Elt F) f5) (queryCols (i 1).val 0 (arg3.view.read (Elt F) f3)) 10).m (gst (arg4.view.read (Elt F) f4) (arg5.view.read (Elt F) f5) (queryCols (i 1).val 0 (arg3.view.read (Elt F) f3)) 10).mb := by
    show arg9.view.readAt (Elt F) (Rect.unit (s := S1x1024) ![0, 0] S1x256.size Gen.inb_S1x1024_S1x256_0_0).toLoadRect (arg9.view.writes (Elt F) arg9.view.junk [⟨(Rect.unit (s := S1x1024) ![0, 768] S1x256.size Gen.inb_S1x1024_S1x256_0_768), newAlpha (bodyRun.sl.v324 c i arg3 arg4 arg5 arg7 arg8 arg9 arg10 arg11 arg12 arg13 arg14 arg15 arg16 arg17 arg18 arg19 f3 f4 f5 f7) (bodyRun.sl.v325 c i arg3 arg4 arg5 arg7 arg8 arg9 arg10 arg11 arg12 arg13 arg14 arg15 arg16 arg17 arg18 arg19 f3 f4 f5 f7)⟩, ⟨(Rect.unit (s := S1x1024) ![0, 512] S1x256.size Gen.inb_S1x1024_S1x256_0_512), newAlpha (bodyRun.sl.v291 c i arg3 arg4 arg5 arg7 arg8 arg9 arg10 arg11 arg12 arg13 arg14 arg15 arg16 arg17 arg18 arg19 f3 f4 f5 f7) (bodyRun.sl.v292 c i arg3 arg4 arg5 arg7 arg8 arg9 arg10 arg11 arg12 arg13 arg14 arg15 arg16 arg17 arg18 arg19 f3 f4 f5 f7)⟩, ⟨(Rect.unit (s := S1x1024) ![0, 256] S1x256.size Gen.inb_S1x1024_S1x256_0_256), newAlpha (bodyRun.sl.v258 c i arg3 arg4 arg5 arg7 arg8 arg9 arg10 arg11 arg12 arg13 arg14 arg15 arg16 arg17 arg18 arg19 f3 f4 f5 f7) (bodyRun.sl.v259 c i arg3 arg4 arg5 arg7 arg8 arg9 arg10 arg11 arg12 arg13 arg14 arg15 arg16 arg17 arg18 arg19 f3 f4 f5 f7)⟩, ⟨(Rect.unit (s := S1x1024) ![0, 0] S1x256.size Gen.inb_S1x1024_S1x256_0_0), newAlpha (bodyRun.sl.v225 c i arg3 arg4 arg5 arg7 arg8 arg9 arg10 arg11 arg12 arg13 arg14 arg15 arg16 arg17 arg18 arg19 f3 f4 f5 f7) (bodyRun.sl.v226 c i arg3 arg4 arg5 arg7 arg8 arg9 arg10 arg11 arg12 arg13 arg14 arg15 arg16 arg17 arg18 arg19 f3 f4 f5 f7)⟩]) = _
    rw [rd_skip (r := 0) (r' := 0) (o := 0) (o' := 768) (sz := S1x256.size) (sz' := S1x256.size) (h := by decide), rd_skip (r := 0) (r' := 0) (o := 0) (o' := 512) (sz := S1x256.size) (sz' := S1x256.size) (h := by decide), rd_skip (r := 0) (r' := 0) (o := 0) (o' := 256) (sz := S1x256.size) (sz' := S1x256.size) (h := by decide), rd_hit, m0, b0]
  have P0 : (bodyRun.sl.v351 c i arg3 arg4 arg5 arg7 arg8 arg9 arg10 arg11 arg12 arg13 arg14 arg15 arg16 arg17 arg18 arg19 f3 f4 f5 f7) = newP (gst (arg4.view.read (Elt F) f4) (arg5.view.read (Elt F) f5) (queryCols (i 1).val 0 (arg3.view.read (Elt F) f3)) 10).m (gst (arg4.view.read (Elt F) f4) (arg5.view.read (Elt F) f5) (queryCols (i 1).val 0 (arg3.view.read (Elt F) f3)) 10).mb (gst (arg4.view.read (Elt F) f4) (arg5.view.read (Elt F) f5) (queryCols (i 1).val 0 (arg3.view.read (Elt F) f3)) 10).s := by
    show arg16.view.readAt (Elt F) (Rect.unit (s := S768x256) ![0, 0] S768x256.size Gen.inb_S768x256_S768x256_0_0).toLoadRect (arg16.view.writes (Elt F) arg16.view.junk [⟨(Rect.unit (s := S768x256) ![0, 0] S768x256.size Gen.inb_S768x256_S768x256_0_0), newP (bodyRun.sl.v225 c i arg3 arg4 arg5 arg7 arg8 arg9 arg10 arg11 arg12 arg13 arg14 arg15 arg16 arg17 arg18 arg19 f3 f4 f5 f7) (bodyRun.sl.v226 c i arg3 arg4 arg5 arg7 arg8 arg9 arg10 arg11 arg12 arg13 arg14 arg15 arg16 arg17 arg18 arg19 f3 f4 f5 f7) (bodyRun.sl.v236 c i arg3 arg4 arg5 arg7 arg8 arg9 arg10 arg11 arg12 arg13 arg14 arg15 arg16 arg17 arg18 arg19 f3 f4 f5 f7)⟩]) = _
    rw [rd_hit, m0, b0, s0]
  have C0 : (bodyRun.sl.v348 c i arg3 arg4 arg5 arg7 arg8 arg9 arg10 arg11 arg12 arg13 arg14 arg15 arg16 arg17 arg18 arg19 f3 f4 f5 f7) = newAcc (valCols (arg5.view.read (Elt F) f5) 6912) (gst (arg4.view.read (Elt F) f4) (arg5.view.read (Elt F) f5) (queryCols (i 1).val 0 (arg3.view.read (Elt F) f3)) 10).al (gst (arg4.view.read (Elt F) f4) (arg5.view.read (Elt F) f5) (queryCols (i 1).val 0 (arg3.view.read (Elt F) f3)) 10).acc (gst (arg4.view.read (Elt F) f4) (arg5.view.read (Elt F) f5) (queryCols (i 1).val 0 (arg3.view.read (Elt F) f3)) 10).p := by
    show arg11.view.readAt (Elt F) (Rect.unit (s := S80x1024) ![0, 0] S80x256.size Gen.inb_S80x1024_S80x256_0_0).toLoadRect (arg11.view.writes (Elt F) arg11.view.junk [⟨(Rect.unit (s := S80x1024) ![0, 768] S80x256.size Gen.inb_S80x1024_S80x256_0_768), newAcc (arg5.view.readAt (Elt F) (Rect.unit (s := S1x80x8448) ![0, 0, 6912] S1x80x768.size Gen.inb_S1x80x8448_S1x80x768_0_0_6912).toLoadRect f5) (bodyRun.sl.v314 c i arg3 arg4 arg5 arg7 arg8 arg9 arg10 arg11 arg12 arg13 arg14 arg15 arg16 arg17 arg18 arg19 f3 f4 f5 f7) (bodyRun.sl.v315 c i arg3 arg4 arg5 arg7 arg8 arg9 arg10 arg11 arg12 arg13 arg14 arg15 arg16 arg17 arg18 arg19 f3 f4 f5 f7) (bodyRun.sl.v318 c i arg3 arg4 arg5 arg7 arg8 arg9 arg10 arg11 arg12 arg13 arg14 arg15 arg16 arg17 arg18 arg19 f3 f4 f5 f7)⟩, ⟨(Rect.unit (s := S80x1024) ![0, 512] S80x256.size Gen.inb_S80x1024_S80x256_0_512), newAcc (arg5.view.readAt (Elt F) (Rect.unit (s := S1x80x8448) ![0, 0, 6912] S1x80x768.size Gen.inb_S1x80x8448_S1x80x768_0_0_6912).toLoadRect f5) (bodyRun.sl.v281 c i arg3 arg4 arg5 arg7 arg8 arg9 arg10 arg11 arg12 arg13 arg14 arg15 arg16 arg17 arg18 arg19 f3 f4 f5 f7) (bodyRun.sl.v282 c i arg3 arg4 arg5 arg7 arg8 arg9 arg10 arg11 arg12 arg13 arg14 arg15 arg16 arg17 arg18 arg19 f3 f4 f5 f7) (bodyRun.sl.v285 c i arg3 arg4 arg5 arg7 arg8 arg9 arg10 arg11 arg12 arg13 arg14 arg15 arg16 arg17 arg18 arg19 f3 f4 f5 f7)⟩, ⟨(Rect.unit (s := S80x1024) ![0, 256] S80x256.size Gen.inb_S80x1024_S80x256_0_256), newAcc (arg5.view.readAt (Elt F) (Rect.unit (s := S1x80x8448) ![0, 0, 6912] S1x80x768.size Gen.inb_S1x80x8448_S1x80x768_0_0_6912).toLoadRect f5) (bodyRun.sl.v248 c i arg3 arg4 arg5 arg7 arg8 arg9 arg10 arg11 arg12 arg13 arg14 arg15 arg16 arg17 arg18 arg19 f3 f4 f5 f7) (bodyRun.sl.v249 c i arg3 arg4 arg5 arg7 arg8 arg9 arg10 arg11 arg12 arg13 arg14 arg15 arg16 arg17 arg18 arg19 f3 f4 f5 f7) (bodyRun.sl.v252 c i arg3 arg4 arg5 arg7 arg8 arg9 arg10 arg11 arg12 arg13 arg14 arg15 arg16 arg17 arg18 arg19 f3 f4 f5 f7)⟩, ⟨(Rect.unit (s := S80x1024) ![0, 0] S80x256.size Gen.inb_S80x1024_S80x256_0_0), newAcc (arg5.view.readAt (Elt F) (Rect.unit (s := S1x80x8448) ![0, 0, 6912] S1x80x768.size Gen.inb_S1x80x8448_S1x80x768_0_0_6912).toLoadRect f5) (bodyRun.sl.v215 c i arg3 arg4 arg5 arg7 arg8 arg9 arg10 arg11 arg12 arg13 arg14 arg15 arg16 arg17 arg18 arg19 f3 f4 f5 f7) (bodyRun.sl.v216 c i arg3 arg4 arg5 arg7 arg8 arg9 arg10 arg11 arg12 arg13 arg14 arg15 arg16 arg17 arg18 arg19 f3 f4 f5 f7) (bodyRun.sl.v219 c i arg3 arg4 arg5 arg7 arg8 arg9 arg10 arg11 arg12 arg13 arg14 arg15 arg16 arg17 arg18 arg19 f3 f4 f5 f7)⟩]) = _
    rw [rd_skip (r := 0) (r' := 0) (o := 0) (o' := 768) (sz := S80x256.size) (sz' := S80x256.size) (h := by decide), rd_skip (r := 0) (r' := 0) (o := 0) (o' := 512) (sz := S80x256.size) (sz' := S80x256.size) (h := by decide), rd_skip (r := 0) (r' := 0) (o := 0) (o' := 256) (sz := S80x256.size) (sz' := S80x256.size) (h := by decide), rd_hit, hv0, a0, c0, p0]
  have A1 : (bodyRun.sl.v361 c i arg3 arg4 arg5 arg7 arg8 arg9 arg10 arg11 arg12 arg13 arg14 arg15 arg16 arg17 arg18 arg19 f3 f4 f5 f7) = newAlpha (gst (arg4.view.read (Elt F) f4) (arg5.view.read (Elt F) f5) (queryCols (i 1).val 1 (arg3.view.read (Elt F) f3)) 10).m (gst (arg4.view.read (Elt F) f4) (arg5.view.read (Elt F) f5) (queryCols (i 1).val 1 (arg3.view.read (Elt F) f3)) 10).mb := by
    show arg9.view.readAt (Elt F) (Rect.unit (s := S1x1024) ![0, 256] S1x256.size Gen.inb_S1x1024_S1x256_0_256).toLoadRect (arg9.view.writes (Elt F) arg9.view.junk [⟨(Rect.unit (s := S1x1024) ![0, 768] S1x256.size Gen.inb_S1x1024_S1x256_0_768), newAlpha (bodyRun.sl.v324 c i arg3 arg4 arg5 arg7 arg8 arg9 arg10 arg11 arg12 arg13 arg14 arg15 arg16 arg17 arg18 arg19 f3 f4 f5 f7) (bodyRun.sl.v325 c i arg3 arg4 arg5 arg7 arg8 arg9 arg10 arg11 arg12 arg13 arg14 arg15 arg16 arg17 arg18 arg19 f3 f4 f5 f7)⟩, ⟨(Rect.unit (s := S1x1024) ![0, 512] S1x256.size Gen.inb_S1x1024_S1x256_0_512), newAlpha (bodyRun.sl.v291 c i arg3 arg4 arg5 arg7 arg8 arg9 arg10 arg11 arg12 arg13 arg14 arg15 arg16 arg17 arg18 arg19 f3 f4 f5 f7) (bodyRun.sl.v292 c i arg3 arg4 arg5 arg7 arg8 arg9 arg10 arg11 arg12 arg13 arg14 arg15 arg16 arg17 arg18 arg19 f3 f4 f5 f7)⟩, ⟨(Rect.unit (s := S1x1024) ![0, 256] S1x256.size Gen.inb_S1x1024_S1x256_0_256), newAlpha (bodyRun.sl.v258 c i arg3 arg4 arg5 arg7 arg8 arg9 arg10 arg11 arg12 arg13 arg14 arg15 arg16 arg17 arg18 arg19 f3 f4 f5 f7) (bodyRun.sl.v259 c i arg3 arg4 arg5 arg7 arg8 arg9 arg10 arg11 arg12 arg13 arg14 arg15 arg16 arg17 arg18 arg19 f3 f4 f5 f7)⟩, ⟨(Rect.unit (s := S1x1024) ![0, 0] S1x256.size Gen.inb_S1x1024_S1x256_0_0), newAlpha (bodyRun.sl.v225 c i arg3 arg4 arg5 arg7 arg8 arg9 arg10 arg11 arg12 arg13 arg14 arg15 arg16 arg17 arg18 arg19 f3 f4 f5 f7) (bodyRun.sl.v226 c i arg3 arg4 arg5 arg7 arg8 arg9 arg10 arg11 arg12 arg13 arg14 arg15 arg16 arg17 arg18 arg19 f3 f4 f5 f7)⟩]) = _
    rw [rd_skip (r := 0) (r' := 0) (o := 256) (o' := 768) (sz := S1x256.size) (sz' := S1x256.size) (h := by decide), rd_skip (r := 0) (r' := 0) (o := 256) (o' := 512) (sz := S1x256.size) (sz' := S1x256.size) (h := by decide), rd_hit, m1, b1]
  have P1 : (bodyRun.sl.v365 c i arg3 arg4 arg5 arg7 arg8 arg9 arg10 arg11 arg12 arg13 arg14 arg15 arg16 arg17 arg18 arg19 f3 f4 f5 f7) = newP (gst (arg4.view.read (Elt F) f4) (arg5.view.read (Elt F) f5) (queryCols (i 1).val 1 (arg3.view.read (Elt F) f3)) 10).m (gst (arg4.view.read (Elt F) f4) (arg5.view.read (Elt F) f5) (queryCols (i 1).val 1 (arg3.view.read (Elt F) f3)) 10).mb (gst (arg4.view.read (Elt F) f4) (arg5.view.read (Elt F) f5) (queryCols (i 1).val 1 (arg3.view.read (Elt F) f3)) 10).s := by
    show arg17.view.readAt (Elt F) (Rect.unit (s := S768x256) ![0, 0] S768x256.size Gen.inb_S768x256_S768x256_0_0).toLoadRect (arg17.view.writes (Elt F) arg17.view.junk [⟨(Rect.unit (s := S768x256) ![0, 0] S768x256.size Gen.inb_S768x256_S768x256_0_0), newP (bodyRun.sl.v258 c i arg3 arg4 arg5 arg7 arg8 arg9 arg10 arg11 arg12 arg13 arg14 arg15 arg16 arg17 arg18 arg19 f3 f4 f5 f7) (bodyRun.sl.v259 c i arg3 arg4 arg5 arg7 arg8 arg9 arg10 arg11 arg12 arg13 arg14 arg15 arg16 arg17 arg18 arg19 f3 f4 f5 f7) (bodyRun.sl.v269 c i arg3 arg4 arg5 arg7 arg8 arg9 arg10 arg11 arg12 arg13 arg14 arg15 arg16 arg17 arg18 arg19 f3 f4 f5 f7)⟩]) = _
    rw [rd_hit, m1, b1, s1]
  have C1 : (bodyRun.sl.v362 c i arg3 arg4 arg5 arg7 arg8 arg9 arg10 arg11 arg12 arg13 arg14 arg15 arg16 arg17 arg18 arg19 f3 f4 f5 f7) = newAcc (valCols (arg5.view.read (Elt F) f5) 6912) (gst (arg4.view.read (Elt F) f4) (arg5.view.read (Elt F) f5) (queryCols (i 1).val 1 (arg3.view.read (Elt F) f3)) 10).al (gst (arg4.view.read (Elt F) f4) (arg5.view.read (Elt F) f5) (queryCols (i 1).val 1 (arg3.view.read (Elt F) f3)) 10).acc (gst (arg4.view.read (Elt F) f4) (arg5.view.read (Elt F) f5) (queryCols (i 1).val 1 (arg3.view.read (Elt F) f3)) 10).p := by
    show arg11.view.readAt (Elt F) (Rect.unit (s := S80x1024) ![0, 256] S80x256.size Gen.inb_S80x1024_S80x256_0_256).toLoadRect (arg11.view.writes (Elt F) arg11.view.junk [⟨(Rect.unit (s := S80x1024) ![0, 0] S80x256.size Gen.inb_S80x1024_S80x256_0_0), newAcc (arg5.view.readAt (Elt F) (Rect.unit (s := S1x80x8448) ![0, 0, 7680] S1x80x768.size Gen.inb_S1x80x8448_S1x80x768_0_0_7680).toLoadRect f5) (bodyRun.sl.v347 c i arg3 arg4 arg5 arg7 arg8 arg9 arg10 arg11 arg12 arg13 arg14 arg15 arg16 arg17 arg18 arg19 f3 f4 f5 f7) (bodyRun.sl.v348 c i arg3 arg4 arg5 arg7 arg8 arg9 arg10 arg11 arg12 arg13 arg14 arg15 arg16 arg17 arg18 arg19 f3 f4 f5 f7) (bodyRun.sl.v351 c i arg3 arg4 arg5 arg7 arg8 arg9 arg10 arg11 arg12 arg13 arg14 arg15 arg16 arg17 arg18 arg19 f3 f4 f5 f7)⟩, ⟨(Rect.unit (s := S80x1024) ![0, 768] S80x256.size Gen.inb_S80x1024_S80x256_0_768), newAcc (arg5.view.readAt (Elt F) (Rect.unit (s := S1x80x8448) ![0, 0, 6912] S1x80x768.size Gen.inb_S1x80x8448_S1x80x768_0_0_6912).toLoadRect f5) (bodyRun.sl.v314 c i arg3 arg4 arg5 arg7 arg8 arg9 arg10 arg11 arg12 arg13 arg14 arg15 arg16 arg17 arg18 arg19 f3 f4 f5 f7) (bodyRun.sl.v315 c i arg3 arg4 arg5 arg7 arg8 arg9 arg10 arg11 arg12 arg13 arg14 arg15 arg16 arg17 arg18 arg19 f3 f4 f5 f7) (bodyRun.sl.v318 c i arg3 arg4 arg5 arg7 arg8 arg9 arg10 arg11 arg12 arg13 arg14 arg15 arg16 arg17 arg18 arg19 f3 f4 f5 f7)⟩, ⟨(Rect.unit (s := S80x1024) ![0, 512] S80x256.size Gen.inb_S80x1024_S80x256_0_512), newAcc (arg5.view.readAt (Elt F) (Rect.unit (s := S1x80x8448) ![0, 0, 6912] S1x80x768.size Gen.inb_S1x80x8448_S1x80x768_0_0_6912).toLoadRect f5) (bodyRun.sl.v281 c i arg3 arg4 arg5 arg7 arg8 arg9 arg10 arg11 arg12 arg13 arg14 arg15 arg16 arg17 arg18 arg19 f3 f4 f5 f7) (bodyRun.sl.v282 c i arg3 arg4 arg5 arg7 arg8 arg9 arg10 arg11 arg12 arg13 arg14 arg15 arg16 arg17 arg18 arg19 f3 f4 f5 f7) (bodyRun.sl.v285 c i arg3 arg4 arg5 arg7 arg8 arg9 arg10 arg11 arg12 arg13 arg14 arg15 arg16 arg17 arg18 arg19 f3 f4 f5 f7)⟩, ⟨(Rect.unit (s := S80x1024) ![0, 256] S80x256.size Gen.inb_S80x1024_S80x256_0_256), newAcc (arg5.view.readAt (Elt F) (Rect.unit (s := S1x80x8448) ![0, 0, 6912] S1x80x768.size Gen.inb_S1x80x8448_S1x80x768_0_0_6912).toLoadRect f5) (bodyRun.sl.v248 c i arg3 arg4 arg5 arg7 arg8 arg9 arg10 arg11 arg12 arg13 arg14 arg15 arg16 arg17 arg18 arg19 f3 f4 f5 f7) (bodyRun.sl.v249 c i arg3 arg4 arg5 arg7 arg8 arg9 arg10 arg11 arg12 arg13 arg14 arg15 arg16 arg17 arg18 arg19 f3 f4 f5 f7) (bodyRun.sl.v252 c i arg3 arg4 arg5 arg7 arg8 arg9 arg10 arg11 arg12 arg13 arg14 arg15 arg16 arg17 arg18 arg19 f3 f4 f5 f7)⟩, ⟨(Rect.unit (s := S80x1024) ![0, 0] S80x256.size Gen.inb_S80x1024_S80x256_0_0), newAcc (arg5.view.readAt (Elt F) (Rect.unit (s := S1x80x8448) ![0, 0, 6912] S1x80x768.size Gen.inb_S1x80x8448_S1x80x768_0_0_6912).toLoadRect f5) (bodyRun.sl.v215 c i arg3 arg4 arg5 arg7 arg8 arg9 arg10 arg11 arg12 arg13 arg14 arg15 arg16 arg17 arg18 arg19 f3 f4 f5 f7) (bodyRun.sl.v216 c i arg3 arg4 arg5 arg7 arg8 arg9 arg10 arg11 arg12 arg13 arg14 arg15 arg16 arg17 arg18 arg19 f3 f4 f5 f7) (bodyRun.sl.v219 c i arg3 arg4 arg5 arg7 arg8 arg9 arg10 arg11 arg12 arg13 arg14 arg15 arg16 arg17 arg18 arg19 f3 f4 f5 f7)⟩]) = _
    rw [rd_skip (r := 0) (r' := 0) (o := 256) (o' := 0) (sz := S80x256.size) (sz' := S80x256.size) (h := by decide), rd_skip (r := 0) (r' := 0) (o := 256) (o' := 768) (sz := S80x256.size) (sz' := S80x256.size) (h := by decide), rd_skip (r := 0) (r' := 0) (o := 256) (o' := 512) (sz := S80x256.size) (sz' := S80x256.size) (h := by decide), rd_hit, hv0, a1, c1, p1]
  have A2 : (bodyRun.sl.v375 c i arg3 arg4 arg5 arg7 arg8 arg9 arg10 arg11 arg12 arg13 arg14 arg15 arg16 arg17 arg18 arg19 f3 f4 f5 f7) = newAlpha (gst (arg4.view.read (Elt F) f4) (arg5.view.read (Elt F) f5) (queryCols (i 1).val 2 (arg3.view.read (Elt F) f3)) 10).m (gst (arg4.view.read (Elt F) f4) (arg5.view.read (Elt F) f5) (queryCols (i 1).val 2 (arg3.view.read (Elt F) f3)) 10).mb := by
    show arg9.view.readAt (Elt F) (Rect.unit (s := S1x1024) ![0, 512] S1x256.size Gen.inb_S1x1024_S1x256_0_512).toLoadRect (arg9.view.writes (Elt F) arg9.view.junk [⟨(Rect.unit (s := S1x1024) ![0, 768] S1x256.size Gen.inb_S1x1024_S1x256_0_768), newAlpha (bodyRun.sl.v324 c i arg3 arg4 arg5 arg7 arg8 arg9 arg10 arg11 arg12 arg13 arg14 arg15 arg16 arg17 arg18 arg19 f3 f4 f5 f7) (bodyRun.sl.v325 c i arg3 arg4 arg5 arg7 arg8 arg9 arg10 arg11 arg12 arg13 arg14 arg15 arg16 arg17 arg18 arg19 f3 f4 f5 f7)⟩, ⟨(Rect.unit (s := S1x1024) ![0, 512] S1x256.size Gen.inb_S1x1024_S1x256_0_512), newAlpha (bodyRun.sl.v291 c i arg3 arg4 arg5 arg7 arg8 arg9 arg10 arg11 arg12 arg13 arg14 arg15 arg16 arg17 arg18 arg19 f3 f4 f5 f7) (bodyRun.sl.v292 c i arg3 arg4 arg5 arg7 arg8 arg9 arg10 arg11 arg12 arg13 arg14 arg15 arg16 arg17 arg18 arg19 f3 f4 f5 f7)⟩, ⟨(Rect.unit (s := S1x1024) ![0, 256] S1x256.size Gen.inb_S1x1024_S1x256_0_256), newAlpha (bodyRun.sl.v258 c i arg3 arg4 arg5 arg7 arg8 arg9 arg10 arg11 arg12 arg13 arg14 arg15 arg16 arg17 arg18 arg19 f3 f4 f5 f7) (bodyRun.sl.v259 c i arg3 arg4 arg5 arg7 arg8 arg9 arg10 arg11 arg12 arg13 arg14 arg15 arg16 arg17 arg18 arg19 f3 f4 f5 f7)⟩, ⟨(Rect.unit (s := S1x1024) ![0, 0] S1x256.size Gen.inb_S1x1024_S1x256_0_0), newAlpha (bodyRun.sl.v225 c i arg3 arg4 arg5 arg7 arg8 arg9 arg10 arg11 arg12 arg13 arg14 arg15 arg16 arg17 arg18 arg19 f3 f4 f5 f7) (bodyRun.sl.v226 c i arg3 arg4 arg5 arg7 arg8 arg9 arg10 arg11 arg12 arg13 arg14 arg15 arg16 arg17 arg18 arg19 f3 f4 f5 f7)⟩]) = _
    rw [rd_skip (r := 0) (r' := 0) (o := 512) (o' := 768) (sz := S1x256.size) (sz' := S1x256.size) (h := by decide), rd_hit, m2, b2]
  have P2 : (bodyRun.sl.v379 c i arg3 arg4 arg5 arg7 arg8 arg9 arg10 arg11 arg12 arg13 arg14 arg15 arg16 arg17 arg18 arg19 f3 f4 f5 f7) = newP (gst (arg4.view.read (Elt F) f4) (arg5.view.read (Elt F) f5) (queryCols (i 1).val 2 (arg3.view.read (Elt F) f3)) 10).m (gst (arg4.view.read (Elt F) f4) (arg5.view.read (Elt F) f5) (queryCols (i 1).val 2 (arg3.view.read (Elt F) f3)) 10).mb (gst (arg4.view.read (Elt F) f4) (arg5.view.read (Elt F) f5) (queryCols (i 1).val 2 (arg3.view.read (Elt F) f3)) 10).s := by
    show arg18.view.readAt (Elt F) (Rect.unit (s := S768x256) ![0, 0] S768x256.size Gen.inb_S768x256_S768x256_0_0).toLoadRect (arg18.view.writes (Elt F) arg18.view.junk [⟨(Rect.unit (s := S768x256) ![0, 0] S768x256.size Gen.inb_S768x256_S768x256_0_0), newP (bodyRun.sl.v291 c i arg3 arg4 arg5 arg7 arg8 arg9 arg10 arg11 arg12 arg13 arg14 arg15 arg16 arg17 arg18 arg19 f3 f4 f5 f7) (bodyRun.sl.v292 c i arg3 arg4 arg5 arg7 arg8 arg9 arg10 arg11 arg12 arg13 arg14 arg15 arg16 arg17 arg18 arg19 f3 f4 f5 f7) (bodyRun.sl.v302 c i arg3 arg4 arg5 arg7 arg8 arg9 arg10 arg11 arg12 arg13 arg14 arg15 arg16 arg17 arg18 arg19 f3 f4 f5 f7)⟩]) = _
    rw [rd_hit, m2, b2, s2]
  have C2 : (bodyRun.sl.v376 c i arg3 arg4 arg5 arg7 arg8 arg9 arg10 arg11 arg12 arg13 arg14 arg15 arg16 arg17 arg18 arg19 f3 f4 f5 f7) = newAcc (valCols (arg5.view.read (Elt F) f5) 6912) (gst (arg4.view.read (Elt F) f4) (arg5.view.read (Elt F) f5) (queryCols (i 1).val 2 (arg3.view.read (Elt F) f3)) 10).al (gst (arg4.view.read (Elt F) f4) (arg5.view.read (Elt F) f5) (queryCols (i 1).val 2 (arg3.view.read (Elt F) f3)) 10).acc (gst (arg4.view.read (Elt F) f4) (arg5.view.read (Elt F) f5) (queryCols (i 1).val 2 (arg3.view.read (Elt F) f3)) 10).p := by
    show arg11.view.readAt (Elt F) (Rect.unit (s := S80x1024) ![0, 512] S80x256.size Gen.inb_S80x1024_S80x256_0_512).toLoadRect (arg11.view.writes (Elt F) arg11.view.junk [⟨(Rect.unit (s := S80x1024) ![0, 256] S80x256.size Gen.inb_S80x1024_S80x256_0_256), newAcc (arg5.view.readAt (Elt F) (Rect.unit (s := S1x80x8448) ![0, 0, 7680] S1x80x768.size Gen.inb_S1x80x8448_S1x80x768_0_0_7680).toLoadRect f5) (bodyRun.sl.v361 c i arg3 arg4 arg5 arg7 arg8 arg9 arg10 arg11 arg12 arg13 arg14 arg15 arg16 arg17 arg18 arg19 f3 f4 f5 f7) (bodyRun.sl.v362 c i arg3 arg4 arg5 arg7 arg8 arg9 arg10 arg11 arg12 arg13 arg14 arg15 arg16 arg17 arg18 arg19 f3 f4 f5 f7) (bodyRun.sl.v365 c i arg3 arg4 arg5 arg7 arg8 arg9 arg10 arg11 arg12 arg13 arg14 arg15 arg16 arg17 arg18 arg19 f3 f4 f5 f7)⟩, ⟨(Rect.unit (s := S80x1024) ![0, 0] S80x256.size Gen.inb_S80x1024_S80x256_0_0), newAcc (arg5.view.readAt (Elt F) (Rect.unit (s := S1x80x8448) ![0, 0, 7680] S1x80x768.size Gen.inb_S1x80x8448_S1x80x768_0_0_7680).toLoadRect f5) (bodyRun.sl.v347 c i arg3 arg4 arg5 arg7 arg8 arg9 arg10 arg11 arg12 arg13 arg14 arg15 arg16 arg17 arg18 arg19 f3 f4 f5 f7) (bodyRun.sl.v348 c i arg3 arg4 arg5 arg7 arg8 arg9 arg10 arg11 arg12 arg13 arg14 arg15 arg16 arg17 arg18 arg19 f3 f4 f5 f7) (bodyRun.sl.v351 c i arg3 arg4 arg5 arg7 arg8 arg9 arg10 arg11 arg12 arg13 arg14 arg15 arg16 arg17 arg18 arg19 f3 f4 f5 f7)⟩, ⟨(Rect.unit (s := S80x1024) ![0, 768] S80x256.size Gen.inb_S80x1024_S80x256_0_768), newAcc (arg5.view.readAt (Elt F) (Rect.unit (s := S1x80x8448) ![0, 0, 6912] S1x80x768.size Gen.inb_S1x80x8448_S1x80x768_0_0_6912).toLoadRect f5) (bodyRun.sl.v314 c i arg3 arg4 arg5 arg7 arg8 arg9 arg10 arg11 arg12 arg13 arg14 arg15 arg16 arg17 arg18 arg19 f3 f4 f5 f7) (bodyRun.sl.v315 c i arg3 arg4 arg5 arg7 arg8 arg9 arg10 arg11 arg12 arg13 arg14 arg15 arg16 arg17 arg18 arg19 f3 f4 f5 f7) (bodyRun.sl.v318 c i arg3 arg4 arg5 arg7 arg8 arg9 arg10 arg11 arg12 arg13 arg14 arg15 arg16 arg17 arg18 arg19 f3 f4 f5 f7)⟩, ⟨(Rect.unit (s := S80x1024) ![0, 512] S80x256.size Gen.inb_S80x1024_S80x256_0_512), newAcc (arg5.view.readAt (Elt F) (Rect.unit (s := S1x80x8448) ![0, 0, 6912] S1x80x768.size Gen.inb_S1x80x8448_S1x80x768_0_0_6912).toLoadRect f5) (bodyRun.sl.v281 c i arg3 arg4 arg5 arg7 arg8 arg9 arg10 arg11 arg12 arg13 arg14 arg15 arg16 arg17 arg18 arg19 f3 f4 f5 f7) (bodyRun.sl.v282 c i arg3 arg4 arg5 arg7 arg8 arg9 arg10 arg11 arg12 arg13 arg14 arg15 arg16 arg17 arg18 arg19 f3 f4 f5 f7) (bodyRun.sl.v285 c i arg3 arg4 arg5 arg7 arg8 arg9 arg10 arg11 arg12 arg13 arg14 arg15 arg16 arg17 arg18 arg19 f3 f4 f5 f7)⟩, ⟨(Rect.unit (s := S80x1024) ![0, 256] S80x256.size Gen.inb_S80x1024_S80x256_0_256), newAcc (arg5.view.readAt (Elt F) (Rect.unit (s := S1x80x8448) ![0, 0, 6912] S1x80x768.size Gen.inb_S1x80x8448_S1x80x768_0_0_6912).toLoadRect f5) (bodyRun.sl.v248 c i arg3 arg4 arg5 arg7 arg8 arg9 arg10 arg11 arg12 arg13 arg14 arg15 arg16 arg17 arg18 arg19 f3 f4 f5 f7) (bodyRun.sl.v249 c i arg3 arg4 arg5 arg7 arg8 arg9 arg10 arg11 arg12 arg13 arg14 arg15 arg16 arg17 arg18 arg19 f3 f4 f5 f7) (bodyRun.sl.v252 c i arg3 arg4 arg5 arg7 arg8 arg9 arg10 arg11 arg12 arg13 arg14 arg15 arg16 arg17 arg18 arg19 f3 f4 f5 f7)⟩, ⟨(Rect.unit (s := S80x1024) ![0, 0] S80x256.size Gen.inb_S80x1024_S80x256_0_0), newAcc (arg5.view.readAt (Elt F) (Rect.unit (s := S1x80x8448) ![0, 0, 6912] S1x80x768.size Gen.inb_S1x80x8448_S1x80x768_0_0_6912).toLoadRect f5) (bodyRun.sl.v215 c i arg3 arg4 arg5 arg7 arg8 arg9 arg10 arg11 arg12 arg13 arg14 arg15 arg16 arg17 arg18 arg19 f3 f4 f5 f7) (bodyRun.sl.v216 c i arg3 arg4 arg5 arg7 arg8 arg9 arg10 arg11 arg12 arg13 arg14 arg15 arg16 arg17 arg18 arg19 f3 f4 f5 f7) (bodyRun.sl.v219 c i arg3 arg4 arg5 arg7 arg8 arg9 arg10 arg11 arg12 arg13 arg14 arg15 arg16 arg17 arg18 arg19 f3 f4 f5 f7)⟩]) = _
    rw [rd_skip (r := 0) (r' := 0) (o := 512) (o' := 256) (sz := S80x256.size) (sz' := S80x256.size) (h := by decide), rd_skip (r := 0) (r' := 0) (o := 512) (o' := 0) (sz := S80x256.size) (sz' := S80x256.size) (h := by decide), rd_skip (r := 0) (r' := 0) (o := 512) (o' := 768) (sz := S80x256.size) (sz' := S80x256.size) (h := by decide), rd_hit, hv0, a2, c2, p2]
  have A3 : (bodyRun.sl.v389 c i arg3 arg4 arg5 arg7 arg8 arg9 arg10 arg11 arg12 arg13 arg14 arg15 arg16 arg17 arg18 arg19 f3 f4 f5 f7) = newAlpha (gst (arg4.view.read (Elt F) f4) (arg5.view.read (Elt F) f5) (queryCols (i 1).val 3 (arg3.view.read (Elt F) f3)) 10).m (gst (arg4.view.read (Elt F) f4) (arg5.view.read (Elt F) f5) (queryCols (i 1).val 3 (arg3.view.read (Elt F) f3)) 10).mb := by
    show arg9.view.readAt (Elt F) (Rect.unit (s := S1x1024) ![0, 768] S1x256.size Gen.inb_S1x1024_S1x256_0_768).toLoadRect (arg9.view.writes (Elt F) arg9.view.junk [⟨(Rect.unit (s := S1x1024) ![0, 768] S1x256.size Gen.inb_S1x1024_S1x256_0_768), newAlpha (bodyRun.sl.v324 c i arg3 arg4 arg5 arg7 arg8 arg9 arg10 arg11 arg12 arg13 arg14 arg15 arg16 arg17 arg18 arg19 f3 f4 f5 f7) (bodyRun.sl.v325 c i arg3 arg4 arg5 arg7 arg8 arg9 arg10 arg11 arg12 arg13 arg14 arg15 arg16 arg17 arg18 arg19 f3 f4 f5 f7)⟩, ⟨(Rect.unit (s := S1x1024) ![0, 512] S1x256.size Gen.inb_S1x1024_S1x256_0_512), newAlpha (bodyRun.sl.v291 c i arg3 arg4 arg5 arg7 arg8 arg9 arg10 arg11 arg12 arg13 arg14 arg15 arg16 arg17 arg18 arg19 f3 f4 f5 f7) (bodyRun.sl.v292 c i arg3 arg4 arg5 arg7 arg8 arg9 arg10 arg11 arg12 arg13 arg14 arg15 arg16 arg17 arg18 arg19 f3 f4 f5 f7)⟩, ⟨(Rect.unit (s := S1x1024) ![0, 256] S1x256.size Gen.inb_S1x1024_S1x256_0_256), newAlpha (bodyRun.sl.v258 c i arg3 arg4 arg5 arg7 arg8 arg9 arg10 arg11 arg12 arg13 arg14 arg15 arg16 arg17 arg18 arg19 f3 f4 f5 f7) (bodyRun.sl.v259 c i arg3 arg4 arg5 arg7 arg8 arg9 arg10 arg11 arg12 arg13 arg14 arg15 arg16 arg17 arg18 arg19 f3 f4 f5 f7)⟩, ⟨(Rect.unit (s := S1x1024) ![0, 0] S1x256.size Gen.inb_S1x1024_S1x256_0_0), newAlpha (bodyRun.sl.v225 c i arg3 arg4 arg5 arg7 arg8 arg9 arg10 arg11 arg12 arg13 arg14 arg15 arg16 arg17 arg18 arg19 f3 f4 f5 f7) (bodyRun.sl.v226 c i arg3 arg4 arg5 arg7 arg8 arg9 arg10 arg11 arg12 arg13 arg14 arg15 arg16 arg17 arg18 arg19 f3 f4 f5 f7)⟩]) = _
    rw [rd_hit, m3, b3]
  have P3 : (bodyRun.sl.v393 c i arg3 arg4 arg5 arg7 arg8 arg9 arg10 arg11 arg12 arg13 arg14 arg15 arg16 arg17 arg18 arg19 f3 f4 f5 f7) = newP (gst (arg4.view.read (Elt F) f4) (arg5.view.read (Elt F) f5) (queryCols (i 1).val 3 (arg3.view.read (Elt F) f3)) 10).m (gst (arg4.view.read (Elt F) f4) (arg5.view.read (Elt F) f5) (queryCols (i 1).val 3 (arg3.view.read (Elt F) f3)) 10).mb (gst (arg4.view.read (Elt F) f4) (arg5.view.read (Elt F) f5) (queryCols (i 1).val 3 (arg3.view.read (Elt F) f3)) 10).s := by
    show arg19.view.readAt (Elt F) (Rect.unit (s := S768x256) ![0, 0] S768x256.size Gen.inb_S768x256_S768x256_0_0).toLoadRect (arg19.view.writes (Elt F) arg19.view.junk [⟨(Rect.unit (s := S768x256) ![0, 0] S768x256.size Gen.inb_S768x256_S768x256_0_0), newP (bodyRun.sl.v324 c i arg3 arg4 arg5 arg7 arg8 arg9 arg10 arg11 arg12 arg13 arg14 arg15 arg16 arg17 arg18 arg19 f3 f4 f5 f7) (bodyRun.sl.v325 c i arg3 arg4 arg5 arg7 arg8 arg9 arg10 arg11 arg12 arg13 arg14 arg15 arg16 arg17 arg18 arg19 f3 f4 f5 f7) (bodyRun.sl.v335 c i arg3 arg4 arg5 arg7 arg8 arg9 arg10 arg11 arg12 arg13 arg14 arg15 arg16 arg17 arg18 arg19 f3 f4 f5 f7)⟩]) = _
    rw [rd_hit, m3, b3, s3]
  have C3 : (bodyRun.sl.v390 c i arg3 arg4 arg5 arg7 arg8 arg9 arg10 arg11 arg12 arg13 arg14 arg15 arg16 arg17 arg18 arg19 f3 f4 f5 f7) = newAcc (valCols (arg5.view.read (Elt F) f5) 6912) (gst (arg4.view.read (Elt F) f4) (arg5.view.read (Elt F) f5) (queryCols (i 1).val 3 (arg3.view.read (Elt F) f3)) 10).al (gst (arg4.view.read (Elt F) f4) (arg5.view.read (Elt F) f5) (queryCols (i 1).val 3 (arg3.view.read (Elt F) f3)) 10).acc (gst (arg4.view.read (Elt F) f4) (arg5.view.read (Elt F) f5) (queryCols (i 1).val 3 (arg3.view.read (Elt F) f3)) 10).p := by
    show arg11.view.readAt (Elt F) (Rect.unit (s := S80x1024) ![0, 768] S80x256.size Gen.inb_S80x1024_S80x256_0_768).toLoadRect (arg11.view.writes (Elt F) arg11.view.junk [⟨(Rect.unit (s := S80x1024) ![0, 512] S80x256.size Gen.inb_S80x1024_S80x256_0_512), newAcc (arg5.view.readAt (Elt F) (Rect.unit (s := S1x80x8448) ![0, 0, 7680] S1x80x768.size Gen.inb_S1x80x8448_S1x80x768_0_0_7680).toLoadRect f5) (bodyRun.sl.v375 c i arg3 arg4 arg5 arg7 arg8 arg9 arg10 arg11 arg12 arg13 arg14 arg15 arg16 arg17 arg18 arg19 f3 f4 f5 f7) (bodyRun.sl.v376 c i arg3 arg4 arg5 arg7 arg8 arg9 arg10 arg11 arg12 arg13 arg14 arg15 arg16 arg17 arg18 arg19 f3 f4 f5 f7) (bodyRun.sl.v379 c i arg3 arg4 arg5 arg7 arg8 arg9 arg10 arg11 arg12 arg13 arg14 arg15 arg16 arg17 arg18 arg19 f3 f4 f5 f7)⟩, ⟨(Rect.unit (s := S80x1024) ![0, 256] S80x256.size Gen.inb_S80x1024_S80x256_0_256), newAcc (arg5.view.readAt (Elt F) (Rect.unit (s := S1x80x8448) ![0, 0, 7680] S1x80x768.size Gen.inb_S1x80x8448_S1x80x768_0_0_7680).toLoadRect f5) (bodyRun.sl.v361 c i arg3 arg4 arg5 arg7 arg8 arg9 arg10 arg11 arg12 arg13 arg14 arg15 arg16 arg17 arg18 arg19 f3 f4 f5 f7) (bodyRun.sl.v362 c i arg3 arg4 arg5 arg7 arg8 arg9 arg10 arg11 arg12 arg13 arg14 arg15 arg16 arg17 arg18 arg19 f3 f4 f5 f7) (bodyRun.sl.v365 c i arg3 arg4 arg5 arg7 arg8 arg9 arg10 arg11 arg12 arg13 arg14 arg15 arg16 arg17 arg18 arg19 f3 f4 f5 f7)⟩, ⟨(Rect.unit (s := S80x1024) ![0, 0] S80x256.size Gen.inb_S80x1024_S80x256_0_0), newAcc (arg5.view.readAt (Elt F) (Rect.unit (s := S1x80x8448) ![0, 0, 7680] S1x80x768.size Gen.inb_S1x80x8448_S1x80x768_0_0_7680).toLoadRect f5) (bodyRun.sl.v347 c i arg3 arg4 arg5 arg7 arg8 arg9 arg10 arg11 arg12 arg13 arg14 arg15 arg16 arg17 arg18 arg19 f3 f4 f5 f7) (bodyRun.sl.v348 c i arg3 arg4 arg5 arg7 arg8 arg9 arg10 arg11 arg12 arg13 arg14 arg15 arg16 arg17 arg18 arg19 f3 f4 f5 f7) (bodyRun.sl.v351 c i arg3 arg4 arg5 arg7 arg8 arg9 arg10 arg11 arg12 arg13 arg14 arg15 arg16 arg17 arg18 arg19 f3 f4 f5 f7)⟩, ⟨(Rect.unit (s := S80x1024) ![0, 768] S80x256.size Gen.inb_S80x1024_S80x256_0_768), newAcc (arg5.view.readAt (Elt F) (Rect.unit (s := S1x80x8448) ![0, 0, 6912] S1x80x768.size Gen.inb_S1x80x8448_S1x80x768_0_0_6912).toLoadRect f5) (bodyRun.sl.v314 c i arg3 arg4 arg5 arg7 arg8 arg9 arg10 arg11 arg12 arg13 arg14 arg15 arg16 arg17 arg18 arg19 f3 f4 f5 f7) (bodyRun.sl.v315 c i arg3 arg4 arg5 arg7 arg8 arg9 arg10 arg11 arg12 arg13 arg14 arg15 arg16 arg17 arg18 arg19 f3 f4 f5 f7) (bodyRun.sl.v318 c i arg3 arg4 arg5 arg7 arg8 arg9 arg10 arg11 arg12 arg13 arg14 arg15 arg16 arg17 arg18 arg19 f3 f4 f5 f7)⟩, ⟨(Rect.unit (s := S80x1024) ![0, 512] S80x256.size Gen.inb_S80x1024_S80x256_0_512), newAcc (arg5.view.readAt (Elt F) (Rect.unit (s := S1x80x8448) ![0, 0, 6912] S1x80x768.size Gen.inb_S1x80x8448_S1x80x768_0_0_6912).toLoadRect f5) (bodyRun.sl.v281 c i arg3 arg4 arg5 arg7 arg8 arg9 arg10 arg11 arg12 arg13 arg14 arg15 arg16 arg17 arg18 arg19 f3 f4 f5 f7) (bodyRun.sl.v282 c i arg3 arg4 arg5 arg7 arg8 arg9 arg10 arg11 arg12 arg13 arg14 arg15 arg16 arg17 arg18 arg19 f3 f4 f5 f7) (bodyRun.sl.v285 c i arg3 arg4 arg5 arg7 arg8 arg9 arg10 arg11 arg12 arg13 arg14 arg15 arg16 arg17 arg18 arg19 f3 f4 f5 f7)⟩, ⟨(Rect.unit (s := S80x1024) ![0, 256] S80x256.size Gen.inb_S80x1024_S80x256_0_256), newAcc (arg5.view.readAt (Elt F) (Rect.unit (s := S1x80x8448) ![0, 0, 6912] S1x80x768.size Gen.inb_S1x80x8448_S1x80x768_0_0_6912).toLoadRect f5) (bodyRun.sl.v248 c i arg3 arg4 arg5 arg7 arg8 arg9 arg10 arg11 arg12 arg13 arg14 arg15 arg16 arg17 arg18 arg19 f3 f4 f5 f7) (bodyRun.sl.v249 c i arg3 arg4 arg5 arg7 arg8 arg9 arg10 arg11 arg12 arg13 arg14 arg15 arg16 arg17 arg18 arg19 f3 f4 f5 f7) (bodyRun.sl.v252 c i arg3 arg4 arg5 arg7 arg8 arg9 arg10 arg11 arg12 arg13 arg14 arg15 arg16 arg17 arg18 arg19 f3 f4 f5 f7)⟩, ⟨(Rect.unit (s := S80x1024) ![0, 0] S80x256.size Gen.inb_S80x1024_S80x256_0_0), newAcc (arg5.view.readAt (Elt F) (Rect.unit (s := S1x80x8448) ![0, 0, 6912] S1x80x768.size Gen.inb_S1x80x8448_S1x80x768_0_0_6912).toLoadRect f5) (bodyRun.sl.v215 c i arg3 arg4 arg5 arg7 arg8 arg9 arg10 arg11 arg12 arg13 arg14 arg15 arg16 arg17 arg18 arg19 f3 f4 f5 f7) (bodyRun.sl.v216 c i arg3 arg4 arg5 arg7 arg8 arg9 arg10 arg11 arg12 arg13 arg14 arg15 arg16 arg17 arg18 arg19 f3 f4 f5 f7) (bodyRun.sl.v219 c i arg3 arg4 arg5 arg7 arg8 arg9 arg10 arg11 arg12 arg13 arg14 arg15 arg16 arg17 arg18 arg19 f3 f4 f5 f7)⟩]) = _
    rw [rd_skip (r := 0) (r' := 0) (o := 768) (o' := 512) (sz := S80x256.size) (sz' := S80x256.size) (h := by decide), rd_skip (r := 0) (r' := 0) (o := 768) (o' := 256) (sz := S80x256.size) (sz' := S80x256.size) (h := by decide), rd_skip (r := 0) (r' := 0) (o := 768) (o' := 0) (sz := S80x256.size) (sz' := S80x256.size) (h := by decide), rd_hit, hv0, a3, c3, p3]
  show arg11.view.read (Elt F) (arg11.view.writes (Elt F) arg11.view.junk (⟨(Rect.unit (s := S80x1024) ![0, 768] S80x256.size Gen.inb_S80x1024_S80x256_0_768), newAcc (arg5.view.readAt (Elt F) (Rect.unit (s := S1x80x8448) ![0, 0, 7680] S1x80x768.size Gen.inb_S1x80x8448_S1x80x768_0_0_7680).toLoadRect f5) (bodyRun.sl.v389 c i arg3 arg4 arg5 arg7 arg8 arg9 arg10 arg11 arg12 arg13 arg14 arg15 arg16 arg17 arg18 arg19 f3 f4 f5 f7) (bodyRun.sl.v390 c i arg3 arg4 arg5 arg7 arg8 arg9 arg10 arg11 arg12 arg13 arg14 arg15 arg16 arg17 arg18 arg19 f3 f4 f5 f7) (bodyRun.sl.v393 c i arg3 arg4 arg5 arg7 arg8 arg9 arg10 arg11 arg12 arg13 arg14 arg15 arg16 arg17 arg18 arg19 f3 f4 f5 f7)⟩ :: ⟨(Rect.unit (s := S80x1024) ![0, 512] S80x256.size Gen.inb_S80x1024_S80x256_0_512), newAcc (arg5.view.readAt (Elt F) (Rect.unit (s := S1x80x8448) ![0, 0, 7680] S1x80x768.size Gen.inb_S1x80x8448_S1x80x768_0_0_7680).toLoadRect f5) (bodyRun.sl.v375 c i arg3 arg4 arg5 arg7 arg8 arg9 arg10 arg11 arg12 arg13 arg14 arg15 arg16 arg17 arg18 arg19 f3 f4 f5 f7) (bodyRun.sl.v376 c i arg3 arg4 arg5 arg7 arg8 arg9 arg10 arg11 arg12 arg13 arg14 arg15 arg16 arg17 arg18 arg19 f3 f4 f5 f7) (bodyRun.sl.v379 c i arg3 arg4 arg5 arg7 arg8 arg9 arg10 arg11 arg12 arg13 arg14 arg15 arg16 arg17 arg18 arg19 f3 f4 f5 f7)⟩ :: ⟨(Rect.unit (s := S80x1024) ![0, 256] S80x256.size Gen.inb_S80x1024_S80x256_0_256), newAcc (arg5.view.readAt (Elt F) (Rect.unit (s := S1x80x8448) ![0, 0, 7680] S1x80x768.size Gen.inb_S1x80x8448_S1x80x768_0_0_7680).toLoadRect f5) (bodyRun.sl.v361 c i arg3 arg4 arg5 arg7 arg8 arg9 arg10 arg11 arg12 arg13 arg14 arg15 arg16 arg17 arg18 arg19 f3 f4 f5 f7) (bodyRun.sl.v362 c i arg3 arg4 arg5 arg7 arg8 arg9 arg10 arg11 arg12 arg13 arg14 arg15 arg16 arg17 arg18 arg19 f3 f4 f5 f7) (bodyRun.sl.v365 c i arg3 arg4 arg5 arg7 arg8 arg9 arg10 arg11 arg12 arg13 arg14 arg15 arg16 arg17 arg18 arg19 f3 f4 f5 f7)⟩ :: ⟨(Rect.unit (s := S80x1024) ![0, 0] S80x256.size Gen.inb_S80x1024_S80x256_0_0), newAcc (arg5.view.readAt (Elt F) (Rect.unit (s := S1x80x8448) ![0, 0, 7680] S1x80x768.size Gen.inb_S1x80x8448_S1x80x768_0_0_7680).toLoadRect f5) (bodyRun.sl.v347 c i arg3 arg4 arg5 arg7 arg8 arg9 arg10 arg11 arg12 arg13 arg14 arg15 arg16 arg17 arg18 arg19 f3 f4 f5 f7) (bodyRun.sl.v348 c i arg3 arg4 arg5 arg7 arg8 arg9 arg10 arg11 arg12 arg13 arg14 arg15 arg16 arg17 arg18 arg19 f3 f4 f5 f7) (bodyRun.sl.v351 c i arg3 arg4 arg5 arg7 arg8 arg9 arg10 arg11 arg12 arg13 arg14 arg15 arg16 arg17 arg18 arg19 f3 f4 f5 f7)⟩ :: (bodyRun.sl.H11_4 c i arg3 arg4 arg5 arg7 arg8 arg9 arg10 arg11 arg12 arg13 arg14 arg15 arg16 arg17 arg18 arg19 f3 f4 f5 f7))) = _
  rw [rd_cols4, hv1, A0, C0, P0, A1, C1, P1, A2, C2, P2, A3, C3, P3]
  rfl

set_option maxHeartbeats 1000000 in
/-- What the body leaves in the block of the result. -/
theorem bodyRun_val (c : Dev nD) (i : grid0.Coords) (arg3 : Memref sig .tc .vmem S1x256x256 .bf16) (harg3 : arg3.IsWhole) (arg4 : Memref sig .tc .vmem S1x8448x256 .bf16) (harg4 : arg4.IsWhole) (arg5 : Memref sig .tc .vmem S1x80x8448 .bf16) (harg5 : arg5.IsWhole) (arg6 : Memref sig .tc .vmem S1x256x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S80x1024 .f32) (harg11 : arg11.IsWhole) (arg12 : Memref sig .tc .vmem S768x256 .f32) (harg12 : arg12.IsWhole) (arg13 : Memref sig .tc .vmem S768x256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768x256 .bf16) (harg16 : arg16.IsWhole) (arg17 : Memref sig .tc .vmem S768x256 .bf16) (harg17 : arg17.IsWhole) (arg18 : Memref sig .tc .vmem S768x256 .bf16) (harg18 : arg18.IsWhole) (arg19 : Memref sig .tc .vmem S768x256 .bf16) (harg19 : arg19.IsWhole) (f3 : Buf (Elt F) (arg3.view.loc (c : Thread nD τ))) (f4 : Buf (Elt F) (arg4.view.loc (c : Thread nD τ))) (f5 : Buf (Elt F) (arg5.view.loc (c : Thread nD τ))) (f7 : Buf (Elt F) (arg7.view.loc (c : Thread nD τ))) :
    (bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 f4 f5 f7).1 = outVal (i 1).val (arg3.view.read (Elt F) f3) (arg4.view.read (Elt F) f4) (arg5.view.read (Elt F) f5) := by
  have hA := accs c i arg3 arg4 arg5 arg7 arg8 arg9 arg10 arg11 arg12 arg13 arg14 arg15 arg16 arg17 arg18 arg19 f3 f4 f5 f7
  have e0 : (bodyRun.sl.v399 c i arg3 arg4 arg5 arg7 arg8 arg9 arg10 arg11 arg12 arg13 arg14 arg15 arg16 arg17 arg18 arg19 f3 f4 f5 f7) = accVal (accAll (i 1).val (arg3.view.read (Elt F) f3) (arg4.view.read (Elt F) f4) (arg5.view.read (Elt F) f5)) := by
    rw [← hA]
    funext y
    refine congrArg (arg11.view.read (Elt F) (arg11.view.writes (Elt F) arg11.view.junk (bodyRun.sl.H11_8 c i arg3 arg4 arg5 arg7 arg8 arg9 arg10 arg11 arg12 arg13 arg14 arg15 arg16 arg17 arg18 arg19 f3 f4 f5 f7))) (funext fun a => Fin.ext ?_)
    match a with
    | ⟨0, _⟩ => show 0 + 1 * (y (0 : Fin 2)).val = (y (0 : Fin 2)).val; omega
    | ⟨1, _⟩ => show 0 + 1 * (y (1 : Fin 2)).val = (y (1 : Fin 2)).val; omega
  have e1 : (bodyRun.sl.v400 c i arg3 arg4 arg5 arg7 arg8 arg9 arg10 arg11 arg12 arg13 arg14 arg15 arg16 arg17 arg18 arg19 f3 f4 f5 f7) = accSum (accAll (i 1).val (arg3.view.read (Elt F) f3) (arg4.view.read (Elt F) f4) (arg5.view.read (Elt F) f5)) := by
    rw [← hA]
    funext y
    have h0 : (y (0 : Fin 2)).val < 1 := (y (0 : Fin 2)).isLt
    refine congrArg (arg11.view.read (Elt F) (arg11.view.writes (Elt F) arg11.view.junk (bodyRun.sl.H11_8 c i arg3 arg4 arg5 arg7 arg8 arg9 arg10 arg11 arg12 arg13 arg14 arg15 arg16 arg17 arg18 arg19 f3 f4 f5 f7))) (funext fun a => Fin.ext ?_)
    match a with
    | ⟨0, _⟩ => show 64 + 1 * (y (0 : Fin 2)).val = 64; omega
    | ⟨1, _⟩ => show 0 + 1 * (y (1 : Fin 2)).val = (y (1 : Fin 2)).val; omega
  show Gen.k0_pay1 (Gen.k0_pay136 (bodyRun.sl.v399 c i arg3 arg4 arg5 arg7 arg8 arg9 arg10 arg11 arg12 arg13 arg14 arg15 arg16 arg17 arg18 arg19 f3 f4 f5 f7) (bodyRun.sl.v400 c i arg3 arg4 arg5 arg7 arg8 arg9 arg10 arg11 arg12 arg13 arg14 arg15 arg16 arg17 arg18 arg19 f3 f4 f5 f7)) (Gen.k0_pay137 (bodyRun.sl.v399 c i arg3 arg4 arg5 arg7 arg8 arg9 arg10 arg11 arg12 arg13 arg14 arg15 arg16 arg17 arg18 arg19 f3 f4 f5 f7) (bodyRun.sl.v400 c i arg3 arg4 arg5 arg7 arg8 arg9 arg10 arg11 arg12 arg13 arg14 arg15 arg16 arg17 arg18 arg19 f3 f4 f5 f7)) (Gen.k0_pay138 (bodyRun.sl.v399 c i arg3 arg4 arg5 arg7 arg8 arg9 arg10 arg11 arg12 arg13 arg14 arg15 arg16 arg17 arg18 arg19 f3 f4 f5 f7) (bodyRun.sl.v400 c i arg3 arg4 arg5 arg7 arg8 arg9 arg10 arg11 arg12 arg13 arg14 arg15 arg16 arg17 arg18 arg19 f3 f4 f5 f7)) (Gen.k0_pay139 (bodyRun.sl.v399 c i arg3 arg4 arg5 arg7 arg8 arg9 arg10 arg11 arg12 arg13 arg14 arg15 arg16 arg17 arg18 arg19 f3 f4 f5 f7) (bodyRun.sl.v400 c i arg3 arg4 arg5 arg7 arg8 arg9 arg10 arg11 arg12 arg13 arg14 arg15 arg16 arg17 arg18 arg19 f3 f4 f5 f7)) = _
  rw [e0, e1]
  rfl

end Cert.Proof.KernelIdeal
-- ==== Proof.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.BodyVal

@[expose] public section

set_option warn.classDefReducibility false

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf ΦA)
open Cert.KernelIdeal.Gen (V iblk before0_0_of before0_1_of before0_2_of bigSep_W0 frame_of hmain launch0)

set_option maxHeartbeats 2000000 in
/-- The body on whole blocks and the kernel's own scratch: the three blocks it reads stay, the result's block ends at `outVal`. -/
theorem body_triple (c : Dev nD) (i : grid0.Coords) (M3 : Memref sig .tc .vmem S1x256x256 .bf16) (h3 : M3.IsWhole) (M4 : Memref sig .tc .vmem S1x8448x256 .bf16) (h4 : M4.IsWhole) (M5 : Memref sig .tc .vmem S1x80x8448 .bf16) (h5 : M5.IsWhole) (M6 : Memref sig .tc .vmem S1x256x256 .bf16) (h6 : M6.IsWhole)
    (x3 : Vec F S1x256x256 .bf16) (x4 : Vec F S1x8448x256 .bf16) (x5 : Vec F S1x80x8448 .bf16) (K : PUnit → sProp 𝕄) :
    (iprop(owns (c : Thread nD τ) M3 fullShare x3 ∗ owns (c : Thread nD τ) M4 fullShare x4 ∗ owns (c : Thread nD τ) M5 fullShare x5 ∗ (∃ d, owns (c : Thread nD τ) M6 fullShare d) ∗ Pipeline.scopedRest (Ix := Unit) (Name := ℕ) (U := UR sig nD τ) (Lvl := ℕ) (Val := Elt F) spec0 c
        ∗ (iprop(owns (c : Thread nD τ) M3 fullShare x3 ∗ owns (c : Thread nD τ) M4 fullShare x4 ∗ owns (c : Thread nD τ) M5 fullShare x5 ∗ owns (c : Thread nD τ) M6 fullShare (outVal (i 1).val x3 x4 x5) ∗ Pipeline.scopedRest (Ix := Unit) (Name := ℕ) (U := UR sig nD τ) (Lvl := ℕ) (Val := Elt F) spec0 c) -∗ K ⟨⟩)) : sProp 𝕄)
      ⊢ wp Idealize.ShloMosaic.frame (wpE (defs₀ (F := F)) Variants.none (c : Thread nD τ) none) Set.univ (cc0_attn_kv8448 (F := F) i M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) K := by
  rw [Gen.scopedRest0_eq]
  unfold owns
  rw [h3.set_eq_univ, h4.set_eq_univ, h5.set_eq_univ, h6.set_eq_univ]
  iintro ⟨⟨%f3, %hf3, H3⟩, ⟨%f4, %hf4, H4⟩, ⟨%f5, %hf5, H5⟩, ⟨%d6, %f6, -, H6⟩, ⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩, ⟨%g9, S9⟩, ⟨%g10, S10⟩, ⟨%g11, S11⟩, ⟨%g12, S12⟩⟩, Hk⟩
  subst hf3 hf4 hf5
  have hval := bodyRun_val c i M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) f3 f4 f5 g0
  have hread := View.read_writes_full M6.view f6 Gen.inb_S1x256x256_S1x256x256_0_0_0 (bodyRun c i M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) f3 f4 f5 g0).1 []
  iapply (wp_wand_r Idealize.ShloMosaic.frame (wpE (defs₀ (F := F)) Variants.none (c : Thread nD τ) none) Set.univ)
  isplitr [Hk]
  · iapply ((bodyRun c i M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) f3 f4 f5 g0).2 f6 g1 g2 g3 g4 g5 g6 g7 g8 g9 g10 g11 g12)
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  · iintro %_ ⟨H3, H4, H5, H6, S0, S1, S2, S3, S4, S5, S6, S7, S8, S9, S10, S11, S12⟩
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact hread.trans hval
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12

variable (m : (ℓ : Loc nD τ sig) → Buf (Elt F) ℓ) (ρ : Dev nD → PrngReg)

/-- The pipeline's data: each input's buffer at its block after the body, the result's at the body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outVal (grid0.coords t 1).val (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outVal (grid0.coords t 1).val (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

set_option maxHeartbeats 1000000 in
/-- At every point the body, from the blocks the pipeline staged, leaves what the data say. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl]
  unfold Pipeline.ΦA
  iintro ⟨⟨HS, HP⟩, Ho, ⟨%d0, H0⟩, ⟨%d1, H1⟩, ⟨%d2, H2⟩, ⟨%d3, H3⟩⟩
  iapply (body_triple c (grid0.coords t) _ _ _ _ _ _ _ _ (iblk m c 0 t) (iblk m c 1 t) (iblk m c 2 t))
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HP]
  · isplitl [HS]; · iexact HS
    iexact HP
  isplitl [Ho]; · iexact Ho
  isplitl [H0]; · iexact H0
  isplitl [H1]; · iexact H1
  isplitl [H2]; · iexact H2
  iexact H3

set_option backward.isDefEq.respectTransparency.types false in
/-- Every fair execution ends, with the pipeline's arrays at what the data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments end as they began. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Proof.KernelIdeal
-- ==== Proof.Frames.lean ====
/-
  The frames: the kernel's, at the machine's float words and over the extended reals, both from the one run over any
  float values; and the reference's.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_finite
public import proofs.«01_k».proof.Proof.Run

@[expose] public section

noncomputable section

namespace Cert.Proof

open Idealize.ShloMosaic Idealize.SL.Sem

section

variable {F : FTy → Type} [FloatOps F]

/-- The two body tables are one: each runs the same text. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

theorem defs_eq : Cert.Kernel.defs (F := F) = Cert.KernelIdeal.defs (F := F) := congrArg (Pipeline.defs _) bodies_eq

theorem main_same : Cert.Kernel.main (F := F) = Cert.KernelIdeal.main (F := F) := rfl

end

/-- The kernel's frame at the machine's float words, from the run over any float values. -/
theorem frame_kernel : Cert.quiescent_Kernel (hKernel := Cert.Kernel.Gen.facts) := fun m ρ _ => by
  rw [defs_eq, main_same]
  exact Cert.Proof.KernelIdeal.frame_main (F := Bits) m ρ

/-- The idealized kernel's frame, from the same run. -/
theorem frame_ideal : Cert.quiescent_KernelIdeal (hKernelIdeal := Cert.KernelIdeal.Gen.facts) := fun m ρ _ =>
  Cert.Proof.KernelIdeal.frame_main (F := Ideal) m ρ

/-- The same, where queries and keys are finite. -/
theorem frame_ideal_finite : Cert.quiescent_KernelIdeal_pre_finite (hKernelIdeal := Cert.KernelIdeal.Gen.facts)
    (hPre_finite := Cert.Pre_finite.Gen.facts) := fun m ρ _ => Cert.Proof.KernelIdeal.frame_main (F := Ideal) m ρ

/-- The reference's frame: it is host operations only, on a signature with no semaphores. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same, where queries and keys are finite. -/
theorem frame_ref_finite : Cert.quiescent_ReferenceIdeal_pre_finite (hReferenceIdeal := Cert.ReferenceIdeal.Gen.facts)
    (hPre_finite := Cert.Pre_finite.Gen.facts) := fun m ρ _ => frame_ref m ρ trivial

end Cert.Proof

end
-- ==== Proof.Soft.lean ====
/-
  The mathematics of the softmax taken block by block, over the extended reals: sums of values, which may be infinite, by
  real weights.
-/
module

public import Idealize.ShloMosaic.PureOps.Ideal

@[expose] public section

noncomputable section

namespace Cert.Proof.Soft

open Idealize.ShloMosaic

/-- Two to the power of a real. -/
def e2 (x : ℝ) : ℝ := Real.rpow 2 x

theorem e2_pos (x : ℝ) : 0 < e2 x := Real.rpow_pos_of_pos (by norm_num) x

theorem e2_add (x y : ℝ) : e2 (x + y) = e2 x * e2 y := Real.rpow_add (by norm_num) x y

theorem e2_eq_exp (x : ℝ) : e2 x = Real.exp (Real.log 2 * x) := Real.rpow_def_of_pos (by norm_num) x

/-- The sum of reals, as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A nonnegative real factor goes into a sum of extended reals. -/
theorem mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S h ih =>
    rw [Finset.sum_insert h, Finset.sum_insert h,
      EReal.left_distrib_of_nonneg_of_ne_top (EReal.coe_nonneg.mpr hc) (EReal.coe_ne_top c), ih]

/-- The weighted sum of the first `N` values, the weights relative to `M`. -/
def wsum (s : ℕ → ℝ) (v : ℕ → EReal) (N : ℕ) (M : ℝ) : EReal := ∑ n ∈ Finset.range N, v n * (e2 (s n - M) : EReal)

/-- Weights relative to another number. -/
theorem wsum_rebase (s : ℕ → ℝ) (v : ℕ → EReal) (N : ℕ) (M M' : ℝ) :
    (e2 (M - M') : EReal) * wsum s v N M = wsum s v N M' := by
  unfold wsum
  rw [mul_sum _ (e2_pos _).le]
  refine Finset.sum_congr rfl fun n _ => ?_
  rw [mul_left_comm, ← EReal.coe_mul, ← e2_add]
  congr 3; ring

/-- One step: the sum so far taken relative to the new number, and a block more. -/
theorem wsum_step (s : ℕ → ℝ) (v : ℕ → EReal) (N B : ℕ) (M M' : ℝ) :
    (e2 (M - M') : EReal) * wsum s v N M + ∑ r : Fin B, v (N + r.val) * (e2 (s (N + r.val) - M') : EReal) = wsum s v (N + B) M' := by
  rw [wsum_rebase]
  unfold wsum
  rw [Finset.sum_range_add, ← Finset.sum_range (fun x => v (N + x) * (e2 (s (N + x) - M') : EReal))]

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} {S : Finset ι} {f : ι → EReal} (h : ∀ i ∈ S, IsReal (f i)) : IsReal (∑ i ∈ S, f i) := by
  choose! g hg using h
  exact ⟨∑ i ∈ S, g i, by rw [coe_sum]; exact Finset.sum_congr rfl hg⟩

/-- The larger of a real and of what is not `⊤`. -/
theorem IsReal.max {x y : EReal} (hx : IsReal x) (hy : y ≠ ⊤) : IsReal (max x y) := by
  rcases max_choice x y with h | h
  · rw [h]; exact hx
  · obtain ⟨a, rfl⟩ := hx
    have hb : y ≠ ⊥ := by
      rintro rfl
      have := le_max_left (a : EReal) ⊥
      rw [h] at this
      exact EReal.coe_ne_bot a (le_bot_iff.mp this)
    rw [h]
    exact ⟨y.toReal, (EReal.coe_toReal hy hb).symm⟩

/-- The largest of finitely many reals, from `⊥`, is not `⊤`. -/
theorem fold_max_ne_top {ι : Type*} (S : Finset ι) (f : ι → EReal) (h : ∀ i ∈ S, IsReal (f i)) : S.fold max ⊥ f ≠ ⊤ := by
  refine ne_of_lt ((Finset.fold_max_lt _).mpr ⟨bot_lt_top, fun i hi => ?_⟩)
  obtain ⟨a, ha⟩ := h i hi
  exact ha ▸ EReal.coe_lt_top a

/-- and a real, where there is one. -/
theorem fold_max_real {ι : Type*} (S : Finset ι) (f : ι → EReal) (h : ∀ i ∈ S, IsReal (f i)) (i : ι) (hi : i ∈ S) :
    IsReal (S.fold max ⊥ f) := by
  have hb : S.fold max ⊥ f ≠ ⊥ := by
    obtain ⟨a, ha⟩ := h i hi
    have : (a : EReal) ≤ S.fold max ⊥ f := (Finset.le_fold_max _).mpr (.inr ⟨i, hi, ha.ge⟩)
    intro hh
    rw [hh] at this
    exact EReal.coe_ne_bot a (le_bot_iff.mp this)
  exact ⟨_, (EReal.coe_toReal (fold_max_ne_top S f h) hb).symm⟩

/-- Over the ones, the sum of weights: a positive real. -/
theorem wsum_one (s : ℕ → ℝ) (N : ℕ) (M : ℝ) : wsum s (fun _ => 1) N M = ((∑ n ∈ Finset.range N, e2 (s n - M) : ℝ) : EReal) := by
  rw [coe_sum]; exact Finset.sum_congr rfl fun n _ => one_mul _

theorem sum_e2_pos (s : ℕ → ℝ) (N : ℕ) (hN : 0 < N) (M : ℝ) : 0 < ∑ n ∈ Finset.range N, e2 (s n - M) :=
  Finset.sum_pos (fun n _ => e2_pos _) ⟨0, Finset.mem_range.mpr hN⟩

/-- The quotient of the two sums, the weights relative to `M` and to the base 2, is the sum of the values by the normalized
    exponentials, relative to any other number, where the scores are in the ratio `log 2`. -/
theorem soft_eq (s s' : ℕ → ℝ) (v : ℕ → EReal) (N : ℕ) (hN : 0 < N) (M M' : ℝ) (hs : ∀ n, n < N → s' n = Real.log 2 * s n) :
    Ideal.div (wsum s v N M) (wsum s (fun _ => 1) N M)
      = ∑ n ∈ Finset.range N, v n * ((Real.exp (s' n - M') / ∑ k ∈ Finset.range N, Real.exp (s' k - M') : ℝ) : EReal) := by
  have hL := sum_e2_pos s N hN M
  rw [wsum_one, Ideal.div_coe hL.ne', mul_comm]
  unfold wsum
  rw [mul_sum _ (by positivity)]
  have hK : ∀ n, n < N → Real.exp (s' n - M') = e2 (s n - M) * Real.exp (Real.log 2 * M - M') := fun n hn => by
    rw [e2_eq_exp, ← Real.exp_add, hs n hn]; congr 1; ring
  have hsum : ∑ k ∈ Finset.range N, Real.exp (s' k - M')
      = (∑ k ∈ Finset.range N, e2 (s k - M)) * Real.exp (Real.log 2 * M - M') := by
    rw [Finset.sum_mul]; exact Finset.sum_congr rfl fun n hn => hK n (Finset.mem_range.mp hn)
  refine Finset.sum_congr rfl fun n hn => ?_
  rw [mul_left_comm, ← EReal.coe_mul, hK n (Finset.mem_range.mp hn), hsum, mul_div_mul_right _ _ (Real.exp_pos _).ne']
  congr 2; field_simp

end Cert.Proof.Soft

end
-- ==== Proof.Vals.lean ====
/-
  The kernel's operations over the extended reals, read at one element.
-/
module

public import proofs.«01_k».proof.Proof.Windows
public import proofs.«01_k».proof.Proof.Soft
public import Idealize.ShloMosaic.Lib.Pointwise
public import Idealize.ShloMosaic.Lib.IdealHost

@[expose] public section

set_option maxRecDepth 16384

noncomputable section

namespace Cert.Proof.KernelIdeal

open Cert.KernelIdeal
open Idealize.ShloMosaic
open Cert.Proof.Soft

/-- Over the extended reals, `2ˣ` is the textbook one. -/
theorem exp2_ideal (x : EReal) : (FloatOps.exp2 (F := Ideal) (φ := .f32) x : EReal) = Ideal.exp2 x := rfl

theorem exp2_sub (x y : ℝ) : Ideal.exp2 ((x : EReal) - (y : EReal)) = (e2 (x - y) : EReal) := by
  rw [← EReal.coe_sub, Ideal.exp2_coe]; rfl

/-- The word of −∞. -/
theorem ofBits_neg_inf : Ideal.ofBits .f32 0xFF800000#32 = (⊥ : EReal) := by simp [Ideal.ofBits, Ideal.ieee]

/-- The word the running maximum starts from is a real number's. -/
theorem start_real : IsReal (Ideal.ofBits .f32 0xF149F2CA#32) := by
  show IsReal (Ideal.ieee 8 23 (0xF149F2CA#32))
  unfold Ideal.ieee
  dsimp only
  rw [if_neg (by decide), if_neg (by decide)]
  exact ⟨_, rfl⟩

theorem newMax_apply (m mb : Vec Ideal S1x256 .f32) (c : Fin 256) :
    newMax m mb (ix2 0 c) = max (m (ix2 0 c)) (mb (ix2 0 c)) := by
  unfold newMax
  unfold_payloads
  pointwise

theorem newAlpha_apply (m mb : Vec Ideal S1x256 .f32) (c : Fin 256) :
    newAlpha m mb (ix2 0 c) = Ideal.exp2 (m (ix2 0 c) - max (m (ix2 0 c)) (mb (ix2 0 c))) := by
  unfold newAlpha
  unfold_payloads
  pointwise
  rfl

theorem newP_apply (m mb : Vec Ideal S1x256 .f32) (s : Vec Ideal S768x256 .f32) (r : Fin 768) (c : Fin 256) :
    newP m mb s (ix2 r c) = Ideal.exp2 (s (ix2 r c) - max (m (ix2 0 c)) (mb (ix2 0 c))) := by
  unfold newP
  unfold_payloads
  pointwise
  rfl

theorem newAcc_apply (v : Vec Ideal S1x80x768 .bf16) (al : Vec Ideal S1x256 .f32) (acc : Vec Ideal S80x256 .f32)
    (p : Vec Ideal S768x256 .bf16) (r : Fin 80) (c : Fin 256) :
    newAcc v al acc p (ix2 r c) = al (ix2 0 c) * acc (ix2 r c) + ∑ k : Fin 768, v (ix3 0 r k) * p (ix2 k c) := by
  unfold newAcc
  unfold_payloads
  pointwise

theorem scoreRows_apply (k : Vec Ideal S1x256x256 .bf16) (q : Vec Ideal S256x256 .bf16) (r c : Fin 256) :
    scoreRows k q (ix2 r c) = ∑ d : Fin 256, k (ix3 0 r d) * q (ix2 d c) := by
  unfold scoreRows
  unfold_payloads
  pointwise

/-- The largest of 256 keys' scores, from −∞. -/
def topScore (k : Vec Ideal S1x256x256 .bf16) (q : Vec Ideal S256x256 .bf16) (c : Fin 256) : EReal :=
  Finset.univ.fold max ⊥ fun x : Fin 256 => ∑ d : Fin 256, k (ix3 0 x d) * q (ix2 d c)

theorem blockMax_apply (k0 k1 k2 : Vec Ideal S1x256x256 .bf16) (q : Vec Ideal S256x256 .bf16) (c : Fin 256) :
    blockMax k0 k1 k2 q (ix2 0 c) = max (max (topScore k0 q c) (topScore k1 q c)) (topScore k2 q c) := by
  unfold blockMax topScore
  unfold_payloads
  pointwise
  rw [ofBits_neg_inf]

/-- One query's score against the key in row `n`, rows counted round. -/
def dotKey (x4 : Vec Ideal S1x8448x256 .bf16) (q : Vec Ideal S256x256 .bf16) (c : Fin 256) (n : ℕ) : EReal :=
  ∑ d : Fin 256, x4 (ix3 0 ⟨n % 8448, Nat.mod_lt _ (by decide)⟩ d) * q (ix2 d c)

/-- A feature's value in column `n`, columns counted round. -/
def valAt (x5 : Vec Ideal S1x80x8448 .bf16) (r : Fin 80) (n : ℕ) : EReal :=
  x5 (ix3 0 r ⟨n % 8448, Nat.mod_lt _ (by decide)⟩)

theorem scoreRows_key (x4 : Vec Ideal S1x8448x256 .bf16) (o : ℕ) (q : Vec Ideal S256x256 .bf16) (r c : Fin 256) :
    scoreRows (keyRows x4 o) q (ix2 r c) = dotKey x4 q c (o + r.val) := by
  rw [scoreRows_apply]; rfl

theorem scores_apply (x4 : Vec Ideal S1x8448x256 .bf16) (o : ℕ) (q : Vec Ideal S256x256 .bf16) (r : Fin 768) (c : Fin 256) :
    scores x4 o q (ix2 r c) = dotKey x4 q c (o + r.val) := by
  unfold scores rows3
  show (if h0 : r.val < 256 then _ else if h1 : r.val < 512 then _ else _) = _
  split
  · exact scoreRows_key x4 o q _ c
  · split
    · refine (scoreRows_key x4 (o + 256) q _ c).trans (congrArg _ ?_)
      show o + 256 + (r.val - 256) = _
      omega
    · refine (scoreRows_key x4 (o + 512) q _ c).trans (congrArg _ ?_)
      show o + 512 + (r.val - 512) = _
      omega

theorem topScore_ne_top (x4 : Vec Ideal S1x8448x256 .bf16) (o : ℕ) (q : Vec Ideal S256x256 .bf16) (c : Fin 256)
    (h : ∀ n, IsReal (dotKey x4 q c n)) : topScore (keyRows x4 o) q c ≠ ⊤ :=
  fold_max_ne_top _ _ fun x _ => h (o + x.val)

theorem scoresMax_ne_top (x4 : Vec Ideal S1x8448x256 .bf16) (o : ℕ) (q : Vec Ideal S256x256 .bf16) (c : Fin 256)
    (h : ∀ n, IsReal (dotKey x4 q c n)) : scoresMax x4 o q (ix2 0 c) ≠ ⊤ := by
  unfold scoresMax
  rw [blockMax_apply]
  exact ne_of_lt (max_lt (max_lt (lt_top_iff_ne_top.mpr (topScore_ne_top x4 _ q c h)) (lt_top_iff_ne_top.mpr (topScore_ne_top x4 _ q c h)))
    (lt_top_iff_ne_top.mpr (topScore_ne_top x4 _ q c h)))

/-- What one query's column of the state holds before pass `k + 1`: the maxima before and now are reals, the accumulator
    holds the weighted sums of the first `768 k` values relative to the maximum before, and the next block's exponentials wait. -/
structure Inv (x5 : Vec Ideal S1x80x8448 .bf16) (S : ℕ → ℝ) (c : Fin 256) (k : ℕ) (G : GS Ideal) (M M' : ℝ) : Prop where
  m : G.m (ix2 0 c) = (M' : EReal)
  al : G.al (ix2 0 c) = (e2 (M - M') : EReal)
  mb : G.mb (ix2 0 c) ≠ ⊤
  acc : ∀ r : Fin 80, G.acc (ix2 r c) = wsum S (valAt x5 r) (768 * k) M
  s : ∀ r : Fin 768, G.s (ix2 r c) = (S (768 * (k + 1) + r.val) : EReal)
  p : ∀ r : Fin 768, G.p (ix2 r c) = (e2 (S (768 * k + r.val) - M') : EReal)

section

variable {x4 : Vec Ideal S1x8448x256 .bf16} {x5 : Vec Ideal S1x80x8448 .bf16} {q : Vec Ideal S256x256 .bf16} {c : Fin 256} {S : ℕ → ℝ}

theorem valCols_apply (o : ℕ) (r : Fin 80) (k : Fin 768) : valCols x5 o (ix3 0 r k) = valAt x5 r (o + k.val) := rfl

/-- Before the second pass. -/
theorem inv_one (hS : ∀ n, dotKey x4 q c n = (S n : EReal)) : ∃ M M' : ℝ, Inv x5 S c 0 (gst x4 x5 q 1) M M' := by
  have hR : ∀ n, IsReal (dotKey x4 q c n) := fun n => ⟨S n, hS n⟩
  obtain ⟨M, hM⟩ := start_real
  obtain ⟨M', hM'⟩ := IsReal.max (x := (M : EReal)) ⟨M, rfl⟩ (scoresMax_ne_top x4 0 q c hR)
  have h0 : (gs0 x4 q).m (ix2 0 c) = (M : EReal) := hM
  have h1 : (gs0 x4 q).mb = scoresMax x4 0 q := rfl
  refine ⟨M, M', ?_, ?_, ?_, ?_, ?_, ?_⟩
  · show newMax (gs0 x4 q).m (gs0 x4 q).mb (ix2 0 c) = _
    rw [newMax_apply, h0, h1, hM']
  · show newAlpha (gs0 x4 q).m (gs0 x4 q).mb (ix2 0 c) = _
    rw [newAlpha_apply, h0, h1, hM', exp2_sub]
  · exact scoresMax_ne_top x4 _ q c hR
  · intro r
    show newAcc _ (gs0 x4 q).al (gs0 x4 q).acc (gs0 x4 q).p (ix2 r c) = _
    have hp : ∀ k : Fin 768, (gs0 x4 q).p (ix2 k c) = (0 : EReal) := fun _ => Ideal.ofBits_zero_bf16
    have ha : (gs0 x4 q).acc (ix2 r c) = (0 : EReal) := Ideal.ofBits_zero_f32
    rw [newAcc_apply, ha, mul_zero, zero_add, Finset.sum_eq_zero fun k _ => by rw [hp, mul_zero]]
    simp [wsum]
  · intro r
    show scores x4 (768 * 0 + 768) q (ix2 r c) = _
    rw [scores_apply, hS]
  · intro r
    show newP (gs0 x4 q).m (gs0 x4 q).mb (gs0 x4 q).s (ix2 r c) = _
    have hs : (gs0 x4 q).s (ix2 r c) = (S (768 * 0 + r.val) : EReal) := (scores_apply x4 0 q r c).trans (hS _)
    rw [newP_apply, h0, h1, hM', hs, exp2_sub]

/-- What an accumulation leaves, where the accumulator held the sum of the first `N` values. -/
theorem acc_step {al : Vec Ideal S1x256 .f32} {acc : Vec Ideal S80x256 .f32} {p : Vec Ideal S768x256 .bf16} {N : ℕ} {M M' : ℝ} (r : Fin 80)
    (hal : al (ix2 0 c) = (e2 (M - M') : EReal)) (hacc : acc (ix2 r c) = wsum S (valAt x5 r) N M)
    (hp : ∀ k : Fin 768, p (ix2 k c) = (e2 (S (N + k.val) - M') : EReal)) :
    newAcc (valCols x5 N) al acc p (ix2 r c) = wsum S (valAt x5 r) (N + 768) M' := by
  rw [newAcc_apply, hal, hacc, ← wsum_step S (valAt x5 r) N 768 M M']
  exact congrArg _ (Finset.sum_congr rfl fun k _ => by rw [hp]; rfl)

/-- One pass keeps it. -/
theorem inv_next (hS : ∀ n, dotKey x4 q c n = (S n : EReal)) (k : ℕ) (G : GS Ideal) (M M' : ℝ) (h : Inv x5 S c k G M M') :
    ∃ M'' : ℝ, Inv x5 S c (k + 1) (gnext x4 x5 q (k + 1) G) M' M'' := by
  have hR : ∀ n, IsReal (dotKey x4 q c n) := fun n => ⟨S n, hS n⟩
  obtain ⟨M'', hM''⟩ := IsReal.max (x := (M' : EReal)) ⟨M', rfl⟩ h.mb
  refine ⟨M'', ?_, ?_, ?_, ?_, ?_, ?_⟩
  · show newMax G.m G.mb (ix2 0 c) = _
    rw [newMax_apply, h.m, hM'']
  · show newAlpha G.m G.mb (ix2 0 c) = _
    rw [newAlpha_apply, h.m, hM'', exp2_sub]
  · exact scoresMax_ne_top x4 _ q c hR
  · intro r
    exact acc_step (N := 768 * k) r h.al (h.acc r) h.p
  · intro r
    show scores x4 (768 * (k + 1) + 768) q (ix2 r c) = _
    rw [scores_apply, hS]
    exact congrArg (fun n => ((S n : ℝ) : EReal)) (by omega)
  · intro r
    show newP G.m G.mb G.s (ix2 r c) = _
    rw [newP_apply, h.m, hM'', h.s, exp2_sub]

/-- Before every pass from the second on. -/
theorem inv_all (hS : ∀ n, dotKey x4 q c n = (S n : EReal)) (k : ℕ) : ∃ M M' : ℝ, Inv x5 S c k (gst x4 x5 q (k + 1)) M M' := by
  induction k with
  | zero => exact inv_one hS
  | succ k ih =>
    obtain ⟨M, M', h⟩ := ih
    obtain ⟨M'', h'⟩ := inv_next hS k _ M M' h
    exact ⟨M', M'', h'⟩

/-- In the end the accumulator holds the weighted sums of all 8448 values, relative to one number. -/
theorem accEnd_apply (hS : ∀ n, dotKey x4 q c n = (S n : EReal)) :
    ∃ M : ℝ, ∀ r : Fin 80, accEnd x5 (gst x4 x5 q 10) (ix2 r c) = wsum S (valAt x5 r) 8448 M := by
  obtain ⟨M, M', h⟩ := inv_all (x5 := x5) hS 9
  obtain ⟨M'', hM''⟩ := IsReal.max (x := (M' : EReal)) ⟨M', rfl⟩ h.mb
  refine ⟨M'', fun r => ?_⟩
  unfold accEnd
  refine acc_step (N := 7680) (M := M') r ?_ ?_ ?_
  · rw [newAlpha_apply, h.m, hM'', exp2_sub]
  · exact acc_step (N := 6912) r h.al (h.acc r) h.p
  · intro k
    rw [newP_apply, h.m, hM'', h.s, exp2_sub]

end

end Cert.Proof.KernelIdeal

end
-- ==== Proof.Host.lean ====
/-
  The arrays that the host code prepares, over the extended reals, read at one element.
-/
module

public import proofs.«01_k».proof.Proof.Gen.KernelIdeal.Frame
public import proofs.«01_k».proof.Proof.Vals
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo
open Cert.Proof.Soft

/-- The queries' factor, (1/8)/ln 2. -/
def scaleC : ℝ := (1 / 8) / Real.log 2

/-- The queries, scaled, their features on the rows. -/
def hostQ (q : FVec Ideal S4x8192x16x64 .f32) : FVec Ideal S4x1024x8192 .bf16 :=
  truncf .bf16 (transpose S4x1024x8192 [0, 2, 1] (mulf (shapeCast S4x8192x1024 q shapeCasts_S4x8192x16x64_S4x8192x1024)
    (broadcastInDim S4x8192x1024 ![] bcast_S_S4x8192x1024 (Host.divf (constant S_ .f32 0x3E000000#32) (Host.log (constant S_ .f32 0x40000000#32)))))
    transposes_S4x8192x1024_S4x1024x8192_0_2_1) bitsLt_bf16_f32

/-- The keys of both kinds, the heads side by side. -/
def hostK (k : FVec Ideal S4x8192x4x64 .f32) (kc : FVec Ideal S4x256x4x64 .f32) : FVec Ideal S4x8448x256 .bf16 :=
  truncf .bf16 (shapeCast S4x8448x256 (concatenate S4x8448x4x64 1 [⟨S4x8192x4x64, k⟩, ⟨S4x256x4x64, kc⟩] concatenates_S4x8192x4x64_S4x256x4x64_S4x8448x4x64_d1)
    shapeCasts_S4x8448x4x64_S4x8448x256) bitsLt_bf16_f32

/-- The values of both kinds, their features on the rows, with rows of ones under each head. -/
def hostV (v : FVec Ideal S4x8192x4x64 .f32) (vc : FVec Ideal S4x256x4x64 .f32) : FVec Ideal S4x320x8448 .bf16 :=
  shapeCast S4x320x8448 (concatenate S4x4x80x8448 2
    [⟨S4x4x64x8448, truncf .bf16 (transpose S4x4x64x8448 [0, 2, 3, 1]
        (concatenate S4x8448x4x64 1 [⟨S4x8192x4x64, v⟩, ⟨S4x256x4x64, vc⟩] concatenates_S4x8192x4x64_S4x256x4x64_S4x8448x4x64_d1)
        transposes_S4x8448x4x64_S4x4x64x8448_0_2_3_1) bitsLt_bf16_f32⟩,
      ⟨S4x4x16x8448, broadcastInDim S4x4x16x8448 ![] bcast_S_S4x4x16x8448 (constant S_ .bf16 0x3F80#16)⟩]
    concatenates_S4x4x64x8448_S4x4x16x8448_S4x4x80x8448_d2) shapeCasts_S4x4x80x8448_S4x320x8448

section

variable (m : (ℓ : Loc nD τ sig) → Buf (Elt Ideal) ℓ) (c : Dev nD)

theorem V_q : V m c main_v6 = hostQ (m ((c : Thread nD τ).loc main_arg0)) := by
  unfold V hostQ
  after_results <;> rfl

theorem V_k : V m c main_v9 = hostK (m ((c : Thread nD τ).loc main_arg1)) (m ((c : Thread nD τ).loc main_arg3)) := by
  unfold V hostK
  after_results <;> rfl

theorem V_v : V m c main_v15 = hostV (m ((c : Thread nD τ).loc main_arg2)) (m ((c : Thread nD τ).loc main_arg4)) := by
  unfold V hostV
  after_results <;> rfl

end

/-- A key of head `h`: the latent's, then the context's. -/
def keyAll (k : FVec Ideal S4x8192x4x64 .f32) (kc : FVec Ideal S4x256x4x64 .f32) (b : Fin 4) (n : Fin 8448) (h : Fin 4) (d : Fin 64) : EReal :=
  if hn : n.val < 8192 then k (ix4 b ⟨n.val, hn⟩ h d) else kc (ix4 b ⟨n.val - 8192, by omega⟩ h d)

theorem scale_eq : Ideal.div (Ideal.ofBits .f32 0x3E000000#32) (Ideal.log (Ideal.ofBits .f32 0x40000000#32)) = (scaleC : EReal) := by
  have h8 : Ideal.ofBits .f32 0x3E000000#32 = ((1 / 8 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : (0 : ℝ) < Real.log 2 := Real.log_pos (by norm_num)
  rw [h8, h2, Ideal.log_coe, if_neg (by norm_num), Ideal.div_coe hl.ne', ← EReal.coe_mul]
  unfold scaleC
  congr 1; ring

theorem hostQ_apply (q : FVec Ideal S4x8192x16x64 .f32) (b : Fin 4) (f : Fin 1024) (n : Fin 8192) :
    hostQ q (ix3 b f n) = q (ix4 b n ⟨f.val / 64, by omega⟩ ⟨f.val % 64, by omega⟩) * (scaleC : EReal) := by
  rw [← scale_eq]
  pointwise [hostQ]

/-- Latent rows and context rows, one above the other. -/
theorem rows_apply (k : FVec Ideal S4x8192x4x64 .f32) (kc : FVec Ideal S4x256x4x64 .f32) (b : Fin 4) (n : Fin 8448) (h : Fin 4) (d : Fin 64) :
    concatenate S4x8448x4x64 1 [⟨S4x8192x4x64, k⟩, ⟨S4x256x4x64, kc⟩] concatenates_S4x8192x4x64_S4x256x4x64_S4x8448x4x64_d1 (ix4 b n h d)
      = keyAll k kc b n h d := by
  unfold keyAll
  pointwise

theorem merge_apply (x : FVec Ideal S4x8448x4x64 .f32) (b : Fin 4) (n : Fin 8448) (f : Fin 256) :
    shapeCast S4x8448x256 x shapeCasts_S4x8448x4x64_S4x8448x256 (ix3 b n f) = x (ix4 b n ⟨f.val / 64, by omega⟩ ⟨f.val % 64, by omega⟩) := by
  pointwise

theorem hostK_apply (k : FVec Ideal S4x8192x4x64 .f32) (kc : FVec Ideal S4x256x4x64 .f32) (b : Fin 4) (n : Fin 8448) (f : Fin 256) :
    hostK k kc (ix3 b n f) = keyAll k kc b n ⟨f.val / 64, by omega⟩ ⟨f.val % 64, by omega⟩ := by
  unfold hostK
  exact (merge_apply _ b n f).trans (rows_apply k kc b n _ _)

theorem hostV_apply (v : FVec Ideal S4x8192x4x64 .f32) (vc : FVec Ideal S4x256x4x64 .f32) (b : Fin 4) (f : Fin 320) (n : Fin 8448) :
    hostV v vc (ix3 b f n)
      = if hf : f.val % 80 < 64 then keyAll v vc b n ⟨f.val / 80, by omega⟩ ⟨f.val % 80, hf⟩ else (1 : EReal) := by
  pointwise [hostV, keyAll]

end Cert.Proof.KernelIdeal

end
-- ==== Proof.OutVal.lean ====
/-
  The block of the result over the extended reals: each element is the quotient of two weighted sums over all keys.
-/
module

public import proofs.«01_k».proof.Proof.Vals

@[expose] public section

set_option maxRecDepth 16384

noncomputable section

namespace Cert.Proof.KernelIdeal

open Cert.KernelIdeal
open Idealize.ShloMosaic
open Cert.Proof.Soft

/-- The quotient that the body takes, at an element: the accumulators of group `c / 64`. -/
theorem outVal_apply (h : ℕ) (x3 : Vec Ideal S1x256x256 .bf16) (x4 : Vec Ideal S1x8448x256 .bf16) (x5 : Vec Ideal S1x80x8448 .bf16) (r c : Fin 256) :
    outVal h x3 x4 x5 (ix3 0 r c)
      = Ideal.div (accEnd x5 (gst x4 x5 (queryCols h (c.val / 64) x3) 10) (ix2 ⟨c.val % 64, by omega⟩ r))
          (accEnd x5 (gst x4 x5 (queryCols h (c.val / 64) x3) 10) (ix2 64 r)) := by
  have hr : r.val < 256 := r.isLt
  have hc : c.val < 256 := c.isLt
  have e : ∀ (g : ℕ) (y : Fin 80) (hg : 256 * g + r.val < 1024), accAll h x3 x4 x5 (ix2 y ⟨256 * g + r.val, hg⟩)
      = accEnd x5 (gst x4 x5 (queryCols h g x3) 10) (ix2 y r) := by
    intro g y hg
    unfold accAll cols4
    show (if h0 : 256 * g + r.val < 256 then _ else if h1 : 256 * g + r.val < 512 then _ else if h2 : 256 * g + r.val < 768 then _ else _) = _
    split
    · obtain rfl : g = 0 := by omega
      congr 2; exact Fin.ext (by show 256 * 0 + r.val = _; omega)
    · split
      · obtain rfl : g = 1 := by omega
        congr 2; exact Fin.ext (by show 256 * 1 + r.val - 256 = _; omega)
      · split
        · obtain rfl : g = 2 := by omega
          congr 2; exact Fin.ext (by show 256 * 2 + r.val - 512 = _; omega)
        · obtain rfl : g = 3 := by omega
          congr 2; exact Fin.ext (by show 256 * 3 + r.val - 768 = _; omega)
  have key : ∀ (g d : ℕ) (hd : d < 80) (ho : 256 * g + r.val < 1024), c.val / 64 = g → c.val % 64 = d →
      Ideal.div (accAll h x3 x4 x5 (ix2 ⟨d, hd⟩ ⟨256 * g + r.val, ho⟩)) (accAll h x3 x4 x5 (ix2 64 ⟨256 * g + r.val, ho⟩))
        = Ideal.div (accEnd x5 (gst x4 x5 (queryCols h (c.val / 64) x3) 10) (ix2 ⟨c.val % 64, by omega⟩ r))
          (accEnd x5 (gst x4 x5 (queryCols h (c.val / 64) x3) 10) (ix2 64 r)) := by
    rintro g d hd ho rfl rfl
    rw [e, e]
  unfold outVal
  generalize accAll h x3 x4 x5 = A at key ⊢
  unfold_payloads
  pointwise [accVal, accSum]
  split
  · refine Eq.trans ?_ (key 0 c.val (by omega) (by omega) (by omega) (by omega))
    simp only [Nat.mul_zero, Nat.zero_add]
  · split
    · exact key 1 (c.val - 64) (by omega) (by omega) (by omega) (by omega)
    · split
      · exact key 2 (c.val - 64 - 64) (by omega) (by omega) (by omega) (by omega)
      · exact key 3 (c.val - 64 - 64 - 64) (by omega) (by omega) (by omega) (by omega)

/-- A query's score: the products over the 64 features of its head, the other rows being zero. -/
theorem dotKey_query (h g : ℕ) (hh : h < 4) (hg : g < 4) (x3 : Vec Ideal S1x256x256 .bf16) (x4 : Vec Ideal S1x8448x256 .bf16) (r : Fin 256) (n : ℕ) :
    dotKey x4 (queryCols h g x3) r n
      = ∑ d : Fin 64, x4 (ix3 0 ⟨n % 8448, Nat.mod_lt _ (by decide)⟩ ⟨64 * h + d.val, by omega⟩) * x3 (ix3 0 ⟨64 * g + d.val, by omega⟩ r) := by
  unfold dotKey
  refine (Fintype.sum_of_injective (fun d : Fin 64 => (⟨64 * h + d.val, by omega⟩ : Fin 256)) ?_ _ _ ?_ ?_).symm
  · intro a b hab
    have := congrArg Fin.val hab
    exact Fin.ext (by simpa using this)
  · intro y hy
    have hq : queryCols h g x3 (ix2 y r) = (0 : EReal) := by
      unfold queryCols
      rw [if_neg]
      · exact Ideal.ofBits_zero_bf16
      · rintro ⟨h1, h2⟩
        refine hy ⟨⟨y.val - 64 * h, by have : y.val < 64 * h + 64 := h2; omega⟩, Fin.ext ?_⟩
        have : 64 * h ≤ y.val := h1
        show 64 * h + (y.val - 64 * h) = y.val
        omega
    rw [hq, mul_zero]
  · intro d
    have hq : queryCols h g x3 (ix2 ⟨64 * h + d.val, by omega⟩ r) = x3 (ix3 0 ⟨64 * g + d.val, by omega⟩ r) := by
      have hd := d.isLt
      unfold queryCols
      refine (if_pos (show 64 * h ≤ 64 * h + d.val ∧ 64 * h + d.val < 64 * h + 64 by omega)).trans ?_
      refine congrArg (fun k => x3 (ix3 0 k r)) (Fin.ext ?_)
      show (64 * g + (64 * h + d.val - 64 * h)) % 256 = 64 * g + d.val
      omega
    rw [hq]

/-- An element of the block of the result, from its query's scores. -/
theorem outVal_soft (h : ℕ) (x3 : Vec Ideal S1x256x256 .bf16) (x4 : Vec Ideal S1x8448x256 .bf16) (x5 : Vec Ideal S1x80x8448 .bf16) (r c : Fin 256)
    (S : ℕ → ℝ) (hS : ∀ n, dotKey x4 (queryCols h (c.val / 64) x3) r n = (S n : EReal)) :
    ∃ M : ℝ, outVal h x3 x4 x5 (ix3 0 r c)
      = Ideal.div (wsum S (valAt x5 ⟨c.val % 64, by omega⟩) 8448 M) (wsum S (valAt x5 64) 8448 M) := by
  obtain ⟨M, hM⟩ := accEnd_apply (x5 := x5) hS
  exact ⟨M, by rw [outVal_apply, hM, hM]⟩

end Cert.Proof.KernelIdeal

end
-- ==== Proof.Result.lean ====
/-
  The kernel's blocks, read from the arrays that the host code prepares, and which blocks of the result are written.
-/
module

public import proofs.«01_k».proof.Proof.Host
public import proofs.«01_k».proof.Proof.OutVal
public import proofs.«01_k».proof.Proof.Run
public import Idealize.ShloMosaic.Lib.Pipeline.Covers

@[expose] public section

set_option maxRecDepth 16384

noncomputable section

namespace Cert.Proof.KernelIdeal

open Cert.KernelIdeal Cert.KernelIdeal.Gen
open Idealize.ShloMosaic Idealize.ShloMosaic.TcCoe
open Cert.Proof.Soft

/-- The batch of a grid point. -/
def gB (t : Fin cfg0.N) : Fin 4 := ⟨(grid0.coords t 0).val, (grid0.coords t 0).isLt⟩
/-- The key head of a grid point. -/
def gH (t : Fin cfg0.N) : Fin 4 := ⟨(grid0.coords t 1).val, (grid0.coords t 1).isLt⟩
/-- The block of rows of a grid point. -/
def gI (t : Fin cfg0.N) : Fin 32 := ⟨(grid0.coords t 2).val, (grid0.coords t 2).isLt⟩

theorem index0 : ∀ t : Fin cfg0.N, win0_0.index t = ![(gB t).val, (gH t).val, (gI t).val] :=
  (by decide +kernel : ∀ t : Fin grid0.N, win0_0.index t = ![(grid0.coords t 0).val, (grid0.coords t 1).val, (grid0.coords t 2).val])
theorem index1 : ∀ t : Fin cfg0.N, win0_1.index t = ![(gB t).val, 0, 0] :=
  (by decide +kernel : ∀ t : Fin grid0.N, win0_1.index t = ![(grid0.coords t 0).val, 0, 0])
theorem index2 : ∀ t : Fin cfg0.N, win0_2.index t = ![(gB t).val, (gH t).val, 0] :=
  (by decide +kernel : ∀ t : Fin grid0.N, win0_2.index t = ![(grid0.coords t 0).val, (grid0.coords t 1).val, 0])
theorem index3 : ∀ t : Fin cfg0.N, win0_3.index t = ![(gB t).val, (gI t).val, (gH t).val] :=
  (by decide +kernel : ∀ t : Fin grid0.N, win0_3.index t = ![(grid0.coords t 0).val, (grid0.coords t 2).val, (grid0.coords t 1).val])

/-- Every block of the result is written. -/
theorem covers3 : (cfg0.win 3).Covers := by decide +kernel

variable (m : (ℓ : Loc nD τ sig) → Buf (Elt Ideal) ℓ) (c : Dev nD)

theorem read0 (W : (b : Ref sig .tc) → Buf (Elt Ideal) ((c : Thread nD τ).loc b)) (t : Fin cfg0.N) (y : S1x256x256.Idx) :
    ((cfg0.win 0).blk t).view.read (Elt Ideal) (W (Pipeline.arrRef spec0 0)) y = W main_v6 (((cfg0.win 0).blk t).view.emb y) := rfl

theorem place0 (t : Fin cfg0.N) (f r : Fin 256) :
    (((cfg0.win 0).blk t).view.emb (ix3 0 f r) : S4x1024x8192.Idx) = ix3 (gB t) ⟨(gH t).val * 256 + f.val, by omega⟩ ⟨(gI t).val * 256 + r.val, by omega⟩ := by
  blk_ext [index0 t]

theorem readAt0 (W : (b : Ref sig .tc) → Buf (Elt Ideal) ((c : Thread nD τ).loc b)) (t : Fin cfg0.N) (f r : Fin 256) :
    ((cfg0.win 0).blk t).view.read (Elt Ideal) (W (Pipeline.arrRef spec0 0)) (ix3 0 f r) = W main_v6 (ix3 (gB t) ⟨(gH t).val * 256 + f.val, by omega⟩ ⟨(gI t).val * 256 + r.val, by omega⟩) :=
  (read0 c W t _).trans (congrArg (W main_v6) (place0 t _ _))

theorem blockQ (t : Fin cfg0.N) (f r : Fin 256) :
    iblk m c 0 t (ix3 0 f r) = hostQ (m ((c : Thread nD τ).loc main_arg0)) (ix3 (gB t) ⟨(gH t).val * 256 + f.val, by omega⟩ ⟨(gI t).val * 256 + r.val, by omega⟩) := by
  rw [← V_q]
  exact readAt0 c (V m c) t f r

theorem read1 (W : (b : Ref sig .tc) → Buf (Elt Ideal) ((c : Thread nD τ).loc b)) (t : Fin cfg0.N) (y : S1x8448x256.Idx) :
    ((cfg0.win 1).blk t).view.read (Elt Ideal) (W (Pipeline.arrRef spec0 1)) y = W main_v9 (((cfg0.win 1).blk t).view.emb y) := rfl

theorem place1 (t : Fin cfg0.N) (n : Fin 8448) (f : Fin 256) :
    (((cfg0.win 1).blk t).view.emb (ix3 0 n f) : S4x8448x256.Idx) = ix3 (gB t) n f := by
  blk_ext [index1 t]

theorem readAt1 (W : (b : Ref sig .tc) → Buf (Elt Ideal) ((c : Thread nD τ).loc b)) (t : Fin cfg0.N) (n : Fin 8448) (f : Fin 256) :
    ((cfg0.win 1).blk t).view.read (Elt Ideal) (W (Pipeline.arrRef spec0 1)) (ix3 0 n f) = W main_v9 (ix3 (gB t) n f) :=
  (read1 c W t _).trans (congrArg (W main_v9) (place1 t _ _))

theorem blockK (t : Fin cfg0.N) (n : Fin 8448) (f : Fin 256) :
    iblk m c 1 t (ix3 0 n f) = hostK (m ((c : Thread nD τ).loc main_arg1)) (m ((c : Thread nD τ).loc main_arg3)) (ix3 (gB t) n f) := by
  rw [← V_k]
  exact readAt1 c (V m c) t n f

theorem read2 (W : (b : Ref sig .tc) → Buf (Elt Ideal) ((c : Thread nD τ).loc b)) (t : Fin cfg0.N) (y : S1x80x8448.Idx) :
    ((cfg0.win 2).blk t).view.read (Elt Ideal) (W (Pipeline.arrRef spec0 2)) y = W main_v15 (((cfg0.win 2).blk t).view.emb y) := rfl

theorem place2 (t : Fin cfg0.N) (f : Fin 80) (n : Fin 8448) :
    (((cfg0.win 2).blk t).view.emb (ix3 0 f n) : S4x320x8448.Idx) = ix3 (gB t) ⟨(gH t).val * 80 + f.val, by omega⟩ n := by
  blk_ext [index2 t]

theorem readAt2 (W : (b : Ref sig .tc) → Buf (Elt Ideal) ((c : Thread nD τ).loc b)) (t : Fin cfg0.N) (f : Fin 80) (n : Fin 8448) :
    ((cfg0.win 2).blk t).view.read (Elt Ideal) (W (Pipeline.arrRef spec0 2)) (ix3 0 f n) = W main_v15 (ix3 (gB t) ⟨(gH t).val * 80 + f.val, by omega⟩ n) :=
  (read2 c W t _).trans (congrArg (W main_v15) (place2 t _ _))

theorem blockV (t : Fin cfg0.N) (f : Fin 80) (n : Fin 8448) :
    iblk m c 2 t (ix3 0 f n) = hostV (m ((c : Thread nD τ).loc main_arg2)) (m ((c : Thread nD τ).loc main_arg4)) (ix3 (gB t) ⟨(gH t).val * 80 + f.val, by omega⟩ n) := by
  rw [← V_v]
  exact readAt2 c (V m c) t f n

theorem place3 (t : Fin cfg0.N) (r f : Fin 256) :
    (((cfg0.win 3).blk t).view.emb (ix3 0 r f) : S4x8192x1024.Idx)
      = ix3 (gB t) ⟨(gI t).val * 256 + r.val, by omega⟩ ⟨(gH t).val * 256 + f.val, by omega⟩ := by
  blk_ext [index3 t]

end Cert.Proof.KernelIdeal

end
-- ==== Proof.RefVal.lean ====
/-
  The reference's result over the extended reals, at one element: the softmax average of the values.
-/
module

public import proofs.«01_k».proof.Proof.Gen.ReferenceIdeal.Read
public import proofs.«01_k».proof.Proof.Soft
public import Idealize.ShloMosaic.Lib.Pointwise
public import Idealize.ShloMosaic.Lib.IdealHost

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe Idealize.ShloMosaic.StableHlo
open Cert.Proof.Soft

/-- A row of the keys (or of the values): latent rows first, then context rows. -/
def rowAll (k : FVec Ideal S4x8192x4x64 .f32) (kc : FVec Ideal S4x256x4x64 .f32) (b : Fin 4) (n : Fin 8448) (h : Fin 4) (d : Fin 64) : EReal :=
  if hn : n.val < 8192 then k (ix4 b ⟨n.val, hn⟩ h d) else kc (ix4 b ⟨n.val - 8192, by omega⟩ h d)

variable (q : FVec Ideal S4x8192x16x64 .f32) (k : FVec Ideal S4x8192x4x64 .f32) (v : FVec Ideal S4x8192x4x64 .f32)
  (kc : FVec Ideal S4x256x4x64 .f32) (vc : FVec Ideal S4x256x4x64 .f32)

theorem v0_apply (b : Fin 4) (n : Fin 8448) (h : Fin 4) (d : Fin 64) : val_main_v0 (F := Ideal) k kc (ix4 b n h d) = rowAll k kc b n h d := by
  unfold val_main_v0 rowAll
  pointwise

theorem v1_apply (b : Fin 4) (n : Fin 8448) (h : Fin 4) (d : Fin 64) : val_main_v1 (F := Ideal) k kc (ix4 b n h d) = rowAll k kc b n h d :=
  v0_apply k kc b n h d

theorem v2_apply (b : Fin 4) (n : Fin 8192) (h g : Fin 4) (d : Fin 64) :
    val_main_v2 (F := Ideal) q (ix5 b n h g d) = q (ix4 b n ⟨h.val * 4 + g.val, by omega⟩ d) := by
  unfold val_main_v2
  pointwise

/-- A score: the product of a query and a key. -/
def dotR (b h g : Fin 4) (n : Fin 8192) (j : Fin 8448) : EReal :=
  ∑ d : Fin 64, rowAll k kc b j h d * q (ix4 b n ⟨h.val * 4 + g.val, by omega⟩ d)

theorem lidx3 (b h g : Fin 4) (n : Fin 8192) (j : Fin 8448) (d : Fin 64) : lidx_main_v3 (ix5 b h j n g) d = ix4 b j h d := funext fun a => by
  match a with
  | ⟨0, _⟩ => rfl
  | ⟨1, _⟩ => rfl
  | ⟨2, _⟩ => rfl
  | ⟨3, _⟩ => rfl

theorem ridx3 (b h g : Fin 4) (n : Fin 8192) (j : Fin 8448) (d : Fin 64) : ridx_main_v3 (ix5 b h j n g) d = ix5 b n h g d := funext fun a => by
  match a with
  | ⟨0, _⟩ => rfl
  | ⟨1, _⟩ => rfl
  | ⟨2, _⟩ => rfl
  | ⟨3, _⟩ => rfl
  | ⟨4, _⟩ => rfl

theorem idx4 (b h g : Fin 4) (n : Fin 8192) (j : Fin 8448) : idx_main_v4 (ix5 b h g n j) = ix5 b h j n g := funext fun a => by
  match a with
  | ⟨0, _⟩ => rfl
  | ⟨1, _⟩ => rfl
  | ⟨2, _⟩ => rfl
  | ⟨3, _⟩ => rfl
  | ⟨4, _⟩ => rfl

theorem idx1110 (b h g : Fin 4) (n : Fin 8192) (j : Fin 8448) : idx_main_v10 (idx_main_v11 (ix5 b h g n j)) = ix4 b h g n := funext fun a => by
  match a with
  | ⟨0, _⟩ => rfl
  | ⟨1, _⟩ => rfl
  | ⟨2, _⟩ => rfl
  | ⟨3, _⟩ => rfl

theorem idx1615 (b h g : Fin 4) (n : Fin 8192) (j : Fin 8448) : idx_main_v15 (idx_main_v16 (ix5 b h g n j)) = ix4 b h g n := funext fun a => by
  match a with
  | ⟨0, _⟩ => rfl
  | ⟨1, _⟩ => rfl
  | ⟨2, _⟩ => rfl
  | ⟨3, _⟩ => rfl

theorem idx14 (b h g : Fin 4) (n : Fin 8192) (j : Fin 8448) : idx_main_v14 (ix4 b h g n) j = ix5 b h g n j := funext fun a => by
  match a with
  | ⟨0, _⟩ => rfl
  | ⟨1, _⟩ => rfl
  | ⟨2, _⟩ => rfl
  | ⟨3, _⟩ => rfl
  | ⟨4, _⟩ => rfl

theorem lidx18 (b h g : Fin 4) (n : Fin 8192) (j : Fin 8448) (d : Fin 64) : lidx_main_v18 (ix5 b h d g n) j = ix4 b j h d := funext fun a => by
  match a with
  | ⟨0, _⟩ => rfl
  | ⟨1, _⟩ => rfl
  | ⟨2, _⟩ => rfl
  | ⟨3, _⟩ => rfl

theorem ridx18 (b h g : Fin 4) (n : Fin 8192) (j : Fin 8448) (d : Fin 64) : ridx_main_v18 (ix5 b h d g n) j = ix5 b h g n j := funext fun a => by
  match a with
  | ⟨0, _⟩ => rfl
  | ⟨1, _⟩ => rfl
  | ⟨2, _⟩ => rfl
  | ⟨3, _⟩ => rfl
  | ⟨4, _⟩ => rfl

theorem idx19 (b h g : Fin 4) (n : Fin 8192) (d : Fin 64) : idx_main_v19 (ix5 b n h g d) = ix5 b h d g n := funext fun a => by
  match a with
  | ⟨0, _⟩ => rfl
  | ⟨1, _⟩ => rfl
  | ⟨2, _⟩ => rfl
  | ⟨3, _⟩ => rfl
  | ⟨4, _⟩ => rfl

theorem v3_apply (b h g : Fin 4) (n : Fin 8192) (j : Fin 8448) : val_main_v3 (F := Ideal) q k kc (ix5 b h j n g) = dotR q k kc b h g n j := by
  rw [val_main_v3_apply]
  unfold dotR
  refine Finset.sum_congr rfl fun d _ => ?_
  rw [lidx3, ridx3, v0_apply, v2_apply]

theorem eighth : Ideal.ofBits .f32 0x3E000000#32 = ((1 / 8 : ℝ) : EReal) := by
  simp [Ideal.ofBits, Ideal.ieee]
  rw [← EReal.coe_mul]
  norm_num

theorem v6_apply (b h g : Fin 4) (n : Fin 8192) (j : Fin 8448) :
    val_main_v6 (F := Ideal) q k kc (ix5 b h g n j) = dotR q k kc b h g n j * ((1 / 8 : ℝ) : EReal) := by
  rw [val_main_v6_apply, val_main_v4_apply, val_main_v5_apply, val_main_cst_apply, idx4, v3_apply, ← eighth]
  rfl

theorem negInf : Ideal.ofBits .f32 0xFF800000#32 = (⊥ : EReal) := by simp [Ideal.ofBits, Ideal.ieee]

theorem v7_apply (b h g : Fin 4) (n : Fin 8192) :
    val_main_v7 (F := Ideal) q k kc (ix4 b h g n) = Finset.univ.fold max ⊥ fun j : Fin 8448 => val_main_v6 (F := Ideal) q k kc (ix5 b h g n j) := by
  unfold val_main_v7
  generalize val_main_v6 (F := Ideal) q k kc = y
  have e := Host.reduce_eq_fold_single (FloatOps.maximumf (F := Ideal) (φ := .f32)) y (val_main_cst_0 (F := Ideal))
    reducesTo_S4x4x4x8192x8448_S4x4x4x8192_d4 (by decide) h_S_ (ix4 b h g n)
  rw [e, val_main_cst_0_apply]
  refine (congrArg₂ (fun i f => Finset.fold max i f Finset.univ) negInf (funext fun j => congrArg y (funext fun a => Fin.ext ?_)))
  match a with
  | ⟨0, _⟩ => rfl
  | ⟨1, _⟩ => rfl
  | ⟨2, _⟩ => rfl
  | ⟨3, _⟩ => rfl
  | ⟨4, _⟩ => rfl

/-- The largest score of a query is a real number when all its scores are. -/
theorem v9_real (b h g : Fin 4) (n : Fin 8192) (hS : ∀ j, IsReal (dotR q k kc b h g n j)) :
    IsReal (val_main_v9 (F := Ideal) q k kc (ix4 b h g n)) := by
  have h7 : IsReal (val_main_v7 (F := Ideal) q k kc (ix4 b h g n)) := by
    rw [v7_apply]
    refine fold_max_real _ _ (fun j _ => ?_) (0 : Fin 8448) (Finset.mem_univ _)
    rw [v6_apply]
    exact (hS j).mul ⟨1 / 8, rfl⟩
  rw [val_main_v9_apply, val_main_v8_apply, val_main_cst_1_apply]
  generalize val_main_v7 (F := Ideal) q k kc (ix4 b h g n) = y at h7 ⊢
  show IsReal (max (Ideal.ofBits .f32 0xFF800000#32) y)
  rw [negInf, max_eq_right bot_le]
  exact h7

theorem v13_apply (b h g : Fin 4) (n : Fin 8192) (j : Fin 8448) :
    val_main_v13 (F := Ideal) q k kc (ix5 b h g n j)
      = Ideal.exp (dotR q k kc b h g n j * ((1 / 8 : ℝ) : EReal) - val_main_v9 (F := Ideal) q k kc (ix4 b h g n)) := by
  rw [val_main_v13_apply, val_main_v12_apply, v6_apply, val_main_v11_apply, val_main_v10_apply, idx1110]
  rfl

theorem v17_apply (b h g : Fin 4) (n : Fin 8192) (j : Fin 8448) :
    val_main_v17 (F := Ideal) q k kc (ix5 b h g n j)
      = Ideal.div (val_main_v13 (F := Ideal) q k kc (ix5 b h g n j)) (∑ i : Fin 8448, val_main_v13 (F := Ideal) q k kc (ix5 b h g n i)) := by
  rw [val_main_v17_apply, val_main_v16_apply, val_main_v15_apply, idx1615, val_main_v14_apply, val_main_cst_2_apply]
  simp only [idx14]
  generalize val_main_v13 (F := Ideal) q k kc = y
  show Ideal.div (y (ix5 b h g n j)) (Ideal.ofBits .f32 0x00000000#32 + ∑ i : Fin 8448, y (ix5 b h g n i)) = _
  rw [Ideal.ofBits_zero_f32, zero_add]

theorem v19_apply (b : Fin 4) (n : Fin 8192) (h g : Fin 4) (d : Fin 64) :
    val_main_v19 (F := Ideal) q k v kc vc (ix5 b n h g d)
      = ∑ j : Fin 8448, rowAll v vc b j h d * val_main_v17 (F := Ideal) q k kc (ix5 b h g n j) := by
  rw [val_main_v19_apply, idx19, val_main_v18_apply]
  refine Finset.sum_congr rfl fun j _ => ?_
  rw [lidx18, ridx18, v1_apply]

theorem v21_apply (b : Fin 4) (n : Fin 8192) (f : Fin 1024) :
    val_main_v21 (F := Ideal) q k v kc vc (ix3 b n f)
      = val_main_v19 (F := Ideal) q k v kc vc (ix5 b n ⟨f.val / 256, by omega⟩ ⟨f.val / 64 % 4, by omega⟩ ⟨f.val % 64, by omega⟩) := by
  rw [val_main_v21_apply, val_main_v20_apply]
  show val_main_v19 (F := Ideal) q k v kc vc _ = _
  have hb := b.isLt
  have hn := n.isLt
  have hf := f.isLt
  refine congrArg _ (funext fun a => Fin.ext ?_)
  match a with
  | ⟨0, _⟩ => show ((b.val * 8192 + n.val) * 1024 + f.val) / 8388608 = b.val; omega
  | ⟨1, _⟩ => show ((b.val * 8192 + n.val) * 1024 + f.val) / 1024 % 8192 = n.val; omega
  | ⟨2, _⟩ => show ((b.val * 8192 + n.val) * 1024 + f.val) / 256 % 4 = f.val / 256; omega
  | ⟨3, _⟩ => show ((b.val * 8192 + n.val) * 1024 + f.val) / 64 % 4 = f.val / 64 % 4; omega
  | ⟨4, _⟩ => show ((b.val * 8192 + n.val) * 1024 + f.val) % 64 = f.val % 64; omega

end Cert.Proof.ReferenceIdeal

end
-- ==== Proof.Value.lean ====
/-
  An element of the kernel's block and the reference's element at the same place are equal, where the queries and the keys are real.
-/
module

public import proofs.«01_k».proof.Proof.Result
public import proofs.«01_k».proof.Proof.RefVal

@[expose] public section

set_option maxRecDepth 16384

noncomputable section

namespace Cert.Proof.Value

open Idealize.ShloMosaic Idealize.ShloMosaic.TcCoe
open Cert.Proof.Soft Cert.Proof.KernelIdeal Cert.Proof.ReferenceIdeal
open Cert.ReferenceIdeal.Read

section Reference

open Cert.ReferenceIdeal

variable (q : FVec Ideal S4x8192x16x64 .f32) (k : FVec Ideal S4x8192x4x64 .f32) (v : FVec Ideal S4x8192x4x64 .f32)
  (kc : FVec Ideal S4x256x4x64 .f32) (vc : FVec Ideal S4x256x4x64 .f32)

/-- The reference's element, from its real scores and the number it subtracts from them. -/
theorem ref_soft (b : Fin 4) (n : Fin 8192) (h g : Fin 4) (d : Fin 64) (s' : ℕ → ℝ) (M' : ℝ)
    (hs : ∀ j : Fin 8448, dotR q k kc b h g n j * ((1 / 8 : ℝ) : EReal) = (s' j.val : EReal))
    (hM : val_main_v9 (F := Ideal) q k kc (ix4 b h g n) = (M' : EReal)) :
    val_main_v19 (F := Ideal) q k v kc vc (ix5 b n h g d)
      = ∑ j ∈ Finset.range 8448, rowAll v vc b ⟨j % 8448, Nat.mod_lt _ (by decide)⟩ h d
          * ((Real.exp (s' j - M') / ∑ i ∈ Finset.range 8448, Real.exp (s' i - M') : ℝ) : EReal) := by
  have h13 : ∀ j : Fin 8448, val_main_v13 (F := Ideal) q k kc (ix5 b h g n j) = (Real.exp (s' j.val - M') : EReal) := fun j => by
    rw [v13_apply, hs, hM, ← EReal.coe_sub, Ideal.exp_coe]
  have hpos : 0 < ∑ i ∈ Finset.range 8448, Real.exp (s' i - M') :=
    Finset.sum_pos (fun n _ => Real.exp_pos _) ⟨0, Finset.mem_range.mpr (by norm_num)⟩
  have hsum : ∑ i : Fin 8448, val_main_v13 (F := Ideal) q k kc (ix5 b h g n i) = ((∑ i ∈ Finset.range 8448, Real.exp (s' i - M') : ℝ) : EReal) := by
    rw [coe_sum, Finset.sum_range]
    exact Finset.sum_congr rfl fun i _ => h13 i
  rw [v19_apply, Finset.sum_range]
  refine Finset.sum_congr rfl fun j _ => ?_
  rw [v17_apply, hsum, h13, Ideal.div_coe hpos.ne', ← EReal.coe_mul]
  refine congrArg₂ (fun x y : EReal => x * y) (congrArg (fun x => rowAll v vc b x h d) (Fin.ext (Nat.mod_eq_of_lt j.isLt).symm)) ?_
  rw [mul_one_div]

end Reference

open Cert.KernelIdeal Cert.KernelIdeal.Gen

variable (m : (ℓ : Loc nD τ sig) → Buf (Elt Ideal) ℓ) (c : Dev nD)

/-- The queries. -/
abbrev aQ : FVec Ideal S4x8192x16x64 .f32 := m ((c : Thread nD τ).loc main_arg0)
/-- The latent keys. -/
abbrev aK : FVec Ideal S4x8192x4x64 .f32 := m ((c : Thread nD τ).loc main_arg1)
/-- The latent values. -/
abbrev aV : FVec Ideal S4x8192x4x64 .f32 := m ((c : Thread nD τ).loc main_arg2)
/-- The context's keys. -/
abbrev aKc : FVec Ideal S4x256x4x64 .f32 := m ((c : Thread nD τ).loc main_arg3)
/-- The context's values. -/
abbrev aVc : FVec Ideal S4x256x4x64 .f32 := m ((c : Thread nD τ).loc main_arg4)

/-- The scores that the kernel's body forms, from the arguments. -/
theorem kernel_dot (t : Fin cfg0.N) (r f : Fin 256) (n : ℕ) :
    dotKey (iblk m c 1 t) (queryCols (gH t).val (f.val / 64) (iblk m c 0 t)) r n
      = ∑ d : Fin 64, rowAll (aK m c) (aKc m c) (gB t)
            ⟨n % 8448, Nat.mod_lt _ (by decide)⟩ (gH t) d
          * (aQ m c (ix4 (gB t) ⟨(gI t).val * 256 + r.val, by omega⟩ ⟨(gH t).val * 4 + f.val / 64, by omega⟩ d)
            * (scaleC : EReal)) := by
  have hh := (gH t).isLt
  rw [dotKey_query _ _ hh (by omega)]
  refine Finset.sum_congr rfl fun d _ => ?_
  have hd := d.isLt
  rw [blockK, hostK_apply, blockQ, hostQ_apply]
  have e1 : (⟨(64 * (gH t).val + d.val) / 64, by omega⟩ : Fin 4) = gH t := Fin.ext (by show (64 * (gH t).val + d.val) / 64 = _; omega)
  have e2 : (⟨(64 * (gH t).val + d.val) % 64, by omega⟩ : Fin 64) = d := Fin.ext (by show (64 * (gH t).val + d.val) % 64 = _; omega)
  have e3 : (⟨((gH t).val * 256 + (64 * (f.val / 64) + d.val)) / 64, by omega⟩ : Fin 16) = ⟨(gH t).val * 4 + f.val / 64, by omega⟩ :=
    Fin.ext (by show ((gH t).val * 256 + (64 * (f.val / 64) + d.val)) / 64 = (gH t).val * 4 + f.val / 64; omega)
  have e4 : (⟨((gH t).val * 256 + (64 * (f.val / 64) + d.val)) % 64, by omega⟩ : Fin 64) = d :=
    Fin.ext (by show ((gH t).val * 256 + (64 * (f.val / 64) + d.val)) % 64 = d.val; omega)
  refine congrArg₂ (fun x y : EReal => x * y) ?_ ?_
  · exact (congrArg₂ (fun x y => keyAll _ _ (gB t) _ x y) e1 e2)
  · exact congrArg (fun x : EReal => x * (scaleC : EReal)) (congrArg₂ (fun x y => aQ m c (ix4 (gB t) _ x y)) e3 e4)

/-- The rows of the values under a head, and the row of ones. -/
theorem kernel_val (t : Fin cfg0.N) (d : Fin 64) (n : ℕ) :
    valAt (iblk m c 2 t) ⟨d.val, by omega⟩ n
      = rowAll (aV m c) (aVc m c) (gB t)
            ⟨n % 8448, Nat.mod_lt _ (by decide)⟩ (gH t) d := by
  have hh := (gH t).isLt
  have hd := d.isLt
  unfold valAt
  rw [blockV, hostV_apply]
  have hm : ((gH t).val * 80 + d.val) % 80 = d.val := by omega
  refine (dif_pos (show ((gH t).val * 80 + d.val) % 80 < 64 by omega)).trans ?_
  have e1 : (⟨((gH t).val * 80 + d.val) / 80, by omega⟩ : Fin 4) = gH t := Fin.ext (by show ((gH t).val * 80 + d.val) / 80 = _; omega)
  have e2 : (⟨((gH t).val * 80 + d.val) % 80, by omega⟩ : Fin 64) = d := Fin.ext hm
  exact (congrArg₂ (fun x y => keyAll _ _ (gB t) _ x y) e1 e2)

theorem kernel_ones (t : Fin cfg0.N) (n : ℕ) : valAt (iblk m c 2 t) 64 n = 1 := by
  have hh := (gH t).isLt
  unfold valAt
  rw [blockV, hostV_apply]
  exact dif_neg (show ¬ ((gH t).val * 80 + 64) % 80 < 64 by omega)

theorem block_eq (hq : ∀ i, IsReal (aQ m c i)) (hk : ∀ i, IsReal (aK m c i))
    (hkc : ∀ i, IsReal (aKc m c i)) (t : Fin cfg0.N) (r f : Fin 256) :
    outVal (gH t).val (iblk m c 0 t) (iblk m c 1 t) (iblk m c 2 t) (ix3 0 r f)
      = val_main_v19 (F := Ideal) (aQ m c) (aK m c) (aV m c)
          (aKc m c) (aVc m c)
          (ix5 (gB t) ⟨(gI t).val * 256 + r.val, by omega⟩ (gH t) ⟨f.val / 64, by omega⟩ ⟨f.val % 64, by omega⟩) := by
  have hrow : ∀ (n : Fin 8448) (d : Fin 64), IsReal (rowAll (aK m c) (aKc m c) (gB t) n (gH t) d) := by
    intro n d
    unfold rowAll
    split
    · exact hk _
    · exact hkc _
  choose kr hkr using hrow
  have hqr : ∀ d : Fin 64, IsReal (aQ m c (ix4 (gB t) ⟨(gI t).val * 256 + r.val, by omega⟩ ⟨(gH t).val * 4 + f.val / 64, by omega⟩ d)) :=
    fun d => hq _
  choose qr hqr using hqr
  let w : ℕ → Fin 8448 := fun n => ⟨n % 8448, Nat.mod_lt _ (by decide)⟩
  let S : ℕ → ℝ := fun n => ∑ d : Fin 64, kr (w n) d * (qr d * scaleC)
  let s' : ℕ → ℝ := fun n => (∑ d : Fin 64, kr (w n) d * qr d) * (1 / 8)
  have hS : ∀ n, dotKey (iblk m c 1 t) (queryCols (gH t).val (f.val / 64) (iblk m c 0 t)) r n = (S n : EReal) := by
    intro n
    rw [kernel_dot]
    show _ = ((∑ d : Fin 64, kr (w n) d * (qr d * scaleC) : ℝ) : EReal)
    rw [coe_sum]
    refine Finset.sum_congr rfl fun d _ => ?_
    rw [hkr, hqr, EReal.coe_mul, EReal.coe_mul]
  have hdot : ∀ j : Fin 8448, dotR (aQ m c) (aK m c) (aKc m c)
      (gB t) (gH t) ⟨f.val / 64, by omega⟩ ⟨(gI t).val * 256 + r.val, by omega⟩ j = ((∑ d : Fin 64, kr j d * qr d : ℝ) : EReal) := by
    intro j
    unfold dotR
    rw [coe_sum]
    refine Finset.sum_congr rfl fun d _ => ?_
    rw [hkr, hqr, EReal.coe_mul]
  obtain ⟨M', hM'⟩ := v9_real (aQ m c) (aK m c) (aKc m c)
    (gB t) (gH t) ⟨f.val / 64, by omega⟩ ⟨(gI t).val * 256 + r.val, by omega⟩ (fun j => ⟨_, hdot j⟩)
  have hw : ∀ j : Fin 8448, w j.val = j := fun j => Fin.ext (Nat.mod_eq_of_lt j.isLt)
  rw [ref_soft _ _ _ _ _ _ _ _ _ _ s' M' (fun j => by
    rw [hdot, ← EReal.coe_mul]
    show _ = (((∑ d : Fin 64, kr (w j.val) d * qr d) * (1 / 8) : ℝ) : EReal)
    rw [hw]) hM']
  obtain ⟨M, hM⟩ := outVal_soft (gH t).val (iblk m c 0 t) (iblk m c 1 t) (iblk m c 2 t) r f S hS
  rw [hM]
  have h1 : valAt (iblk m c 2 t) 64 = fun _ => (1 : EReal) := funext (kernel_ones m c t)
  have h2 : valAt (iblk m c 2 t) ⟨f.val % 64, by omega⟩ = fun n => rowAll (aV m c) (aVc m c) (gB t)
            ⟨n % 8448, Nat.mod_lt _ (by decide)⟩ (gH t) ⟨f.val % 64, by omega⟩ := funext (kernel_val m c t ⟨f.val % 64, by omega⟩)
  rw [h1, h2]
  refine soft_eq S s' _ 8448 (by norm_num) M M' fun n _ => ?_
  have hl : Real.log 2 ≠ 0 := (Real.log_pos (by norm_num)).ne'
  show (∑ d : Fin 64, kr (w n) d * qr d) * (1 / 8) = Real.log 2 * ∑ d : Fin 64, kr (w n) d * (qr d * scaleC)
  rw [Finset.sum_mul, Finset.mul_sum]
  refine Finset.sum_congr rfl fun d _ => ?_
  unfold scaleC
  field_simp

end Cert.Proof.Value

end
-- ==== Proof.Pre.lean ====
/-
  What the precondition says of the queries and the keys: every element is a real number.
-/
module

public import proofs.«01_k».proof.Defs
public import proofs.«01_k».proof.Proof.Gen.Pre_finite
public import proofs.«01_k».proof.Proof.Soft
public import Idealize.ShloMosaic.Lib.ReduceAll
public import Idealize.ShloMosaic.Lib.IdealHost

@[expose] public section

set_option maxRecDepth 16384

noncomputable section

namespace Cert.Proof.Pre

open Cert.Pre_finite Cert.Pre_finite.Gen
open Idealize.ShloMosaic
open Cert.Proof.Soft

theorem posInf : Ideal.ofBits .f32 0x7F800000#32 = (⊤ : EReal) := by simp [Ideal.ofBits, Ideal.ieee]

/-- An element below `⊤` and above its opposite is a real. -/
theorem real_of_bits (x : EReal) (h : BitVec.ofBool (decide (x < ⊤)) &&& BitVec.ofBool (decide (-⊤ < x)) = 1#1) : IsReal x := by
  have h1 : x < ⊤ := by
    by_contra hn
    rw [decide_eq_false hn] at h
    revert h
    cases decide (-⊤ < x) <;> decide
  have h2 : -⊤ < x := by
    by_contra hn
    rw [decide_eq_false hn] at h
    revert h
    cases decide (x < ⊤) <;> decide
  rw [EReal.neg_top] at h2
  exact ⟨x.toReal, (EReal.coe_toReal h1.ne h2.ne').symm⟩

theorem real_of_elem (x : Ideal .f32)
    (h : IntOp.andi (FloatOps.cmpf (F := Ideal) .olt x (FloatOps.ofBits (F := Ideal) .f32 0x7F800000#32))
      (FloatOps.cmpf (F := Ideal) .ogt x (FloatOps.hostNegf (F := Ideal) (FloatOps.ofBits (F := Ideal) .f32 0x7F800000#32))) = 1#1) : IsReal x := by
  refine real_of_bits x ?_
  rw [← posInf]
  exact h

theorem and_left {a b : BitVec 1} (h : IntOp.andi a b = 1#1) : a = 1#1 := by
  revert h; unfold IntOp.andi; revert a b; decide
theorem and_right {a b : BitVec 1} (h : IntOp.andi a b = 1#1) : b = 1#1 := by
  revert h; unfold IntOp.andi; revert a b; decide

instance : Subsingleton S_.Idx := ⟨fun a b => funext fun i => i.elim0⟩

variable (q : FVec Ideal S4x8192x16x64 .f32) (k : FVec Ideal S4x8192x4x64 .f32) (v : FVec Ideal S4x8192x4x64 .f32)
  (kc : FVec Ideal S4x256x4x64 .f32) (vc : FVec Ideal S4x256x4x64 .f32)

theorem pre_real (h : Cert.Pre_finite.fn (F := Ideal) q k v kc vc = fun _ => 1#1) :
    (∀ i, IsReal (q i)) ∧ (∀ i, IsReal (k i)) ∧ ∀ i, IsReal (kc i) := by
  dsimp only [fn, fn_part1] at h
  have h0 := congrFun h (Shape.Idx.first Facts.h_S_)
  have h12 := and_left h0
  have h3 := and_right h0
  have h1 := and_left h12
  have h2 := and_right h12
  exact ⟨fun i => real_of_elem _ (Host.reduce_andi_all _ _ _ _ _ h1 i), fun i => real_of_elem _ (Host.reduce_andi_all _ _ _ _ _ h2 i),
    fun i => real_of_elem _ (Host.reduce_andi_all _ _ _ _ _ h3 i)⟩

end Cert.Proof.Pre

end
-- ==== Proof.Algebraic.lean ====
/-
  The kernel and the reference, over the extended reals: the same result where the queries and the keys are real.
-/
module

public import proofs.«01_k».proof.Proof.Value
public import proofs.«01_k».proof.Proof.Pre
public import proofs.«01_k».proof.Defs

@[expose] public section

set_option maxRecDepth 16384

noncomputable section

namespace Cert.Proof.Value

open Cert.KernelIdeal Cert.KernelIdeal.Gen
open Idealize.ShloMosaic Idealize.ShloMosaic.TcCoe
open Idealize.SL.Sem
open Cert.Proof.Soft Cert.Proof.KernelIdeal Cert.Proof.ReferenceIdeal
open Cert.ReferenceIdeal.Read

variable (m : (ℓ : Loc nD τ sig) → Buf (Elt Ideal) ℓ) (c : Dev nD)

theorem block_at (hq : ∀ i, IsReal (aQ m c i)) (hk : ∀ i, IsReal (aK m c i)) (hkc : ∀ i, IsReal (aKc m c i)) (t : Fin cfg0.N) (r f : Fin 256) :
    outVal (gH t).val (iblk m c 0 t) (iblk m c 1 t) (iblk m c 2 t) (ix3 0 r f)
      = val_main_v21 (F := Ideal) (aQ m c) (aK m c) (aV m c) (aKc m c) (aVc m c)
          (ix3 (gB t) ⟨(gI t).val * 256 + r.val, by omega⟩ ⟨(gH t).val * 256 + f.val, by omega⟩) := by
  rw [block_eq m c hq hk hkc, v21_apply]
  have hh := (gH t).isLt
  have hf := f.isLt
  have e1 : (⟨((gH t).val * 256 + f.val) / 256, by omega⟩ : Fin 4) = gH t := Fin.ext (by show ((gH t).val * 256 + f.val) / 256 = (gH t).val; omega)
  have e2 : (⟨((gH t).val * 256 + f.val) / 64 % 4, by omega⟩ : Fin 4) = ⟨f.val / 64, by omega⟩ :=
    Fin.ext (by show ((gH t).val * 256 + f.val) / 64 % 4 = f.val / 64; omega)
  have e3 : (⟨((gH t).val * 256 + f.val) % 64, by omega⟩ : Fin 64) = ⟨f.val % 64, by omega⟩ :=
    Fin.ext (by show ((gH t).val * 256 + f.val) % 64 = f.val % 64; omega)
  refine congrArg _ ?_
  rw [e1, e2, e3]

/-- The array of results that the kernel leaves. -/
theorem result_eq (hq : ∀ i, IsReal (aQ m c i)) (hk : ∀ i, IsReal (aK m c i)) (hkc : ∀ i, IsReal (aKc m c i)) :
    (dats m 0 c).arrAt 3 cfg0.N = val_main_v21 (F := Ideal) (aQ m c) (aK m c) (aV m c) (aKc m c) (aVc m c) := by
  generalize hG : val_main_v21 (F := Ideal) (aQ m c) (aK m c) (aV m c) (aKc m c) (aVc m c) = G
  refine (dats m 0 c).arrAt_eq_of_covers 3 _ covers3 fun t hf y => ?_
  blk_simp
  rw [after0_3]
  have key : ∀ y : S1x256x256.Idx, outVal (gH t).val (iblk m c 0 t) (iblk m c 1 t) (iblk m c 2 t) y
      = G (((cfg0.win 3).blk t).view.emb y : S4x8192x1024.Idx) := by
    intro y
    obtain ⟨r, f, rfl⟩ : ∃ r f : Fin 256, y = ix3 0 r f := ⟨y 1, y 2, (eq_ix3 y).trans (congrArg (fun x => ix3 x (y 1) (y 2)) (Subsingleton.elim (α := Fin 1) _ _))⟩
    refine Eq.trans ?_ (congrArg G (place3 t r f)).symm
    rw [← hG]
    exact block_at m c hq hk hkc t r f
  exact key y

theorem algebraic [hPre : Cert.Pre_finite.Facts] :
    Cert.algebraic_KernelIdeal_ReferenceIdeal_pre_finite := by
  intro m g m' g' hpre hargs
  refine ⟨fun c => val_main_v21 (F := Ideal) (aQ m c) (aK m c) (aV m c) (aKc m c) (aVc m c), ?_, ?_⟩
  · have hrun := θ_run_and (run_main (F := Ideal) m g) (frame_main (F := Ideal) m g)
    refine (θ_run _ _ _).mono (fun r h c => ⟨?_, h.2.1 c⟩) hrun
    obtain ⟨hq, hk, hkc⟩ := Cert.Proof.Pre.pre_real _ _ _ _ _ (hpre c)
    exact (h.1.1.out_eq c 3).trans (result_eq m c hq hk hkc)
  · refine (θ_run _ _ _).mono (fun r h c => ⟨(h c).1.trans ?_, (h c).2⟩) (Cert.ReferenceIdeal.Value.run (F := Ideal) m' g')
    obtain ⟨h0, h1, h2, h3, h4⟩ := hargs c
    rw [val_main_v21_eq, h0, h1, h2, h3, h4]

end Cert.Proof.Value

end
-- ==== Proof.InFrames.lean ====
/-
  The frames of the input projection, of its idealization and of its reference.
-/
module

public import proofs.«01_k».proof.Defs
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

theorem frame_kernel2 : Cert.quiescent_Kernel2 (hKernel2 := Cert.Kernel2.Gen.facts) := fun m ρ _ => Cert.Kernel2.Gen.frame m ρ

theorem frame_ideal2 : Cert.quiescent_Kernel2Ideal (hKernel2Ideal := Cert.Kernel2Ideal.Gen.facts) := fun m ρ _ => Cert.Kernel2Ideal.Gen.frame m ρ

theorem frame_ref2 : Cert.quiescent_Reference2Ideal (hReference2Ideal := Cert.Reference2Ideal.Gen.facts) := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

end Cert.Proof

end
-- ==== Proof.InOut.lean ====
/-
  What one grid point of the input projection writes, window by window, from the blocks it reads.
-/
module

public import proofs.«01_k».proof.Proof.Gen.Kernel2Ideal.Frame
public import Idealize.ShloMosaic.Lib.Pipeline.Value
public import Idealize.ShloMosaic.Lib.PointwiseCore

@[expose] public section

set_option maxRecDepth 16384

noncomputable section

namespace Cert.Proof.In

open Cert.Kernel2Ideal Cert.Kernel2Ideal.Gen
open Idealize.ShloMosaic Idealize.ShloMosaic.TcCoe

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- 1024 columns of the weights from column `o`. -/
def wcols (o : ℕ) (w : Vec F S1024x6144 .bf16) : Vec F S1024x1024 .bf16 := fun y =>
  w (ix2 (y 0) ⟨(o + (y 1).val) % 6144, Nat.mod_lt _ (by decide)⟩)

/-- The last 2048 columns of the weights. -/
def wlast (w : Vec F S1024x6144 .bf16) : Vec F S1024x2048 .bf16 := fun y =>
  w (ix2 (y 0) ⟨(4096 + (y 1).val) % 6144, Nat.mod_lt _ (by decide)⟩)

theorem ld_x (X : Vec F S1x256x1024 .f32) (inb) : View.ld (Val := Elt F) (e' := .f32) X (Rect.unit (s := S1x256x1024) ![0, 0, 0] ![1, 256, 1024] inb) = X := View.ld_unit_zero hz3 inb X
theorem ld_s (X : Vec F S1x1x1024 .f32) (inb) : View.ld (Val := Elt F) (e' := .f32) X (Rect.unit (s := S1x1x1024) ![0, 0, 0] ![1, 1, 1024] inb) = X := View.ld_unit_zero hz3 inb X
theorem ld_g (X : Vec F S1x1024 .f32) (inb) : View.ld (Val := Elt F) (e' := .f32) X (Rect.unit (s := S1x1024) ![0, 0] ![1, 1024] inb) = X := View.ld_unit_zero hz2 inb X
theorem ld_f (X : Vec F S1536x1024 .bf16) (inb) : View.ld (Val := Elt F) (e' := .bf16) X (Rect.unit (s := S1536x1024) ![0, 0] ![1536, 1024] inb) = X := View.ld_unit_zero hz2 inb X
theorem ld_h (X : Vec F S64x256 .f32) (inb) : View.ld (Val := Elt F) (e' := .f32) X (Rect.unit (s := S64x256) ![0, 0] ![64, 256] inb) = X := View.ld_unit_zero hz2 inb X
theorem ld_c (X : Vec F S32x256 .f32) (inb) : View.ld (Val := Elt F) (e' := .f32) X (Rect.unit (s := S32x256) ![0, 0] ![32, 256] inb) = X := View.ld_unit_zero hz2 inb X

theorem ld_w (o : ℕ) (ho : o + 1024 ≤ 6144) (X : Vec F S1024x6144 .bf16) (inb) :
    View.ld (Val := Elt F) (e' := .bf16) X (Rect.unit (s := S1024x6144) ![0, o] ![1024, 1024] inb) = wcols o X := by
  funext y
  have h0 : (y (0 : Fin 2)).val < 1024 := (y (0 : Fin 2)).isLt
  have h1 : (y (1 : Fin 2)).val < 1024 := (y (1 : Fin 2)).isLt
  refine congrArg X (funext fun a => ?_)
  match a with
  | ⟨0, _⟩ => exact Fin.ext (by show 0 + 1 * (y (0 : Fin 2)).val = (y (0 : Fin 2)).val; omega)
  | ⟨1, _⟩ => exact Fin.ext (by show o + 1 * (y (1 : Fin 2)).val = (o + (y (1 : Fin 2)).val) % 6144; omega)

theorem ld_l (X : Vec F S1024x6144 .bf16) (inb) :
    View.ld (Val := Elt F) (e' := .bf16) X (Rect.unit (s := S1024x6144) ![0, 4096] ![1024, 2048] inb) = wlast X := by
  funext y
  have h0 : (y (0 : Fin 2)).val < 1024 := (y (0 : Fin 2)).isLt
  have h1 : (y (1 : Fin 2)).val < 2048 := (y (1 : Fin 2)).isLt
  refine congrArg X (funext fun a => ?_)
  match a with
  | ⟨0, _⟩ => exact Fin.ext (by show 0 + 1 * (y (0 : Fin 2)).val = (y (0 : Fin 2)).val; omega)
  | ⟨1, _⟩ => exact Fin.ext (by show 4096 + 1 * (y (1 : Fin 2)).val = (4096 + (y (1 : Fin 2)).val) % 6144; omega)

theorem ld_w0 (X : Vec F S1024x6144 .bf16) (inb) : View.ld (Val := Elt F) (e' := .bf16) X (Rect.unit (s := S1024x6144) ![0, 0] ![1024, 1024] inb) = wcols 0 X := ld_w 0 (by omega) X inb
theorem ld_w1 (X : Vec F S1024x6144 .bf16) (inb) : View.ld (Val := Elt F) (e' := .bf16) X (Rect.unit (s := S1024x6144) ![0, 1024] ![1024, 1024] inb) = wcols 1024 X := ld_w 1024 (by omega) X inb
theorem ld_w2 (X : Vec F S1024x6144 .bf16) (inb) : View.ld (Val := Elt F) (e' := .bf16) X (Rect.unit (s := S1024x6144) ![0, 2048] ![1024, 1024] inb) = wcols 2048 X := ld_w 2048 (by omega) X inb
theorem ld_w3 (X : Vec F S1024x6144 .bf16) (inb) : View.ld (Val := Elt F) (e' := .bf16) X (Rect.unit (s := S1024x6144) ![0, 3072] ![1024, 1024] inb) = wcols 3072 X := ld_w 3072 (by omega) X inb

variable (m : (ℓ : Loc nD τ sig) → Buf (Elt F) ℓ) (c : Dev nD) (t : Fin cfg0.N)

/-- The block of normed rows. -/
def bH : FVec F S256x1024 .bf16 := k0_pay6 (iblk m c 0 t) (iblk m c 3 t) (iblk m c 1 t) (iblk m c 2 t)

/-- The block of projected features. -/
def bP : FVec F S1536x256 .f32 := k0_pay15 (bH m c t) (iblk m c 5 t)

theorem out10 : (outsAt0 m c t).1
    = k0_pay8 (bH m c t) (k0_pay7 (iblk m c 0 t) (iblk m c 3 t) (iblk m c 1 t) (iblk m c 2 t) (wcols 0 (iblk m c 4 t))) (wcols 1024 (iblk m c 4 t)) := by
  unfold outsAt0 bH
  dsimp only
  unfold out0_A_10
  rw [View.read_writes_junk_eq_canon]
  unfold kernelRun0_A
  dsimp only
  sl_unfold_words
  simp only [View.readAt_eq_ld, Memref.IsWhole.read_unread, ld_x, ld_s, ld_g, ld_f, ld_h, ld_c, ld_w0, ld_w1, ld_w2, ld_w3, ld_l]
  exact View.canon_unit_zero hz3 _ _

theorem out11 : (outsAt0 m c t).2.1
    = k0_pay9 (bH m c t) (wcols 2048 (iblk m c 4 t)) := by
  unfold outsAt0 bH
  dsimp only
  unfold out0_A_11
  rw [View.read_writes_junk_eq_canon]
  unfold kernelRun0_A
  dsimp only
  sl_unfold_words
  simp only [View.readAt_eq_ld, Memref.IsWhole.read_unread, ld_x, ld_s, ld_g, ld_f, ld_h, ld_c, ld_w0, ld_w1, ld_w2, ld_w3, ld_l]
  exact View.canon_unit_zero hz3 _ _

theorem out12 : (outsAt0 m c t).2.2.1
    = k0_pay13 (k0_pay10 (bH m c t) (wcols 3072 (iblk m c 4 t))) (k0_pay11 (bH m c t) (wcols 3072 (iblk m c 4 t))) k0_pay12 := by
  unfold outsAt0 bH
  dsimp only
  unfold out0_A_12
  rw [View.read_writes_junk_eq_canon]
  unfold kernelRun0_A
  dsimp only
  sl_unfold_words
  simp only [View.readAt_eq_ld, Memref.IsWhole.read_unread, ld_x, ld_s, ld_g, ld_f, ld_h, ld_c, ld_w0, ld_w1, ld_w2, ld_w3, ld_l]
  exact View.canon_unit_zero hz3 _ _

theorem out13 : (outsAt0 m c t).2.2.2.1
    = k0_pay14 (bH m c t) (wlast (iblk m c 4 t)) := by
  unfold outsAt0 bH
  dsimp only
  unfold out0_A_13
  rw [View.read_writes_junk_eq_canon]
  unfold kernelRun0_A
  dsimp only
  sl_unfold_words
  simp only [View.readAt_eq_ld, Memref.IsWhole.read_unread, ld_x, ld_s, ld_g, ld_f, ld_h, ld_c, ld_w0, ld_w1, ld_w2, ld_w3, ld_l]
  exact View.canon_unit_zero hz3 _ _

theorem out14 : (outsAt0 m c t).2.2.2.2.1
    = k0_pay19 (k0_pay4 (iblk m c 8 t)) (k0_pay5 (iblk m c 9 t)) (k0_pay16 (bH m c t) (iblk m c 5 t)) (k0_pay17 (iblk m c 6 t)) (k0_pay18 (bH m c t) (iblk m c 5 t)) := by
  unfold outsAt0 bH
  dsimp only
  unfold out0_A_14
  rw [View.read_writes_junk_eq_canon]
  unfold kernelRun0_A
  dsimp only
  sl_unfold_words
  simp only [View.readAt_eq_ld, Memref.IsWhole.read_unread, ld_x, ld_s, ld_g, ld_f, ld_h, ld_c, ld_w0, ld_w1, ld_w2, ld_w3, ld_l]
  exact View.canon_unit_zero hz3 _ _

theorem out15 : (outsAt0 m c t).2.2.2.2.2.1
    = k0_pay26 (k0_pay21 (bP m c t) (iblk m c 7 t)) (k0_pay22 (bP m c t) (iblk m c 7 t)) (k0_pay23 (k0_pay4 (iblk m c 8 t))) (k0_pay24 (k0_pay5 (iblk m c 9 t)))
        (k0_pay25 (k0_pay4 (iblk m c 8 t)) (k0_pay5 (iblk m c 9 t)) (bP m c t) (iblk m c 7 t)) := by
  unfold outsAt0 bP bH
  dsimp only
  unfold out0_A_15
  rw [View.read_writes_junk_eq_canon]
  unfold kernelRun0_A
  dsimp only
  sl_unfold_words
  simp only [View.readAt_eq_ld, Memref.IsWhole.read_unread, ld_x, ld_s, ld_g, ld_f, ld_h, ld_c, ld_w0, ld_w1, ld_w2, ld_w3, ld_l]
  exact View.canon_unit_zero hz3 _ _

/-- The eight stores of the values' block: 64 feature rows and 16 rows of ones for each head. -/
theorem out16 : (outsAt0 m c t).2.2.2.2.2.2 = View.canon (Val := Elt F) (s := S1x320x256) (e := .bf16)
    [⟨Rect.unit (s := S1x320x256) ![0, 304, 0] S1x16x256.size inb_S1x320x256_S1x16x256_0_304_0, k0_pay3 (k0_pay27 (F := F))⟩,
     ⟨Rect.unit (s := S1x320x256) ![0, 240, 0] S1x64x256.size inb_S1x320x256_S1x64x256_0_240_0, k0_pay2 (bP m c t)⟩,
     ⟨Rect.unit (s := S1x320x256) ![0, 224, 0] S1x16x256.size inb_S1x320x256_S1x16x256_0_224_0, k0_pay1 (k0_pay27 (F := F))⟩,
     ⟨Rect.unit (s := S1x320x256) ![0, 160, 0] S1x64x256.size inb_S1x320x256_S1x64x256_0_160_0, k0_pay32 (bP m c t)⟩,
     ⟨Rect.unit (s := S1x320x256) ![0, 144, 0] S1x16x256.size inb_S1x320x256_S1x16x256_0_144_0, k0_pay31 (F := F)⟩,
     ⟨Rect.unit (s := S1x320x256) ![0, 80, 0] S1x64x256.size inb_S1x320x256_S1x64x256_0_80_0, k0_pay30 (bP m c t)⟩,
     ⟨Rect.unit (s := S1x320x256) ![0, 64, 0] S1x16x256.size inb_S1x320x256_S1x16x256_0_64_0, k0_pay29 (F := F)⟩,
     ⟨Rect.unit (s := S1x320x256) ![0, 0, 0] S1x64x256.size inb_S1x320x256_S1x64x256_0_0_0, k0_pay28 (bP m c t)⟩] := by
  unfold outsAt0 bP bH
  dsimp only
  unfold out0_A_16
  rw [View.read_writes_junk_eq_canon]
  unfold kernelRun0_A
  dsimp only
  sl_unfold_words
  simp only [View.readAt_eq_ld, Memref.IsWhole.read_unread, ld_x, ld_s, ld_g, ld_f, ld_h, ld_c, ld_w0, ld_w1, ld_w2, ld_w3, ld_l]

end Cert.Proof.In

end
-- ==== Proof.InVals.lean ====
/-
  The input projection's arithmetic over the extended reals, read at one element.
-/
module

public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Proof.In

open Cert.Kernel2Ideal Cert.Kernel2Ideal.Gen
open Idealize.ShloMosaic

/-- The factor that the queries carry, (1/8)/log 2. -/
def qf : EReal := Ideal.div (Ideal.ofBits .f32 0x3E000000#32) (Ideal.log (Ideal.ofBits .f32 0x40000000#32))

/-- The logistic function. -/
def sgm (z : EReal) : EReal := Ideal.div (Ideal.ofBits .f32 0x3F800000#32) (Ideal.ofBits .f32 0x3F800000#32 + Ideal.exp (-z))

/-- A row over its root mean square, with a gain, a modulation and a shift. -/
def normed (x : Fin 1024 → EReal) (g s t : Fin 1024 → EReal) (d : Fin 1024) : EReal :=
  x d * Ideal.rsqrt (Ideal.div (∑ k : Fin 1024, x k * x k) (Ideal.ofBits .f32 0x44800000#32) + Ideal.ofBits .f32 0x358637BD#32)
    * g d * (Ideal.ofBits .f32 0x3F800000#32 + s d) + t d

/-- One over the root mean square of a head. -/
def headR (p : Fin 64 → EReal) : EReal :=
  Ideal.rsqrt ((∑ k : Fin 64, p k * p k) * Ideal.ofBits .f32 0x3C800000#32 + Ideal.ofBits .f32 0x358637BD#32)

/-- A head over its root mean square, with a gain. -/
def headN (p g : Fin 64 → EReal) (e : Fin 64) : EReal := p e * headR p * g e

/-- A head's two halves, rotated. -/
def rope (z : Fin 64 → EReal) (c s : Fin 32 → EReal) (e : Fin 64) : EReal :=
  if h : e.val < 32 then z ⟨e.val, by omega⟩ * c ⟨e.val, h⟩ - z ⟨32 + e.val, by omega⟩ * s ⟨e.val, h⟩
  else z ⟨32 + (e.val - 32), by omega⟩ * c ⟨e.val - 32, by omega⟩ + z ⟨e.val - 32, by omega⟩ * s ⟨e.val - 32, by omega⟩

theorem pay6_apply (v4 : Vec Ideal S1x256x1024 .f32) (v16 : Vec Ideal S1x1024 .f32) (v20 v26 : Vec Ideal S1x1x1024 .f32) (r : Fin 256) (d : Fin 1024) :
    k0_pay6 v4 v16 v20 v26 (ix2 r d)
      = normed (fun k => v4 (ix3 0 r k)) (fun k => v16 (ix2 0 k)) (fun k => v20 (ix3 0 0 k)) (fun k => v26 (ix3 0 0 k)) d := by
  unfold normed
  unfold_payloads
  pointwise

theorem pay7_apply (v4 : Vec Ideal S1x256x1024 .f32) (v16 : Vec Ideal S1x1024 .f32) (v20 v26 : Vec Ideal S1x1x1024 .f32)
    (w : Vec Ideal S1024x1024 .bf16) (r : Fin 256) (d : Fin 1024) :
    k0_pay7 v4 v16 v20 v26 w (ix2 r d) = ∑ k : Fin 1024, k0_pay6 v4 v16 v20 v26 (ix2 r k) * w (ix2 k d) := by
  unfold k0_pay7
  generalize k0_pay6 v4 v16 v20 v26 = h
  pointwise

theorem zero_sub' (z : EReal) : Ideal.ofBits .f32 0x00000000#32 - z = -z := by
  rw [Ideal.ofBits_zero_f32, sub_eq_add_neg, zero_add]

theorem pay8_apply (h : FVec Ideal S256x1024 .bf16) (a : FVec Ideal S256x1024 .f32) (w : Vec Ideal S1024x1024 .bf16) (r : Fin 256) (d : Fin 1024) :
    k0_pay8 h a w (ix3 0 r d) = a (ix2 r d) * sgm (∑ k : Fin 1024, h (ix2 r k) * w (ix2 k d)) := by
  unfold sgm
  rw [← zero_sub']
  unfold_payloads
  pointwise

theorem pay9_apply (h : FVec Ideal S256x1024 .bf16) (w : Vec Ideal S1024x1024 .bf16) (r : Fin 256) (d : Fin 1024) :
    k0_pay9 h w (ix3 0 r d) = (∑ k : Fin 1024, h (ix2 r k) * w (ix2 k d)) * sgm (∑ k : Fin 1024, h (ix2 r k) * w (ix2 k d)) := by
  unfold sgm
  rw [← zero_sub']
  unfold_payloads
  pointwise

theorem pay13_apply (h : FVec Ideal S256x1024 .bf16) (w : Vec Ideal S1024x1024 .bf16) (r : Fin 256) (d : Fin 1024) :
    k0_pay13 (k0_pay10 h w) (k0_pay11 h w) k0_pay12 (ix3 0 r d)
      = (∑ k : Fin 1024, h (ix2 r k) * w (ix2 k d)) * sgm (∑ k : Fin 1024, h (ix2 r k) * w (ix2 k d)) := by
  unfold sgm
  rw [← zero_sub']
  unfold_payloads
  pointwise

theorem pay14_apply (h : FVec Ideal S256x1024 .bf16) (w : Vec Ideal S1024x2048 .bf16) (r : Fin 256) (d : Fin 2048) :
    k0_pay14 h w (ix3 0 r d) = sgm (∑ k : Fin 1024, h (ix2 r k) * w (ix2 k d)) := by
  unfold sgm
  rw [← zero_sub']
  unfold_payloads
  pointwise

theorem pay15_apply (h : FVec Ideal S256x1024 .bf16) (w : Vec Ideal S1536x1024 .bf16) (f : Fin 1536) (t : Fin 256) :
    k0_pay15 h w (ix2 f t) = ∑ k : Fin 1024, w (ix2 f k) * h (ix2 t k) := by
  unfold_payloads
  pointwise

theorem pay16_apply (h : FVec Ideal S256x1024 .bf16) (w : Vec Ideal S1536x1024 .bf16) (a : Fin 16) (e : Fin 64) (t : Fin 256) :
    k0_pay16 h w (ix3 a e t) = k0_pay15 h w (ix2 ⟨a.val * 64 + e.val, by omega⟩ t) := by
  unfold k0_pay16
  generalize k0_pay15 h w = p
  pointwise

theorem pay18_apply (h : FVec Ideal S256x1024 .bf16) (w : Vec Ideal S1536x1024 .bf16) (a : Fin 16) (t : Fin 256) :
    k0_pay18 h w (ix3 a 0 t) = headR fun e => k0_pay16 h w (ix3 a e t) := by
  unfold headR k0_pay18
  generalize k0_pay16 h w = p
  pointwise

theorem pay19_apply (c s : FVec Ideal S32x256 .f32) (z : FVec Ideal S16x64x256 .f32) (g : FVec Ideal S64x256 .f32) (n : FVec Ideal S16x1x256 .f32)
    (f : Fin 1024) (t : Fin 256) :
    k0_pay19 c s z g n (ix3 0 f t)
      = rope (fun e => z (ix3 ⟨f.val / 64, by omega⟩ e t) * n (ix3 ⟨f.val / 64, by omega⟩ 0 t) * g (ix2 e t))
          (fun i => c (ix2 i t)) (fun i => s (ix2 i t)) ⟨f.val % 64, by omega⟩ := by
  unfold rope
  unfold_payloads
  pointwise

theorem pay20_apply (p : FVec Ideal S1536x256 .f32) (g : Vec Ideal S64x256 .f32) (a : Fin 4) (e : Fin 64) (t : Fin 256) :
    k0_pay20 p g (ix3 a e t) = headN (fun k => p (ix2 ⟨1024 + (a.val * 64 + k.val), by omega⟩ t)) (fun k => g (ix2 k t)) e := by
  unfold headN headR
  unfold_payloads
  pointwise

theorem pay26_apply (c s : FVec Ideal S32x256 .f32) (p : FVec Ideal S1536x256 .f32) (g : Vec Ideal S64x256 .f32) (t f : Fin 256) :
    k0_pay26 (k0_pay21 p g) (k0_pay22 p g) (k0_pay23 c) (k0_pay24 s) (k0_pay25 c s p g) (ix3 0 t f)
      = rope (fun e => k0_pay20 p g (ix3 ⟨f.val / 64, by omega⟩ e t)) (fun i => c (ix2 i t)) (fun i => s (ix2 i t)) ⟨f.val % 64, by omega⟩ := by
  unfold rope k0_pay25 k0_pay21 k0_pay22
  generalize k0_pay20 p g = z
  unfold_payloads
  pointwise

theorem pay28_apply (p : FVec Ideal S1536x256 .f32) (e : Fin 64) (t : Fin 256) : k0_pay28 p (ix3 0 e t) = p (ix2 ⟨1280 + e.val, by omega⟩ t) := by
  unfold_payloads
  pointwise

theorem pay30_apply (p : FVec Ideal S1536x256 .f32) (e : Fin 64) (t : Fin 256) : k0_pay30 p (ix3 0 e t) = p (ix2 ⟨1344 + e.val, by omega⟩ t) := by
  unfold_payloads
  pointwise

theorem pay32_apply (p : FVec Ideal S1536x256 .f32) (e : Fin 64) (t : Fin 256) : k0_pay32 p (ix3 0 e t) = p (ix2 ⟨1408 + e.val, by omega⟩ t) := by
  unfold_payloads
  pointwise

theorem pay2_apply (p : FVec Ideal S1536x256 .f32) (e : Fin 64) (t : Fin 256) : k0_pay2 p (ix3 0 e t) = p (ix2 ⟨1472 + e.val, by omega⟩ t) := by
  unfold_payloads
  pointwise

end Cert.Proof.In

end
-- ==== Proof.InHost.lean ====
/-
  The blocks that a grid point of the input projection reads, from its arguments.
-/
module

public import proofs.«01_k».proof.Proof.InOut
public import proofs.«01_k».proof.Proof.InVals
public import Idealize.ShloMosaic.Lib.Pipeline.ValueKit
public import Idealize.ShloMosaic.Lib.Pipeline.Covers

@[expose] public section

set_option maxRecDepth 16384

noncomputable section

namespace Cert.Proof.In

open Cert.Kernel2Ideal Cert.Kernel2Ideal.Gen
open Idealize.ShloMosaic Idealize.ShloMosaic.TcCoe Idealize.ShloMosaic.StableHlo

/-- The columns of the weights outside the queries, keys and values. -/
def hTok (w : FVec Ideal S1024x7680 .f32) : FVec Ideal S1024x6144 .bf16 :=
  truncf .bf16 (concatenate S1024x6144 1 [⟨S1024x3072, extractStridedSlice S1024x3072 ![0, 0] w slices_S1024x7680_S1024x3072_0_0⟩,
    ⟨S1024x3072, extractStridedSlice S1024x3072 ![0, 4608] w slices_S1024x7680_S1024x3072_0_4608⟩] concatenates_S1024x3072_S1024x3072_S1024x6144_d1) bitsLt_bf16_f32

/-- The columns of the queries, keys and values, on the rows. -/
def hFeat (w : FVec Ideal S1024x7680 .f32) : FVec Ideal S1536x1024 .bf16 :=
  truncf .bf16 (transpose S1536x1024 [1, 0] (extractStridedSlice S1024x1536 ![0, 3072] w slices_S1024x7680_S1024x1536_0_3072) transposes_S1024x1536_S1536x1024_1_0) bitsLt_bf16_f32

/-- The queries' gain with its factor, once for each row of a block. -/
def hGq (g : FVec Ideal S64 .f32) : FVec Ideal S64x256 .f32 :=
  broadcastInDim S64x256 ![0, 1] bcast_S64x1_S64x256_0_1 (broadcastInDim S64x1 ![0] bcast_S64_S64x1_0
    (mulf g (broadcastInDim S64 ![] bcast_S_S64 (Host.divf (constant S_ .f32 0x3E000000#32) (Host.log (constant S_ .f32 0x40000000#32))))))

/-- The keys' gain, once for each row of a block. -/
def hGk (g : FVec Ideal S64 .f32) : FVec Ideal S64x256 .f32 :=
  broadcastInDim S64x256 ![0, 1] bcast_S64x1_S64x256_0_1 (broadcastInDim S64x1 ![0] bcast_S64_S64x1_0 g)

/-- A modulation, with an axis of one row. -/
def hMod (s : FVec Ideal S4x1024 .f32) : FVec Ideal S4x1x1024 .f32 := broadcastInDim S4x1x1024 ![0, 2] bcast_S4x1024_S4x1x1024_0_2 s

/-- The gain of the rows' norm, as one row. -/
def hPre (g : FVec Ideal S1024 .f32) : FVec Ideal S1x1024 .f32 := broadcastInDim S1x1024 ![1] bcast_S1024_S1x1024_1 g

/-- A table of the rotation, its angles on the rows. -/
def hTab (c : FVec Ideal S8192x32 .f32) : FVec Ideal S32x8192 .f32 := transpose S32x8192 [1, 0] c transposes_S8192x32_S32x8192_1_0

theorem hTok_apply (w : FVec Ideal S1024x7680 .f32) (k : Fin 1024) (j : Fin 6144) :
    hTok w (ix2 k j) = if h : j.val < 3072 then w (ix2 k ⟨j.val, by omega⟩) else w (ix2 k ⟨4608 + (j.val - 3072), by omega⟩) := by
  pointwise [hTok]

theorem hFeat_apply (w : FVec Ideal S1024x7680 .f32) (f : Fin 1536) (k : Fin 1024) : hFeat w (ix2 f k) = w (ix2 k ⟨3072 + f.val, by omega⟩) := by
  pointwise [hFeat]

theorem hGq_apply (g : FVec Ideal S64 .f32) (e : Fin 64) (t : Fin 256) : hGq g (ix2 e t) = g (ix1 e) * qf := by
  unfold qf
  pointwise [hGq]

theorem hGk_apply (g : FVec Ideal S64 .f32) (e : Fin 64) (t : Fin 256) : hGk g (ix2 e t) = g (ix1 e) := by
  pointwise [hGk]

theorem hMod_apply (s : FVec Ideal S4x1024 .f32) (b : Fin 4) (z : Fin 1) (k : Fin 1024) : hMod s (ix3 b z k) = s (ix2 b k) := by
  pointwise [hMod]

theorem hPre_apply (g : FVec Ideal S1024 .f32) (z : Fin 1) (k : Fin 1024) : hPre g (ix2 z k) = g (ix1 k) := by
  pointwise [hPre]

theorem hTab_apply (c : FVec Ideal S8192x32 .f32) (i : Fin 32) (n : Fin 8192) : hTab c (ix2 i n) = c (ix2 n i) := by
  pointwise [hTab]

/-- The batch of a grid point. -/
def gB (t : Fin cfg0.N) : Fin 4 := ⟨(grid0.coords t 0).val, (grid0.coords t 0).isLt⟩
/-- The block of rows of a grid point. -/
def gI (t : Fin cfg0.N) : Fin 32 := ⟨(grid0.coords t 1).val, (grid0.coords t 1).isLt⟩

/-- Row `r` of a block, in the array. -/
def gN (t : Fin cfg0.N) (r : Fin 256) : Fin 8192 := ⟨(gI t).val * 256 + r.val, by omega⟩

theorem index0 : ∀ t : Fin cfg0.N, win0_0.index t = ![(gB t).val, (gI t).val, 0] :=
  (by decide +kernel : ∀ t : Fin grid0.N, win0_0.index t = ![(grid0.coords t 0).val, (grid0.coords t 1).val, 0])
theorem index1 : ∀ t : Fin cfg0.N, win0_1.index t = ![(gB t).val, 0, 0] :=
  (by decide +kernel : ∀ t : Fin grid0.N, win0_1.index t = ![(grid0.coords t 0).val, 0, 0])
theorem index2 : ∀ t : Fin cfg0.N, win0_2.index t = ![(gB t).val, 0, 0] :=
  (by decide +kernel : ∀ t : Fin grid0.N, win0_2.index t = ![(grid0.coords t 0).val, 0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, (gI t).val] :=
  (by decide +kernel : ∀ t : Fin grid0.N, win0_8.index t = ![0, (grid0.coords t 1).val])
theorem index9 : ∀ t : Fin cfg0.N, win0_9.index t = ![0, (gI t).val] :=
  (by decide +kernel : ∀ t : Fin grid0.N, win0_9.index t = ![0, (grid0.coords t 1).val])
theorem index10 : ∀ t : Fin cfg0.N, win0_10.index t = ![(gB t).val, (gI t).val, 0] :=
  (by decide +kernel : ∀ t : Fin grid0.N, win0_10.index t = ![(grid0.coords t 0).val, (grid0.coords t 1).val, 0])
theorem index11 : ∀ t : Fin cfg0.N, win0_11.index t = ![(gB t).val, (gI t).val, 0] :=
  (by decide +kernel : ∀ t : Fin grid0.N, win0_11.index t = ![(grid0.coords t 0).val, (grid0.coords t 1).val, 0])
theorem index12 : ∀ t : Fin cfg0.N, win0_12.index t = ![(gB t).val, (gI t).val, 0] :=
  (by decide +kernel : ∀ t : Fin grid0.N, win0_12.index t = ![(grid0.coords t 0).val, (grid0.coords t 1).val, 0])
theorem index13 : ∀ t : Fin cfg0.N, win0_13.index t = ![(gB t).val, (gI t).val, 0] :=
  (by decide +kernel : ∀ t : Fin grid0.N, win0_13.index t = ![(grid0.coords t 0).val, (grid0.coords t 1).val, 0])
theorem index14 : ∀ t : Fin cfg0.N, win0_14.index t = ![(gB t).val, 0, (gI t).val] :=
  (by decide +kernel : ∀ t : Fin grid0.N, win0_14.index t = ![(grid0.coords t 0).val, 0, (grid0.coords t 1).val])
theorem index15 : ∀ t : Fin cfg0.N, win0_15.index t = ![(gB t).val, (gI t).val, 0] :=
  (by decide +kernel : ∀ t : Fin grid0.N, win0_15.index t = ![(grid0.coords t 0).val, (grid0.coords t 1).val, 0])
theorem index16 : ∀ t : Fin cfg0.N, win0_16.index t = ![(gB t).val, 0, (gI t).val] :=
  (by decide +kernel : ∀ t : Fin grid0.N, win0_16.index t = ![(grid0.coords t 0).val, 0, (grid0.coords t 1).val])
theorem covers10 : (cfg0.win 10).Covers := by decide +kernel
theorem covers11 : (cfg0.win 11).Covers := by decide +kernel
theorem covers12 : (cfg0.win 12).Covers := by decide +kernel
theorem covers13 : (cfg0.win 13).Covers := by decide +kernel
theorem covers14 : (cfg0.win 14).Covers := by decide +kernel
theorem covers15 : (cfg0.win 15).Covers := by decide +kernel
theorem covers16 : (cfg0.win 16).Covers := by decide +kernel

variable (m : (ℓ : Loc nD τ sig) → Buf (Elt Ideal) ℓ) (c : Dev nD)

/-- The tokens. -/
abbrev aX : FVec Ideal S4x8192x1024 .f32 := m ((c : Thread nD τ).loc main_arg0)
/-- The modulation's factor. -/
abbrev aSc : FVec Ideal S4x1024 .f32 := m ((c : Thread nD τ).loc main_arg1)
/-- The modulation's shift. -/
abbrev aSh : FVec Ideal S4x1024 .f32 := m ((c : Thread nD τ).loc main_arg2)
/-- The gain of the rows' norm. -/
abbrev aG : FVec Ideal S1024 .f32 := m ((c : Thread nD τ).loc main_arg3)
/-- The weights. -/
abbrev aW : FVec Ideal S1024x7680 .f32 := m ((c : Thread nD τ).loc main_arg4)
/-- The queries' gain. -/
abbrev aQg : FVec Ideal S64 .f32 := m ((c : Thread nD τ).loc main_arg5)
/-- The keys' gain. -/
abbrev aKg : FVec Ideal S64 .f32 := m ((c : Thread nD τ).loc main_arg6)
/-- The cosines. -/
abbrev aC : FVec Ideal S8192x32 .f32 := m ((c : Thread nD τ).loc main_arg7)
/-- The sines. -/
abbrev aS : FVec Ideal S8192x32 .f32 := m ((c : Thread nD τ).loc main_arg8)

theorem V_1 : V m c main_v15 = hMod (m ((c : Thread nD τ).loc main_arg1)) := by
  unfold V hMod
  after_results <;> rfl

theorem V_2 : V m c main_v16 = hMod (m ((c : Thread nD τ).loc main_arg2)) := by
  unfold V hMod
  after_results <;> rfl

theorem V_3 : V m c main_v17 = hPre (m ((c : Thread nD τ).loc main_arg3)) := by
  unfold V hPre
  after_results <;> rfl

theorem V_4 : V m c main_v3 = hTok (m ((c : Thread nD τ).loc main_arg4)) := by
  unfold V hTok
  after_results <;> rfl

theorem V_5 : V m c main_v6 = hFeat (m ((c : Thread nD τ).loc main_arg4)) := by
  unfold V hFeat
  after_results <;> rfl

theorem V_6 : V m c main_v12 = hGq (m ((c : Thread nD τ).loc main_arg5)) := by
  unfold V hGq
  after_results <;> rfl

theorem V_7 : V m c main_v14 = hGk (m ((c : Thread nD τ).loc main_arg6)) := by
  unfold V hGk
  after_results <;> rfl

theorem V_8 : V m c main_v18 = hTab (m ((c : Thread nD τ).loc main_arg7)) := by
  unfold V hTab
  after_results <;> rfl

theorem V_9 : V m c main_v19 = hTab (m ((c : Thread nD τ).loc main_arg8)) := by
  unfold V hTab
  after_results <;> rfl

theorem read0 (W : (b : Ref sig .tc) → Buf (Elt Ideal) ((c : Thread nD τ).loc b)) (t : Fin cfg0.N) (y : S1x256x1024.Idx) :
    ((cfg0.win 0).blk t).view.read (Elt Ideal) (W (Pipeline.arrRef spec0 0)) y = W main_arg0 (((cfg0.win 0).blk t).view.emb y) := rfl

theorem place0 (t : Fin cfg0.N) (r : Fin 256) (d : Fin 1024) : (((cfg0.win 0).blk t).view.emb (ix3 0 r d) : S4x8192x1024.Idx) = ix3 (gB t) (gN t r) d := by
  unfold gN
  blk_ext [index0 t]

theorem readAt0 (W : (b : Ref sig .tc) → Buf (Elt Ideal) ((c : Thread nD τ).loc b)) (t : Fin cfg0.N) (r : Fin 256) (d : Fin 1024) :
    ((cfg0.win 0).blk t).view.read (Elt Ideal) (W (Pipeline.arrRef spec0 0)) (ix3 0 r d) = W main_arg0 (ix3 (gB t) (gN t r) d) :=
  (read0 c W t _).trans (congrArg (W main_arg0) (place0 t _ _ ))

theorem block0 (t : Fin cfg0.N) (r : Fin 256) (d : Fin 1024) : iblk m c 0 t (ix3 0 r d) = aX m c (ix3 (gB t) (gN t r) d) := by
  refine (readAt0 c (V m c) t r d).trans ?_
  rw [V_main_arg0 m c]

theorem read1 (W : (b : Ref sig .tc) → Buf (Elt Ideal) ((c : Thread nD τ).loc b)) (t : Fin cfg0.N) (y : S1x1x1024.Idx) :
    ((cfg0.win 1).blk t).view.read (Elt Ideal) (W (Pipeline.arrRef spec0 1)) y = W main_v15 (((cfg0.win 1).blk t).view.emb y) := rfl

theorem place1 (t : Fin cfg0.N) (d : Fin 1024) : (((cfg0.win 1).blk t).view.emb (ix3 0 0 d) : S4x1x1024.Idx) = ix3 (gB t) 0 d := by
  skip
  blk_ext [index1 t]

theorem readAt1 (W : (b : Ref sig .tc) → Buf (Elt Ideal) ((c : Thread nD τ).loc b)) (t : Fin cfg0.N) (d : Fin 1024) :
    ((cfg0.win 1).blk t).view.read (Elt Ideal) (W (Pipeline.arrRef spec0 1)) (ix3 0 0 d) = W main_v15 (ix3 (gB t) 0 d) :=
  (read1 c W t _).trans (congrArg (W main_v15) (place1 t _ ))

theorem block1 (t : Fin cfg0.N) (d : Fin 1024) : iblk m c 1 t (ix3 0 0 d) = aSc m c (ix2 (gB t) d) := by
  refine (readAt1 c (V m c) t _ ).trans ?_
  rw [V_1 m c]
  exact hMod_apply _ _ _ _

theorem read2 (W : (b : Ref sig .tc) → Buf (Elt Ideal) ((c : Thread nD τ).loc b)) (t : Fin cfg0.N) (y : S1x1x1024.Idx) :
    ((cfg0.win 2).blk t).view.read (Elt Ideal) (W (Pipeline.arrRef spec0 2)) y = W main_v16 (((cfg0.win 2).blk t).view.emb y) := rfl

theorem place2 (t : Fin cfg0.N) (d : Fin 1024) : (((cfg0.win 2).blk t).view.emb (ix3 0 0 d) : S4x1x1024.Idx) = ix3 (gB t) 0 d := by
  skip
  blk_ext [index2 t]

theorem readAt2 (W : (b : Ref sig .tc) → Buf (Elt Ideal) ((c : Thread nD τ).loc b)) (t : Fin cfg0.N) (d : Fin 1024) :
    ((cfg0.win 2).blk t).view.read (Elt Ideal) (W (Pipeline.arrRef spec0 2)) (ix3 0 0 d) = W main_v16 (ix3 (gB t) 0 d) :=
  (read2 c W t _).trans (congrArg (W main_v16) (place2 t _ ))

theorem block2 (t : Fin cfg0.N) (d : Fin 1024) : iblk m c 2 t (ix3 0 0 d) = aSh m c (ix2 (gB t) d) := by
  refine (readAt2 c (V m c) t _ ).trans ?_
  rw [V_2 m c]
  exact hMod_apply _ _ _ _

theorem read3 (W : (b : Ref sig .tc) → Buf (Elt Ideal) ((c : Thread nD τ).loc b)) (t : Fin cfg0.N) (y : S1x1024.Idx) :
    ((cfg0.win 3).blk t).view.read (Elt Ideal) (W (Pipeline.arrRef spec0 3)) y = W main_v17 (((cfg0.win 3).blk t).view.emb y) := rfl

theorem place3 (t : Fin cfg0.N) (d : Fin 1024) : (((cfg0.win 3).blk t).view.emb (ix2 0 d) : S1x1024.Idx) = ix2 0 d := by
  skip
  blk_ext [index3 t]

theorem readAt3 (W : (b : Ref sig .tc) → Buf (Elt Ideal) ((c : Thread nD τ).loc b)) (t : Fin cfg0.N) (d : Fin 1024) :
    ((cfg0.win 3).blk t).view.read (Elt Ideal) (W (Pipeline.arrRef spec0 3)) (ix2 0 d) = W main_v17 (ix2 0 d) :=
  (read3 c W t _).trans (congrArg (W main_v17) (place3 t _ ))

theorem block3 (t : Fin cfg0.N) (d : Fin 1024) : iblk m c 3 t (ix2 0 d) = aG m c (ix1 d) := by
  refine (readAt3 c (V m c) t _ ).trans ?_
  rw [V_3 m c]
  exact hPre_apply _ _ _

theorem read4 (W : (b : Ref sig .tc) → Buf (Elt Ideal) ((c : Thread nD τ).loc b)) (t : Fin cfg0.N) (y : S1024x6144.Idx) :
    ((cfg0.win 4).blk t).view.read (Elt Ideal) (W (Pipeline.arrRef spec0 4)) y = W main_v3 (((cfg0.win 4).blk t).view.emb y) := rfl

theorem place4 (t : Fin cfg0.N) (k : Fin 1024) (j : Fin 6144) : (((cfg0.win 4).blk t).view.emb (ix2 k j) : S1024x6144.Idx) = ix2 k j := by
  skip
  blk_ext [index4 t]

theorem readAt4 (W : (b : Ref sig .tc) → Buf (Elt Ideal) ((c : Thread nD τ).loc b)) (t : Fin cfg0.N) (k : Fin 1024) (j : Fin 6144) :
    ((cfg0.win 4).blk t).view.read (Elt Ideal) (W (Pipeline.arrRef spec0 4)) (ix2 k j) = W main_v3 (ix2 k j) :=
  (read4 c W t _).trans (congrArg (W main_v3) (place4 t _ _ ))

theorem block4 (t : Fin cfg0.N) (k : Fin 1024) (j : Fin 6144) : iblk m c 4 t (ix2 k j) = hTok (aW m c) (ix2 k j) := by
  refine (readAt4 c (V m c) t _ _ ).trans ?_
  rw [V_4 m c]

theorem read5 (W : (b : Ref sig .tc) → Buf (Elt Ideal) ((c : Thread nD τ).loc b)) (t : Fin cfg0.N) (y : S1536x1024.Idx) :
    ((cfg0.win 5).blk t).view.read (Elt Ideal) (W (Pipeline.arrRef spec0 5)) y = W main_v6 (((cfg0.win 5).blk t).view.emb y) := rfl

theorem place5 (t : Fin cfg0.N) (f : Fin 1536) (k : Fin 1024) : (((cfg0.win 5).blk t).view.emb (ix2 f k) : S1536x1024.Idx) = ix2 f k := by
  skip
  blk_ext [index5 t]

theorem readAt5 (W : (b : Ref sig .tc) → Buf (Elt Ideal) ((c : Thread nD τ).loc b)) (t : Fin cfg0.N) (f : Fin 1536) (k : Fin 1024) :
    ((cfg0.win 5).blk t).view.read (Elt Ideal) (W (Pipeline.arrRef spec0 5)) (ix2 f k) = W main_v6 (ix2 f k) :=
  (read5 c W t _).trans (congrArg (W main_v6) (place5 t _ _ ))

theorem block5 (t : Fin cfg0.N) (f : Fin 1536) (k : Fin 1024) : iblk m c 5 t (ix2 f k) = aW m c (ix2 k ⟨3072 + f.val, by omega⟩) := by
  refine (readAt5 c (V m c) t _ _ ).trans ?_
  rw [V_5 m c]
  exact hFeat_apply _ _ _

theorem read6 (W : (b : Ref sig .tc) → Buf (Elt Ideal) ((c : Thread nD τ).loc b)) (t : Fin cfg0.N) (y : S64x256.Idx) :
    ((cfg0.win 6).blk t).view.read (Elt Ideal) (W (Pipeline.arrRef spec0 6)) y = W main_v12 (((cfg0.win 6).blk t).view.emb y) := rfl

theorem place6 (t : Fin cfg0.N) (e : Fin 64) (r : Fin 256) : (((cfg0.win 6).blk t).view.emb (ix2 e r) : S64x256.Idx) = ix2 e r := by
  skip
  blk_ext [index6 t]

theorem readAt6 (W : (b : Ref sig .tc) → Buf (Elt Ideal) ((c : Thread nD τ).loc b)) (t : Fin cfg0.N) (e : Fin 64) (r : Fin 256) :
    ((cfg0.win 6).blk t).view.read (Elt Ideal) (W (Pipeline.arrRef spec0 6)) (ix2 e r) = W main_v12 (ix2 e r) :=
  (read6 c W t _).trans (congrArg (W main_v12) (place6 t _ _ ))

theorem block6 (t : Fin cfg0.N) (e : Fin 64) (r : Fin 256) : iblk m c 6 t (ix2 e r) = aQg m c (ix1 e) * qf := by
  refine (readAt6 c (V m c) t _ _ ).trans ?_
  rw [V_6 m c]
  exact hGq_apply _ _ _

theorem read7 (W : (b : Ref sig .tc) → Buf (Elt Ideal) ((c : Thread nD τ).loc b)) (t : Fin cfg0.N) (y : S64x256.Idx) :
    ((cfg0.win 7).blk t).view.read (Elt Ideal) (W (Pipeline.arrRef spec0 7)) y = W main_v14 (((cfg0.win 7).blk t).view.emb y) := rfl

theorem place7 (t : Fin cfg0.N) (e : Fin 64) (r : Fin 256) : (((cfg0.win 7).blk t).view.emb (ix2 e r) : S64x256.Idx) = ix2 e r := by
  skip
  blk_ext [index7 t]

theorem readAt7 (W : (b : Ref sig .tc) → Buf (Elt Ideal) ((c : Thread nD τ).loc b)) (t : Fin cfg0.N) (e : Fin 64) (r : Fin 256) :
    ((cfg0.win 7).blk t).view.read (Elt Ideal) (W (Pipeline.arrRef spec0 7)) (ix2 e r) = W main_v14 (ix2 e r) :=
  (read7 c W t _).trans (congrArg (W main_v14) (place7 t _ _ ))

theorem block7 (t : Fin cfg0.N) (e : Fin 64) (r : Fin 256) : iblk m c 7 t (ix2 e r) = aKg m c (ix1 e) := by
  refine (readAt7 c (V m c) t _ _ ).trans ?_
  rw [V_7 m c]
  exact hGk_apply _ _ _

theorem read8 (W : (b : Ref sig .tc) → Buf (Elt Ideal) ((c : Thread nD τ).loc b)) (t : Fin cfg0.N) (y : S32x256.Idx) :
    ((cfg0.win 8).blk t).view.read (Elt Ideal) (W (Pipeline.arrRef spec0 8)) y = W main_v18 (((cfg0.win 8).blk t).view.emb y) := rfl

theorem place8 (t : Fin cfg0.N) (i : Fin 32) (r : Fin 256) : (((cfg0.win 8).blk t).view.emb (ix2 i r) : S32x8192.Idx) = ix2 i (gN t r) := by
  unfold gN
  blk_ext [index8 t]

theorem readAt8 (W : (b : Ref sig .tc) → Buf (Elt Ideal) ((c : Thread nD τ).loc b)) (t : Fin cfg0.N) (i : Fin 32) (r : Fin 256) :
    ((cfg0.win 8).blk t).view.read (Elt Ideal) (W (Pipeline.arrRef spec0 8)) (ix2 i r) = W main_v18 (ix2 i (gN t r)) :=
  (read8 c W t _).trans (congrArg (W main_v18) (place8 t _ _ ))

theorem block8 (t : Fin cfg0.N) (i : Fin 32) (r : Fin 256) : iblk m c 8 t (ix2 i r) = aC m c (ix2 (gN t r) i) := by
  refine (readAt8 c (V m c) t _ _ ).trans ?_
  rw [V_8 m c]
  exact hTab_apply _ _ _

theorem read9 (W : (b : Ref sig .tc) → Buf (Elt Ideal) ((c : Thread nD τ).loc b)) (t : Fin cfg0.N) (y : S32x256.Idx) :
    ((cfg0.win 9).blk t).view.read (Elt Ideal) (W (Pipeline.arrRef spec0 9)) y = W main_v19 (((cfg0.win 9).blk t).view.emb y) := rfl

theorem place9 (t : Fin cfg0.N) (i : Fin 32) (r : Fin 256) : (((cfg0.win 9).blk t).view.emb (ix2 i r) : S32x8192.Idx) = ix2 i (gN t r) := by
  unfold gN
  blk_ext [index9 t]

theorem readAt9 (W : (b : Ref sig .tc) → Buf (Elt Ideal) ((c : Thread nD τ).loc b)) (t : Fin cfg0.N) (i : Fin 32) (r : Fin 256) :
    ((cfg0.win 9).blk t).view.read (Elt Ideal) (W (Pipeline.arrRef spec0 9)) (ix2 i r) = W main_v19 (ix2 i (gN t r)) :=
  (read9 c W t _).trans (congrArg (W main_v19) (place9 t _ _ ))

theorem block9 (t : Fin cfg0.N) (i : Fin 32) (r : Fin 256) : iblk m c 9 t (ix2 i r) = aS m c (ix2 (gN t r) i) := by
  refine (readAt9 c (V m c) t _ _ ).trans ?_
  rw [V_9 m c]
  exact hTab_apply _ _ _

theorem place10 (t : Fin cfg0.N) (r : Fin 256) (d : Fin 1024) : (((cfg0.win 10).blk t).view.emb (ix3 0 r d) : S4x8192x1024.Idx) = ix3 (gB t) (gN t r) d := by
  unfold gN
  blk_ext [index10 t]

theorem place11 (t : Fin cfg0.N) (r : Fin 256) (d : Fin 1024) : (((cfg0.win 11).blk t).view.emb (ix3 0 r d) : S4x8192x1024.Idx) = ix3 (gB t) (gN t r) d := by
  unfold gN
  blk_ext [index11 t]

theorem place12 (t : Fin cfg0.N) (r : Fin 256) (d : Fin 1024) : (((cfg0.win 12).blk t).view.emb (ix3 0 r d) : S4x8192x1024.Idx) = ix3 (gB t) (gN t r) d := by
  unfold gN
  blk_ext [index12 t]

theorem place13 (t : Fin cfg0.N) (r : Fin 256) (d : Fin 2048) : (((cfg0.win 13).blk t).view.emb (ix3 0 r d) : S4x8192x2048.Idx) = ix3 (gB t) (gN t r) d := by
  unfold gN
  blk_ext [index13 t]

theorem place14 (t : Fin cfg0.N) (f : Fin 1024) (r : Fin 256) : (((cfg0.win 14).blk t).view.emb (ix3 0 f r) : S4x1024x8192.Idx) = ix3 (gB t) f (gN t r) := by
  unfold gN
  blk_ext [index14 t]

theorem place15 (t : Fin cfg0.N) (r f : Fin 256) : (((cfg0.win 15).blk t).view.emb (ix3 0 r f) : S4x8192x256.Idx) = ix3 (gB t) (gN t r) f := by
  unfold gN
  blk_ext [index15 t]

theorem place16 (t : Fin cfg0.N) (f : Fin 320) (r : Fin 256) : (((cfg0.win 16).blk t).view.emb (ix3 0 f r) : S4x320x8192.Idx) = ix3 (gB t) f (gN t r) := by
  unfold gN
  blk_ext [index16 t]

end Cert.Proof.In

end
-- ==== Proof.InRef.lean ====
/-
  The reference's results of the input projection, one element at a time.
-/
module

public import proofs.«01_k».proof.Proof.Gen.Reference2Ideal.Read
public import proofs.«01_k».proof.Proof.InVals
public import Idealize.ShloMosaic.Lib.Pointwise
public import Idealize.ShloMosaic.Lib.IdealHost

@[expose] public section

set_option maxRecDepth 16384

noncomputable section

namespace Cert.Proof.In

open Cert.Reference2Ideal Cert.Reference2Ideal.Gen Cert.Reference2Ideal.Read
open Idealize.ShloMosaic Idealize.ShloMosaic.TcCoe Idealize.ShloMosaic.StableHlo

/-- A modulated row. -/
def hS (x : FVec Ideal S4x8192x1024 .f32) (sc sh : FVec Ideal S4x1024 .f32) (g : FVec Ideal S1024 .f32) (b : Fin 4) (n : Fin 8192) (d : Fin 1024) : EReal :=
  normed (fun k => x (ix3 b n k)) (fun k => g (ix1 k)) (fun k => sc (ix2 b k)) (fun k => sh (ix2 b k)) d

/-- A projected row. -/
def pS (x : FVec Ideal S4x8192x1024 .f32) (sc sh : FVec Ideal S4x1024 .f32) (g : FVec Ideal S1024 .f32) (w : FVec Ideal S1024x7680 .f32)
    (b : Fin 4) (n : Fin 8192) (j : Fin 7680) : EReal := ∑ k : Fin 1024, hS x sc sh g b n k * w (ix2 k j)

/-- A head's row, normalized by the root of its mean square plus a small constant. -/
def headM (p g : Fin 64 → EReal) (e : Fin 64) : EReal :=
  p e * Ideal.rsqrt (Ideal.div (∑ k : Fin 64, p k * p k) (Ideal.ofBits .f32 0x42800000#32) + Ideal.ofBits .f32 0x358637BD#32) * g e

variable (x : FVec Ideal S4x8192x1024 .f32) (sc sh : FVec Ideal S4x1024 .f32) (g : FVec Ideal S1024 .f32) (w : FVec Ideal S1024x7680 .f32)
  (qg kg : FVec Ideal S64 .f32) (co si : FVec Ideal S8192x32 .f32)

theorem v9_apply (b : Fin 4) (n : Fin 8192) (d : Fin 1024) :
    val_main_v9 (F := Ideal) x (ix3 b n d)
      = x (ix3 b n d) * Ideal.rsqrt (Ideal.div (∑ k : Fin 1024, x (ix3 b n k) * x (ix3 b n k)) (Ideal.ofBits .f32 0x44800000#32) + Ideal.ofBits .f32 0x358637BD#32) := by
  unfold val_main_v9 val_main_v8 val_main_v7 val_main_v6 val_main_v5 val_main_v4 val_main_v3 val_main_v2 val_main_v1 val_main_v0 val_main_cst val_main_cst_0 val_main_cst_1
  pointwise

theorem v20_apply (b : Fin 4) (n : Fin 8192) (d : Fin 1024) : val_main_v20 (F := Ideal) x sc sh g (ix3 b n d) = hS x sc sh g b n d := by
  have e := v9_apply x b n d
  unfold val_main_v20 val_main_v19 val_main_v18 val_main_v17 val_main_v16 val_main_v15 val_main_v14 val_main_v13 val_main_v12 val_main_v11 val_main_v10 val_main_cst_2 hS normed
  generalize val_main_v9 (F := Ideal) x = y at e ⊢
  rw [← e]
  pointwise

theorem v21_apply (b : Fin 4) (n : Fin 8192) (j : Fin 7680) : val_main_v21 (F := Ideal) x sc sh g w (ix3 b n j) = pS x sc sh g w b n j := by
  rw [val_main_v21_apply]
  unfold pS
  refine Finset.sum_congr rfl fun d _ => ?_
  rw [← v20_apply]
  refine congrArg₂ (fun a b : EReal => a * b) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl

theorem v116_apply (b : Fin 4) (n : Fin 8192) (d : Fin 1024) : val_main_v116 (F := Ideal) x sc sh g w (ix3 b n d)
    = pS x sc sh g w b n ⟨d.val, by omega⟩ * sgm (pS x sc sh g w b n ⟨1024 + d.val, by omega⟩) := by
  rw [← v21_apply, ← v21_apply]
  unfold sgm val_main_v116 val_main_v37 val_main_v36 val_main_v35 val_main_v34 val_main_v33 val_main_v32 val_main_v31 val_main_v30 val_main_v29 val_main_v22 val_main_cst_3 val_main_cst_4
  generalize val_main_v21 (F := Ideal) x sc sh g w = y
  pointwise

theorem v117_apply (b : Fin 4) (n : Fin 8192) (d : Fin 1024) : val_main_v117 (F := Ideal) x sc sh g w (ix3 b n d)
    = pS x sc sh g w b n ⟨2048 + d.val, by omega⟩ * sgm (pS x sc sh g w b n ⟨2048 + d.val, by omega⟩) := by
  rw [← v21_apply]
  unfold sgm val_main_v117 val_main_v107 val_main_call0_v5 val_main_call0_v4 val_main_call0_v3 val_main_call0_v2 val_main_call0_v1 val_main_call0_v0 val_main_call0_cst val_main_call0_cst_0 val_main_v23
  generalize val_main_v21 (F := Ideal) x sc sh g w = y
  pointwise

theorem v118_apply (b : Fin 4) (n : Fin 8192) (d : Fin 1024) : val_main_v118 (F := Ideal) x sc sh g w (ix3 b n d)
    = pS x sc sh g w b n ⟨4608 + d.val, by omega⟩ * sgm (pS x sc sh g w b n ⟨4608 + d.val, by omega⟩) := by
  rw [← v21_apply]
  unfold sgm val_main_v118 val_main_v108 val_main_call1_v5 val_main_call1_v4 val_main_call1_v3 val_main_call1_v2 val_main_call1_v1 val_main_call1_v0 val_main_call1_cst val_main_call1_cst_0 val_main_v27
  generalize val_main_v21 (F := Ideal) x sc sh g w = y
  pointwise

theorem v119_apply (b : Fin 4) (n : Fin 8192) (d : Fin 2048) : val_main_v119 (F := Ideal) x sc sh g w (ix3 b n d)
    = sgm (pS x sc sh g w b n ⟨5632 + d.val, by omega⟩) := by
  rw [← v21_apply]
  unfold sgm val_main_v119 val_main_v114 val_main_v113 val_main_v112 val_main_v111 val_main_v110 val_main_v109 val_main_v28 val_main_cst_14 val_main_cst_15
  generalize val_main_v21 (F := Ideal) x sc sh g w = y
  pointwise

theorem cast_at {d : Shape} (y : FVec Ideal d .f32) (h : FTy.bits .bf16 < FTy.bits .f32) (i : d.Idx) : truncf .bf16 y h i = y i := rfl

theorem v103_apply (b : Fin 4) (h : Fin 4) (e : Fin 64) (n : Fin 8192) : val_main_v103 (F := Ideal) x sc sh g w (ix4 b h e n)
    = pS x sc sh g w b n ⟨4352 + (h.val * 64 + e.val), by omega⟩ := by
  rw [← v21_apply]
  unfold val_main_v103 val_main_v102 val_main_v26
  generalize val_main_v21 (F := Ideal) x sc sh g w = y
  pointwise

theorem v104_apply (b : Fin 4) (h : Fin 4) (e : Fin 16) (n : Fin 8192) : val_main_v104 (F := Ideal) (ix4 b h e n) = Ideal.ofBits .f32 0x3F800000#32 := rfl

theorem v105_apply (b : Fin 4) (h : Fin 4) (e : Fin 80) (n : Fin 8192) : val_main_v105 (F := Ideal) x sc sh g w (ix4 b h e n)
    = if he : e.val < 64 then val_main_v103 (F := Ideal) x sc sh g w (ix4 b h ⟨e.val, he⟩ n)
      else val_main_v104 (F := Ideal) (ix4 b h ⟨e.val - 64, by omega⟩ n) := by
  unfold val_main_v105
  generalize val_main_v103 (F := Ideal) x sc sh g w = y
  generalize val_main_v104 (F := Ideal) = z
  pointwise

theorem v106_apply (b : Fin 4) (f : Fin 320) (n : Fin 8192) : val_main_v106 (F := Ideal) x sc sh g w (ix3 b f n)
    = val_main_v105 (F := Ideal) x sc sh g w (ix4 b ⟨f.val / 80, by omega⟩ ⟨f.val % 80, by omega⟩ n) := by
  unfold val_main_v106
  generalize val_main_v105 (F := Ideal) x sc sh g w = y
  pointwise

theorem v122_at (b : Fin 4) (f : Fin 320) (n : Fin 8192) : val_main_v122 (F := Ideal) x sc sh g w (ix3 b f n) = val_main_v106 (F := Ideal) x sc sh g w (ix3 b f n) := by
  unfold val_main_v122
  exact cast_at _ _ _

theorem v122_apply (b : Fin 4) (f : Fin 320) (n : Fin 8192) : val_main_v122 (F := Ideal) x sc sh g w (ix3 b f n)
    = if h : f.val % 80 < 64 then pS x sc sh g w b n ⟨4352 + (f.val / 80 * 64 + f.val % 80), by omega⟩ else Ideal.ofBits .f32 0x3F800000#32 := by
  rw [v122_at, v106_apply, v105_apply]
  by_cases h : f.val % 80 < 64
  · rw [dif_pos h, dif_pos h, v103_apply]
  · rw [dif_neg h, dif_neg h, v104_apply]

theorem v51_apply (b : Fin 4) (n : Fin 8192) (h : Fin 16) (e : Fin 64) : val_main_v51 (F := Ideal) x sc sh g w qg (ix4 b n h e)
    = headM (fun e => pS x sc sh g w b n ⟨3072 + (h.val * 64 + e.val), by omega⟩) (fun e => qg (ix1 e)) e := by
  simp only [← v21_apply]
  unfold headM val_main_v51 val_main_v50 val_main_v49 val_main_v48 val_main_v47 val_main_v46 val_main_v45 val_main_v44 val_main_v43 val_main_v42 val_main_v41 val_main_v40 val_main_v39 val_main_v38 val_main_v24 val_main_cst_5 val_main_cst_6 val_main_cst_7
  generalize val_main_v21 (F := Ideal) x sc sh g w = y
  pointwise

theorem v120_apply (b : Fin 4) (f : Fin 1024) (n : Fin 8192) : val_main_v120 (F := Ideal) x sc sh g w qg co si (ix3 b f n)
    = rope (headM (fun e => pS x sc sh g w b n ⟨3072 + (f.val / 64 * 64 + e.val), by omega⟩) (fun e => qg (ix1 e))) (fun i => co (ix2 n i)) (fun i => si (ix2 n i))
        ⟨f.val % 64, by omega⟩ * qf := by
  have e : headM (fun e => pS x sc sh g w b n ⟨3072 + (f.val / 64 * 64 + e.val), by omega⟩) (fun e => qg (ix1 e))
      = fun e => val_main_v51 (F := Ideal) x sc sh g w qg (ix4 b n ⟨f.val / 64, by omega⟩ e) := funext fun e => (v51_apply x sc sh g w qg b n ⟨f.val / 64, by omega⟩ e).symm
  rw [e]
  unfold rope qf val_main_v120 val_main_v101 val_main_v100 val_main_v99 val_main_v98 val_main_v97 val_main_v96 val_main_v66 val_main_v65 val_main_v64 val_main_v63 val_main_v62 val_main_v61 val_main_v60 val_main_v59 val_main_v58 val_main_v57 val_main_v56 val_main_v55 val_main_v54 val_main_v53 val_main_v52 val_main_cst_11 val_main_cst_12
  generalize val_main_v51 (F := Ideal) x sc sh g w qg = y
  pointwise

theorem v80_apply (b : Fin 4) (n : Fin 8192) (h : Fin 4) (e : Fin 64) : val_main_v80 (F := Ideal) x sc sh g w kg (ix4 b n h e)
    = headM (fun e => pS x sc sh g w b n ⟨4096 + (h.val * 64 + e.val), by omega⟩) (fun e => kg (ix1 e)) e := by
  simp only [← v21_apply]
  unfold headM val_main_v80 val_main_v79 val_main_v78 val_main_v77 val_main_v76 val_main_v75 val_main_v74 val_main_v73 val_main_v72 val_main_v71 val_main_v70 val_main_v69 val_main_v68 val_main_v67 val_main_v25 val_main_cst_8 val_main_cst_9 val_main_cst_10
  generalize val_main_v21 (F := Ideal) x sc sh g w = y
  pointwise

theorem v95_apply (b : Fin 4) (n : Fin 8192) (h : Fin 4) (d : Fin 64) : val_main_v95 (F := Ideal) x sc sh g w kg co si (ix4 b n h d)
    = rope (fun e => val_main_v80 (F := Ideal) x sc sh g w kg (ix4 b n h e)) (fun i => co (ix2 n i)) (fun i => si (ix2 n i)) d := by
  unfold rope val_main_v95 val_main_v94 val_main_v93 val_main_v92 val_main_v91 val_main_v90 val_main_v89 val_main_v88 val_main_v87 val_main_v86 val_main_v85 val_main_v84 val_main_v83 val_main_v82 val_main_v81
  generalize val_main_v80 (F := Ideal) x sc sh g w kg = y
  pointwise

theorem v115_apply (b : Fin 4) (n : Fin 8192) (f : Fin 256) : val_main_v115 (F := Ideal) x sc sh g w kg co si (ix3 b n f)
    = val_main_v95 (F := Ideal) x sc sh g w kg co si (ix4 b n ⟨f.val / 64, by omega⟩ ⟨f.val % 64, by omega⟩) := by
  unfold val_main_v115
  generalize val_main_v95 (F := Ideal) x sc sh g w kg co si = y
  pointwise

theorem v121_at (b : Fin 4) (n : Fin 8192) (f : Fin 256) : val_main_v121 (F := Ideal) x sc sh g w kg co si (ix3 b n f)
    = val_main_v115 (F := Ideal) x sc sh g w kg co si (ix3 b n f) := by
  unfold val_main_v121
  exact cast_at _ _ _

theorem v121_apply (b : Fin 4) (n : Fin 8192) (f : Fin 256) : val_main_v121 (F := Ideal) x sc sh g w kg co si (ix3 b n f)
    = rope (headM (fun e => pS x sc sh g w b n ⟨4096 + (f.val / 64 * 64 + e.val), by omega⟩) (fun e => kg (ix1 e))) (fun i => co (ix2 n i)) (fun i => si (ix2 n i))
        ⟨f.val % 64, by omega⟩ := by
  rw [v121_at, v115_apply, v95_apply]
  refine congrArg (fun z => rope z _ _ _) (funext fun e => ?_)
  exact v80_apply x sc sh g w kg b n ⟨f.val / 64, by omega⟩ e

end Cert.Proof.In

end
-- ==== Proof.InBlock.lean ====
/-
  The blocks that a grid point of the input projection leaves, in terms of its arguments.
-/
module

public import proofs.«01_k».proof.Proof.InHost
public import proofs.«01_k».proof.Proof.InRef
public import Idealize.ShloMosaic.Lib.Pipeline.FrameBody

@[expose] public section

set_option maxRecDepth 16384

noncomputable section

namespace Cert.Proof.In

open Cert.Kernel2Ideal Cert.Kernel2Ideal.Gen
open Idealize.ShloMosaic Idealize.ShloMosaic.TcCoe Idealize.ShloMosaic.StableHlo

theorem normed_congr {x x' g g' s s' t t' : Fin 1024 → EReal} (hx : ∀ k, x k = x' k) (hg : ∀ k, g k = g' k) (hs : ∀ k, s k = s' k)
    (ht : ∀ k, t k = t' k) (d : Fin 1024) : normed x g s t d = normed x' g' s' t' d := by
  rw [funext hx, funext hg, funext hs, funext ht]

theorem rope_congr {z z' : Fin 64 → EReal} {c c' s s' : Fin 32 → EReal} (hz : ∀ k, z k = z' k) (hc : ∀ k, c k = c' k) (hs : ∀ k, s k = s' k)
    (e : Fin 64) : rope z c s e = rope z' c' s' e := by
  rw [funext hz, funext hc, funext hs]

theorem head_congr {p p' g g' : Fin 64 → EReal} (hp : ∀ k, p k = p' k) (hg : ∀ k, g k = g' k) (e : Fin 64) : headN p g e = headN p' g' e := by
  rw [funext hp, funext hg]

theorem div64 (x : EReal) : Ideal.div x (Ideal.ofBits .f32 0x42800000#32) = x * Ideal.ofBits .f32 0x3C800000#32 := by
  have h64 : Ideal.ofBits .f32 0x42800000#32 = ((64 : ℝ) : EReal) := by
    simp [Ideal.ofBits, Ideal.ieee]
    rw [← EReal.coe_mul]; norm_num
  have hi : Ideal.ofBits .f32 0x3C800000#32 = ((1 / 64 : ℝ) : EReal) := by
    simp [Ideal.ofBits, Ideal.ieee]
    rw [← EReal.coe_mul]; norm_num
  rw [h64, hi, Ideal.div_coe (by norm_num)]

theorem headN_eq (p g : Fin 64 → EReal) : headN p g = headM p g := by
  funext e
  unfold headN headR headM
  rw [div64]

theorem one_eq : Ideal.ofBits .bf16 0x3F80#16 = Ideal.ofBits .f32 0x3F800000#32 := by
  have h1 : Ideal.ofBits .bf16 0x3F80#16 = ((1 : ℝ) : EReal) := by
    simp [Ideal.ofBits, Ideal.ieee]
    try (rw [← EReal.coe_mul]; norm_num)
  have h2 : Ideal.ofBits .f32 0x3F800000#32 = ((1 : ℝ) : EReal) := by
    simp [Ideal.ofBits, Ideal.ieee]
    try (rw [← EReal.coe_mul]; norm_num)
  rw [h1, h2]

/-- The queries' factor is a nonnegative real. -/
theorem qf_real : ∃ q : ℝ, 0 ≤ q ∧ qf = (q : EReal) := by
  refine ⟨1 / 8 * (1 / Real.log 2), by have := Real.log_pos (show (1 : ℝ) < 2 by norm_num); positivity, ?_⟩
  have h8 : Ideal.ofBits .f32 0x3E000000#32 = ((1 / 8 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : Real.log 2 ≠ 0 := (Real.log_pos (by norm_num)).ne'
  unfold qf
  rw [h8, h2, Ideal.log_coe, if_neg (by norm_num), Ideal.div_coe hl, ← EReal.coe_mul]

theorem rope_scale (z : Fin 64 → EReal) (c s : Fin 32 → EReal) (e : Fin 64) : rope (fun e => z e * qf) c s e = rope z c s e * qf := by
  obtain ⟨q, hq, e0⟩ := qf_real
  rw [e0]
  have h0 : (0 : EReal) ≤ (q : EReal) := by exact_mod_cast hq
  have hd : ∀ a b : EReal, (a + b) * (q : EReal) = a * q + b * q := fun a b => EReal.right_distrib_of_nonneg_of_ne_top h0 (EReal.coe_ne_top q) a b
  have hm : ∀ a b : EReal, a * (q : EReal) * b = a * b * q := fun a b => by rw [mul_assoc, mul_comm (q : EReal) b, ← mul_assoc]
  unfold rope
  split
  · rw [hm, hm, sub_eq_add_neg, sub_eq_add_neg, hd, neg_mul]
  · rw [hm, hm, hd]

variable (m : (ℓ : Loc nD τ sig) → Buf (Elt Ideal) ℓ) (c : Dev nD) (t : Fin cfg0.N)

/-- A projected row. -/
def pK (b : Fin 4) (n : Fin 8192) (j : Fin 7680) : EReal := pS (aX m c) (aSc m c) (aSh m c) (aG m c) (aW m c) b n j

theorem bH_apply (r : Fin 256) (d : Fin 1024) : bH m c t (ix2 r d) = hS (aX m c) (aSc m c) (aSh m c) (aG m c) (gB t) (gN t r) d := by
  unfold bH hS
  refine (pay6_apply _ _ _ _ r d).trans ?_
  exact normed_congr (fun k => block0 m c t r k) (fun k => block3 m c t k) (fun k => block1 m c t k) (fun k => block2 m c t k) d

theorem tok_apply (k : Fin 1024) (j : Fin 6144) (j' : Fin 7680) (h : (j.val < 3072 ∧ j'.val = j.val) ∨ (3072 ≤ j.val ∧ j'.val = j.val + 1536)) :
    iblk m c 4 t (ix2 k j) = aW m c (ix2 k j') := by
  refine (block4 m c t k j).trans ((hTok_apply _ k j).trans ?_)
  rcases h with ⟨h1, h2⟩ | ⟨h1, h2⟩
  · rw [dif_pos h1]
    exact congrArg (fun j => aW m c (ix2 k j)) (Fin.ext h2.symm)
  · rw [dif_neg (by omega)]
    exact congrArg (fun j => aW m c (ix2 k j)) (Fin.ext (by show 4608 + (j.val - 3072) = j'.val; omega))

theorem cols_sum (r : Fin 256) (o : ℕ) (d : Fin 1024) (j' : Fin 7680) (ho : o + d.val < 6144)
    (h : (o + d.val < 3072 ∧ j'.val = o + d.val) ∨ (3072 ≤ o + d.val ∧ j'.val = o + d.val + 1536)) :
    (∑ k : Fin 1024, (bH m c t (ix2 r k) : EReal) * wcols o (iblk m c 4 t) (ix2 k d)) = pK m c (gB t) (gN t r) j' := by
  unfold pK pS
  refine Finset.sum_congr rfl fun k _ => ?_
  refine congrArg₂ (fun a b : EReal => a * b) (bH_apply m c t r k) ?_
  have hm : (o + d.val) % 6144 = o + d.val := Nat.mod_eq_of_lt ho
  refine tok_apply m c t k ⟨(o + d.val) % 6144, Nat.mod_lt _ (by norm_num)⟩ j' ?_
  show ((o + d.val) % 6144 < 3072 ∧ j'.val = (o + d.val) % 6144) ∨ (3072 ≤ (o + d.val) % 6144 ∧ j'.val = (o + d.val) % 6144 + 1536)
  rw [hm]
  exact h

theorem wlast_apply (w : Vec Ideal S1024x6144 .bf16) (k : Fin 1024) (d : Fin 2048) : wlast w (ix2 k d) = w (ix2 k ⟨4096 + d.val, by omega⟩) :=
  congrArg (fun j => w (ix2 k j)) (Fin.ext (show (4096 + d.val) % 6144 = 4096 + d.val by omega))

theorem last_sum (r : Fin 256) (d : Fin 2048) :
    (∑ k : Fin 1024, (bH m c t (ix2 r k) : EReal) * wlast (iblk m c 4 t) (ix2 k d)) = pK m c (gB t) (gN t r) ⟨5632 + d.val, by omega⟩ := by
  unfold pK pS
  refine Finset.sum_congr rfl fun k _ => ?_
  refine congrArg₂ (fun a b : EReal => a * b) (bH_apply m c t r k) ?_
  refine (wlast_apply _ k d).trans ?_
  exact tok_apply m c t k ⟨4096 + d.val, by omega⟩ _ (.inr ⟨by show 3072 ≤ 4096 + d.val; omega, by show 5632 + d.val = 4096 + d.val + 1536; omega⟩)

theorem bP_apply (f : Fin 1536) (r : Fin 256) : bP m c t (ix2 f r) = pK m c (gB t) (gN t r) ⟨3072 + f.val, by omega⟩ := by
  unfold bP pK pS
  refine (pay15_apply _ _ f r).trans ?_
  refine Finset.sum_congr rfl fun k _ => ?_
  refine (congrArg₂ (fun a b : EReal => a * b) (block5 m c t f k) (bH_apply m c t r k)).trans ?_
  exact mul_comm _ _

theorem feat_apply (f : Fin 1536) (r : Fin 256) (j : Fin 7680) (h : j.val = 3072 + f.val) : bP m c t (ix2 f r) = pK m c (gB t) (gN t r) j :=
  (bP_apply m c t f r).trans (congrArg (pK m c (gB t) (gN t r)) (Fin.ext h.symm))

theorem el10 (r : Fin 256) (d : Fin 1024) : (outsAt0 m c t).1 (ix3 0 r d)
    = pK m c (gB t) (gN t r) ⟨d.val, by omega⟩ * sgm (pK m c (gB t) (gN t r) ⟨1024 + d.val, by omega⟩) := by
  rw [out10 m c t]
  refine (pay8_apply _ _ _ r d).trans ?_
  refine congrArg₂ (fun a b : EReal => a * sgm b) ?_ (cols_sum m c t r 1024 d _ (by omega) (.inl ⟨by omega, rfl⟩))
  refine (pay7_apply _ _ _ _ _ r d).trans ?_
  exact cols_sum m c t r 0 d _ (by omega) (.inl ⟨by omega, by show d.val = 0 + d.val; omega⟩)

theorem el11 (r : Fin 256) (d : Fin 1024) : (outsAt0 m c t).2.1 (ix3 0 r d)
    = pK m c (gB t) (gN t r) ⟨2048 + d.val, by omega⟩ * sgm (pK m c (gB t) (gN t r) ⟨2048 + d.val, by omega⟩) := by
  rw [out11 m c t]
  refine (pay9_apply _ _ r d).trans ?_
  exact congrArg (fun a : EReal => a * sgm a) (cols_sum m c t r 2048 d _ (by omega) (.inl ⟨by omega, rfl⟩))

theorem el12 (r : Fin 256) (d : Fin 1024) : (outsAt0 m c t).2.2.1 (ix3 0 r d)
    = pK m c (gB t) (gN t r) ⟨4608 + d.val, by omega⟩ * sgm (pK m c (gB t) (gN t r) ⟨4608 + d.val, by omega⟩) := by
  rw [out12 m c t]
  refine (pay13_apply _ _ r d).trans ?_
  exact congrArg (fun a : EReal => a * sgm a) (cols_sum m c t r 3072 d _ (by omega) (.inr ⟨by omega, by show 4608 + d.val = 3072 + d.val + 1536; omega⟩))

theorem el13 (r : Fin 256) (d : Fin 2048) : (outsAt0 m c t).2.2.2.1 (ix3 0 r d) = sgm (pK m c (gB t) (gN t r) ⟨5632 + d.val, by omega⟩) := by
  rw [out13 m c t]
  refine (pay14_apply _ _ r d).trans ?_
  exact congrArg sgm (last_sum m c t r d)

theorem pay4_apply (w : Vec Ideal S32x256 .f32) (i : Fin 32) (r : Fin 256) : k0_pay4 w (ix2 i r) = w (ix2 i r) := by
  unfold_payloads
  pointwise

theorem pay5_apply (w : Vec Ideal S32x256 .f32) (i : Fin 32) (r : Fin 256) : k0_pay5 w (ix2 i r) = w (ix2 i r) := by
  unfold_payloads
  pointwise

theorem pay17_apply (w : Vec Ideal S64x256 .f32) (i : Fin 64) (r : Fin 256) : k0_pay17 w (ix2 i r) = w (ix2 i r) := by
  unfold_payloads
  pointwise

theorem el14 (f : Fin 1024) (r : Fin 256) : (outsAt0 m c t).2.2.2.2.1 (ix3 0 f r)
    = rope (headM (fun e => pK m c (gB t) (gN t r) ⟨3072 + (f.val / 64 * 64 + e.val), by omega⟩) (fun e => aQg m c (ix1 e)))
        (fun i => aC m c (ix2 (gN t r) i)) (fun i => aS m c (ix2 (gN t r) i)) ⟨f.val % 64, by omega⟩ * qf := by
  rw [out14 m c t]
  refine (pay19_apply _ _ _ _ _ f r).trans ?_
  rw [← rope_scale, ← headN_eq]
  refine rope_congr (fun e => ?_) (fun i => (pay4_apply _ i r).trans (block8 m c t i r)) (fun i => (pay5_apply _ i r).trans (block9 m c t i r)) _
  have hz : ∀ e : Fin 64, k0_pay16 (bH m c t) (iblk m c 5 t) (ix3 ⟨f.val / 64, by omega⟩ e r)
      = pK m c (gB t) (gN t r) ⟨3072 + (f.val / 64 * 64 + e.val), by omega⟩ := fun e =>
    (pay16_apply _ _ _ e r).trans (feat_apply m c t _ r _ rfl)
  refine (congrArg₂ (fun a b : EReal => a * b) (congrArg₂ (fun a b : EReal => a * b) (hz e) ((pay18_apply _ _ _ r).trans (congrArg headR (funext hz))))
    ((pay17_apply _ e r).trans (block6 m c t e r))).trans ?_
  exact (mul_assoc _ _ _).symm

theorem el15 (r f : Fin 256) : (outsAt0 m c t).2.2.2.2.2.1 (ix3 0 r f)
    = rope (headM (fun e => pK m c (gB t) (gN t r) ⟨4096 + (f.val / 64 * 64 + e.val), by omega⟩) (fun e => aKg m c (ix1 e)))
        (fun i => aC m c (ix2 (gN t r) i)) (fun i => aS m c (ix2 (gN t r) i)) ⟨f.val % 64, by omega⟩ := by
  rw [out15 m c t]
  refine (pay26_apply _ _ _ _ r f).trans ?_
  rw [← headN_eq]
  refine rope_congr (fun e => ?_) (fun i => (pay4_apply _ i r).trans (block8 m c t i r)) (fun i => (pay5_apply _ i r).trans (block9 m c t i r)) _
  refine (pay20_apply _ _ _ e r).trans ?_
  exact head_congr (fun k => feat_apply m c t _ r _ (by show 4096 + (f.val / 64 * 64 + k.val) = 3072 + (1024 + (f.val / 64 * 64 + k.val)); omega))
    (fun k => block7 m c t k r) e

/-- Rows of a block, read from the store of 64 rows that holds them. -/
theorem hit64 {o : ℕ} (inb : ∀ a, (![0, o, 0] : Fin 3 → ℕ) a + S1x64x256.size a ≤ S1x320x256.size a) (w : Vec Ideal S1x64x256 .bf16)
    (L : List (View.Piece (Elt Ideal) S1x320x256 .bf16)) (f : Fin 320) (r : Fin 256) (h0 : o ≤ f.val) (h1 : f.val - o < 64) :
    View.canon (Val := Elt Ideal) (s := S1x320x256) (e := .bf16) (⟨Rect.unit (s := S1x320x256) ![0, o, 0] S1x64x256.size inb, w⟩ :: L) (ix3 0 f r)
      = w (ix3 0 ⟨f.val - o, h1⟩ r) := by
  have e : (Rect.unit (s := S1x320x256) ![0, o, 0] S1x64x256.size inb).emb (ix3 0 ⟨f.val - o, h1⟩ r : S1x64x256.Idx) = (ix3 0 f r : S1x320x256.Idx) := by
    funext a
    apply Fin.ext
    rw [Rect.emb_apply]
    match a with
    | ⟨0, _⟩ => rfl
    | ⟨1, _⟩ => show o + 1 * (f.val - o) = f.val; omega
    | ⟨2, _⟩ => show 0 + 1 * r.val = r.val; omega
  rw [← e]
  exact View.canon_cons_emb (Rect.unit (s := S1x320x256) ![0, o, 0] S1x64x256.size inb) w L _

/-- The same, from a store of 16 rows. -/
theorem hit16 {o : ℕ} (inb : ∀ a, (![0, o, 0] : Fin 3 → ℕ) a + S1x16x256.size a ≤ S1x320x256.size a) (w : Vec Ideal S1x16x256 .bf16)
    (L : List (View.Piece (Elt Ideal) S1x320x256 .bf16)) (f : Fin 320) (r : Fin 256) (h0 : o ≤ f.val) (h1 : f.val - o < 16) :
    View.canon (Val := Elt Ideal) (s := S1x320x256) (e := .bf16) (⟨Rect.unit (s := S1x320x256) ![0, o, 0] S1x16x256.size inb, w⟩ :: L) (ix3 0 f r)
      = w (ix3 0 ⟨f.val - o, h1⟩ r) := by
  have e : (Rect.unit (s := S1x320x256) ![0, o, 0] S1x16x256.size inb).emb (ix3 0 ⟨f.val - o, h1⟩ r : S1x16x256.Idx) = (ix3 0 f r : S1x320x256.Idx) := by
    funext a
    apply Fin.ext
    rw [Rect.emb_apply]
    match a with
    | ⟨0, _⟩ => rfl
    | ⟨1, _⟩ => show o + 1 * (f.val - o) = f.val; omega
    | ⟨2, _⟩ => show 0 + 1 * r.val = r.val; omega
  rw [← e]
  exact View.canon_cons_emb (Rect.unit (s := S1x320x256) ![0, o, 0] S1x16x256.size inb) w L _

/-- Rows above a store of 64 rows are what the earlier stores left. -/
theorem miss64 {o : ℕ} (inb : ∀ a, (![0, o, 0] : Fin 3 → ℕ) a + S1x64x256.size a ≤ S1x320x256.size a) (w : Vec Ideal S1x64x256 .bf16)
    (L : List (View.Piece (Elt Ideal) S1x320x256 .bf16)) (f : Fin 320) (r : Fin 256) (h0 : f.val < o) :
    View.canon (Val := Elt Ideal) (s := S1x320x256) (e := .bf16) (⟨Rect.unit (s := S1x320x256) ![0, o, 0] S1x64x256.size inb, w⟩ :: L) (ix3 0 f r)
      = View.canon (Val := Elt Ideal) (s := S1x320x256) (e := .bf16) L (ix3 0 f r) :=
  View.canon_cons_of_not_mem _ L fun h => by
    have h1 : o ≤ f.val := ((Rect.mem_set_unit (inb := inb)).mp h (1 : Fin 3)).1
    omega

/-- The same for a store of 16 rows. -/
theorem miss16 {o : ℕ} (inb : ∀ a, (![0, o, 0] : Fin 3 → ℕ) a + S1x16x256.size a ≤ S1x320x256.size a) (w : Vec Ideal S1x16x256 .bf16)
    (L : List (View.Piece (Elt Ideal) S1x320x256 .bf16)) (f : Fin 320) (r : Fin 256) (h0 : f.val < o) :
    View.canon (Val := Elt Ideal) (s := S1x320x256) (e := .bf16) (⟨Rect.unit (s := S1x320x256) ![0, o, 0] S1x16x256.size inb, w⟩ :: L) (ix3 0 f r)
      = View.canon (Val := Elt Ideal) (s := S1x320x256) (e := .bf16) L (ix3 0 f r) :=
  View.canon_cons_of_not_mem _ L fun h => by
    have h1 : o ≤ f.val := ((Rect.mem_set_unit (inb := inb)).mp h (1 : Fin 3)).1
    omega

theorem pay29_apply (e : Fin 16) (r : Fin 256) : k0_pay29 (F := Ideal) (ix3 0 e r) = Ideal.ofBits .bf16 0x3F80#16 := by
  unfold_payloads
  pointwise

theorem pay31_apply (e : Fin 16) (r : Fin 256) : k0_pay31 (F := Ideal) (ix3 0 e r) = Ideal.ofBits .bf16 0x3F80#16 := by
  unfold_payloads
  pointwise

theorem pay1_apply (e : Fin 16) (r : Fin 256) : k0_pay1 (k0_pay27 (F := Ideal)) (ix3 0 e r) = Ideal.ofBits .bf16 0x3F80#16 := by
  unfold_payloads
  pointwise

theorem pay3_apply (e : Fin 16) (r : Fin 256) : k0_pay3 (k0_pay27 (F := Ideal)) (ix3 0 e r) = Ideal.ofBits .bf16 0x3F80#16 := by
  unfold_payloads
  pointwise

theorem el16 (f : Fin 320) (r : Fin 256) : (outsAt0 m c t).2.2.2.2.2.2 (ix3 0 f r)
    = if h : f.val % 80 < 64 then pK m c (gB t) (gN t r) ⟨4352 + (f.val / 80 * 64 + f.val % 80), by omega⟩ else Ideal.ofBits .f32 0x3F800000#32 := by
  rw [out16 m c t]
  have hf := f.isLt
  by_cases h7 : 304 ≤ f.val
  · rw [dif_neg (by omega), ← one_eq]
    exact (hit16 _ _ _ f r h7 (by omega)).trans (pay3_apply _ r)
  refine (miss16 _ _ _ f r (by omega)).trans ?_
  by_cases h6 : 240 ≤ f.val
  · rw [dif_pos (by omega)]
    exact (hit64 _ _ _ f r h6 (by omega)).trans ((pay2_apply _ _ r).trans (feat_apply m c t _ r _
      (by show 4352 + (f.val / 80 * 64 + f.val % 80) = 3072 + (1472 + (f.val - 240)); omega)))
  refine (miss64 _ _ _ f r (by omega)).trans ?_
  by_cases h5 : 224 ≤ f.val
  · rw [dif_neg (by omega), ← one_eq]
    exact (hit16 _ _ _ f r h5 (by omega)).trans (pay1_apply _ r)
  refine (miss16 _ _ _ f r (by omega)).trans ?_
  by_cases h4 : 160 ≤ f.val
  · rw [dif_pos (by omega)]
    exact (hit64 _ _ _ f r h4 (by omega)).trans ((pay32_apply _ _ r).trans (feat_apply m c t _ r _
      (by show 4352 + (f.val / 80 * 64 + f.val % 80) = 3072 + (1408 + (f.val - 160)); omega)))
  refine (miss64 _ _ _ f r (by omega)).trans ?_
  by_cases h3 : 144 ≤ f.val
  · rw [dif_neg (by omega), ← one_eq]
    exact (hit16 _ _ _ f r h3 (by omega)).trans (pay31_apply _ r)
  refine (miss16 _ _ _ f r (by omega)).trans ?_
  by_cases h2 : 80 ≤ f.val
  · rw [dif_pos (by omega)]
    exact (hit64 _ _ _ f r h2 (by omega)).trans ((pay30_apply _ _ r).trans (feat_apply m c t _ r _
      (by show 4352 + (f.val / 80 * 64 + f.val % 80) = 3072 + (1344 + (f.val - 80)); omega)))
  refine (miss64 _ _ _ f r (by omega)).trans ?_
  by_cases h1 : 64 ≤ f.val
  · rw [dif_neg (by omega), ← one_eq]
    exact (hit16 _ _ _ f r h1 (by omega)).trans (pay29_apply _ r)
  refine (miss16 _ _ _ f r (by omega)).trans ?_
  rw [dif_pos (by omega)]
  exact (hit64 _ _ _ f r (Nat.zero_le _) (by omega)).trans ((pay28_apply _ _ r).trans (feat_apply m c t _ r _
    (by show 4352 + (f.val / 80 * 64 + f.val % 80) = 3072 + (1280 + (f.val - 0)); omega)))

end Cert.Proof.In

end
-- ==== Proof.InEq.lean ====
/-
  The input projection and the reference, over the extended reals: the same seven results.
-/
module

public import proofs.«01_k».proof.Proof.InBlock
public import proofs.«01_k».proof.Proof.Gen.Kernel2Ideal.Value
public import proofs.«01_k».proof.Defs

@[expose] public section

set_option maxRecDepth 16384

noncomputable section

namespace Cert.Proof.In

open Cert.Kernel2Ideal Cert.Kernel2Ideal.Gen
open Idealize.ShloMosaic Idealize.ShloMosaic.TcCoe
open Idealize.SL.Sem
open Cert.Reference2Ideal.Read

variable (m : (ℓ : Loc nD τ sig) → Buf (Elt Ideal) ℓ) (c : Dev nD)

/-- The array of window 10 at the end. -/
theorem result10 : (dats m 0 c).arrAt 10 cfg0.N = val_main_v116 (F := Ideal) (aX m c) (aSc m c) (aSh m c) (aG m c) (aW m c) := by
  generalize hG : val_main_v116 (F := Ideal) (aX m c) (aSc m c) (aSh m c) (aG m c) (aW m c) = G
  refine (dats m 0 c).arrAt_eq_of_covers 10 _ covers10 fun t hf y => ?_
  blk_simp
  rw [after0_10]
  have key : ∀ y : S1x256x1024.Idx, (outsAt0 m c t).1 y = G (((cfg0.win 10).blk t).view.emb y : S4x8192x1024.Idx) := by
    intro y
    obtain ⟨r, d, rfl⟩ : ∃ (r : Fin 256) (d : Fin 1024), y = ix3 0 r d :=
      ⟨y 1, y 2, (eq_ix3 y).trans (congrArg (fun x => ix3 x (y 1) (y 2)) (Subsingleton.elim (α := Fin 1) _ _))⟩
    refine Eq.trans ?_ (congrArg G (place10 t r d)).symm
    rw [← hG]
    exact (el10 m c t r d).trans (v116_apply _ _ _ _ _ (gB t) (gN t r) d).symm
  exact key y

/-- The array of window 11 at the end. -/
theorem result11 : (dats m 0 c).arrAt 11 cfg0.N = val_main_v117 (F := Ideal) (aX m c) (aSc m c) (aSh m c) (aG m c) (aW m c) := by
  generalize hG : val_main_v117 (F := Ideal) (aX m c) (aSc m c) (aSh m c) (aG m c) (aW m c) = G
  refine (dats m 0 c).arrAt_eq_of_covers 11 _ covers11 fun t hf y => ?_
  blk_simp
  rw [after0_11]
  have key : ∀ y : S1x256x1024.Idx, (outsAt0 m c t).2.1 y = G (((cfg0.win 11).blk t).view.emb y : S4x8192x1024.Idx) := by
    intro y
    obtain ⟨r, d, rfl⟩ : ∃ (r : Fin 256) (d : Fin 1024), y = ix3 0 r d :=
      ⟨y 1, y 2, (eq_ix3 y).trans (congrArg (fun x => ix3 x (y 1) (y 2)) (Subsingleton.elim (α := Fin 1) _ _))⟩
    refine Eq.trans ?_ (congrArg G (place11 t r d)).symm
    rw [← hG]
    exact (el11 m c t r d).trans (v117_apply _ _ _ _ _ (gB t) (gN t r) d).symm
  exact key y

/-- The array of window 12 at the end. -/
theorem result12 : (dats m 0 c).arrAt 12 cfg0.N = val_main_v118 (F := Ideal) (aX m c) (aSc m c) (aSh m c) (aG m c) (aW m c) := by
  generalize hG : val_main_v118 (F := Ideal) (aX m c) (aSc m c) (aSh m c) (aG m c) (aW m c) = G
  refine (dats m 0 c).arrAt_eq_of_covers 12 _ covers12 fun t hf y => ?_
  blk_simp
  rw [after0_12]
  have key : ∀ y : S1x256x1024.Idx, (outsAt0 m c t).2.2.1 y = G (((cfg0.win 12).blk t).view.emb y : S4x8192x1024.Idx) := by
    intro y
    obtain ⟨r, d, rfl⟩ : ∃ (r : Fin 256) (d : Fin 1024), y = ix3 0 r d :=
      ⟨y 1, y 2, (eq_ix3 y).trans (congrArg (fun x => ix3 x (y 1) (y 2)) (Subsingleton.elim (α := Fin 1) _ _))⟩
    refine Eq.trans ?_ (congrArg G (place12 t r d)).symm
    rw [← hG]
    exact (el12 m c t r d).trans (v118_apply _ _ _ _ _ (gB t) (gN t r) d).symm
  exact key y

/-- The array of window 13 at the end. -/
theorem result13 : (dats m 0 c).arrAt 13 cfg0.N = val_main_v119 (F := Ideal) (aX m c) (aSc m c) (aSh m c) (aG m c) (aW m c) := by
  generalize hG : val_main_v119 (F := Ideal) (aX m c) (aSc m c) (aSh m c) (aG m c) (aW m c) = G
  refine (dats m 0 c).arrAt_eq_of_covers 13 _ covers13 fun t hf y => ?_
  blk_simp
  rw [after0_13]
  have key : ∀ y : S1x256x2048.Idx, (outsAt0 m c t).2.2.2.1 y = G (((cfg0.win 13).blk t).view.emb y : S4x8192x2048.Idx) := by
    intro y
    obtain ⟨r, d, rfl⟩ : ∃ (r : Fin 256) (d : Fin 2048), y = ix3 0 r d :=
      ⟨y 1, y 2, (eq_ix3 y).trans (congrArg (fun x => ix3 x (y 1) (y 2)) (Subsingleton.elim (α := Fin 1) _ _))⟩
    refine Eq.trans ?_ (congrArg G (place13 t r d)).symm
    rw [← hG]
    exact (el13 m c t r d).trans (v119_apply _ _ _ _ _ (gB t) (gN t r) d).symm
  exact key y

/-- The array of window 14 at the end. -/
theorem result14 : (dats m 0 c).arrAt 14 cfg0.N = val_main_v120 (F := Ideal) (aX m c) (aSc m c) (aSh m c) (aG m c) (aW m c) (aQg m c) (aC m c) (aS m c) := by
  generalize hG : val_main_v120 (F := Ideal) (aX m c) (aSc m c) (aSh m c) (aG m c) (aW m c) (aQg m c) (aC m c) (aS m c) = G
  refine (dats m 0 c).arrAt_eq_of_covers 14 _ covers14 fun t hf y => ?_
  blk_simp
  rw [after0_14]
  have key : ∀ y : S1x1024x256.Idx, (outsAt0 m c t).2.2.2.2.1 y = G (((cfg0.win 14).blk t).view.emb y : S4x1024x8192.Idx) := by
    intro y
    obtain ⟨f, r, rfl⟩ : ∃ (f : Fin 1024) (r : Fin 256), y = ix3 0 f r :=
      ⟨y 1, y 2, (eq_ix3 y).trans (congrArg (fun x => ix3 x (y 1) (y 2)) (Subsingleton.elim (α := Fin 1) _ _))⟩
    refine Eq.trans ?_ (congrArg G (place14 t f r)).symm
    rw [← hG]
    exact (el14 m c t f r).trans (v120_apply _ _ _ _ _ _ _ _ (gB t) f (gN t r)).symm
  exact key y

/-- The array of window 15 at the end. -/
theorem result15 : (dats m 0 c).arrAt 15 cfg0.N = val_main_v121 (F := Ideal) (aX m c) (aSc m c) (aSh m c) (aG m c) (aW m c) (aKg m c) (aC m c) (aS m c) := by
  generalize hG : val_main_v121 (F := Ideal) (aX m c) (aSc m c) (aSh m c) (aG m c) (aW m c) (aKg m c) (aC m c) (aS m c) = G
  refine (dats m 0 c).arrAt_eq_of_covers 15 _ covers15 fun t hf y => ?_
  blk_simp
  rw [after0_15]
  have key : ∀ y : S1x256x256.Idx, (outsAt0 m c t).2.2.2.2.2.1 y = G (((cfg0.win 15).blk t).view.emb y : S4x8192x256.Idx) := by
    intro y
    obtain ⟨r, f, rfl⟩ : ∃ (r : Fin 256) (f : Fin 256), y = ix3 0 r f :=
      ⟨y 1, y 2, (eq_ix3 y).trans (congrArg (fun x => ix3 x (y 1) (y 2)) (Subsingleton.elim (α := Fin 1) _ _))⟩
    refine Eq.trans ?_ (congrArg G (place15 t r f)).symm
    rw [← hG]
    exact (el15 m c t r f).trans (v121_apply _ _ _ _ _ _ _ _ (gB t) (gN t r) f).symm
  exact key y

/-- The array of window 16 at the end. -/
theorem result16 : (dats m 0 c).arrAt 16 cfg0.N = val_main_v122 (F := Ideal) (aX m c) (aSc m c) (aSh m c) (aG m c) (aW m c) := by
  generalize hG : val_main_v122 (F := Ideal) (aX m c) (aSc m c) (aSh m c) (aG m c) (aW m c) = G
  refine (dats m 0 c).arrAt_eq_of_covers 16 _ covers16 fun t hf y => ?_
  blk_simp
  rw [after0_16]
  have key : ∀ y : S1x320x256.Idx, (outsAt0 m c t).2.2.2.2.2.2 y = G (((cfg0.win 16).blk t).view.emb y : S4x320x8192.Idx) := by
    intro y
    obtain ⟨f, r, rfl⟩ : ∃ (f : Fin 320) (r : Fin 256), y = ix3 0 f r :=
      ⟨y 1, y 2, (eq_ix3 y).trans (congrArg (fun x => ix3 x (y 1) (y 2)) (Subsingleton.elim (α := Fin 1) _ _))⟩
    refine Eq.trans ?_ (congrArg G (place16 t f r)).symm
    rw [← hG]
    exact (el16 m c t f r).trans (v122_apply _ _ _ _ _ (gB t) f (gN t r)).symm
  exact key y

theorem algebraic : Cert.algebraic_Kernel2Ideal_Reference2Ideal := by
  intro m g m' g' _ hargs
  refine ⟨fun c => val_main_v116 (F := Ideal) (aX m c) (aSc m c) (aSh m c) (aG m c) (aW m c),
    fun c => val_main_v117 (F := Ideal) (aX m c) (aSc m c) (aSh m c) (aG m c) (aW m c),
    fun c => val_main_v118 (F := Ideal) (aX m c) (aSc m c) (aSh m c) (aG m c) (aW m c),
    fun c => val_main_v119 (F := Ideal) (aX m c) (aSc m c) (aSh m c) (aG m c) (aW m c),
    fun c => val_main_v120 (F := Ideal) (aX m c) (aSc m c) (aSh m c) (aG m c) (aW m c) (aQg m c) (aC m c) (aS m c),
    fun c => val_main_v121 (F := Ideal) (aX m c) (aSc m c) (aSh m c) (aG m c) (aW m c) (aKg m c) (aC m c) (aS m c),
    fun c => val_main_v122 (F := Ideal) (aX m c) (aSc m c) (aSh m c) (aG m c) (aW m c), ?_, ?_⟩
  · refine (θ_run _ _ _).mono (fun r h c => ?_) (Cert.Kernel2Ideal.Value.run_blocks (F := Ideal) m g)
    obtain ⟨e10, e11, e12, e13, e14, e15, e16, hk⟩ := h c
    exact ⟨e10.trans (result10 m c), e11.trans (result11 m c), e12.trans (result12 m c), e13.trans (result13 m c), e14.trans (result14 m c), e15.trans (result15 m c), e16.trans (result16 m c), hk⟩
  · refine (θ_run _ _ _).mono (fun r h c => ?_) (Cert.Reference2Ideal.Value.run (F := Ideal) m' g')
    obtain ⟨e10, e11, e12, e13, e14, e15, e16, hk⟩ := h c
    obtain ⟨h0, h1, h2, h3, h4, h5, h6, h7, h8⟩ := hargs c
    refine ⟨e10.trans ?_, e11.trans ?_, e12.trans ?_, e13.trans ?_, e14.trans ?_, e15.trans ?_, e16.trans ?_, hk⟩
    · rw [val_main_v116_eq, h0, h1, h2, h3, h4]
    · rw [val_main_v117_eq, h0, h1, h2, h3, h4]
    · rw [val_main_v118_eq, h0, h1, h2, h3, h4]
    · rw [val_main_v119_eq, h0, h1, h2, h3, h4]
    · rw [val_main_v120_eq, h0, h1, h2, h3, h4, h5, h7, h8]
    · rw [val_main_v121_eq, h0, h1, h2, h3, h4, h6, h7, h8]
    · rw [val_main_v122_eq, h0, h1, h2, h3, h4]

end Cert.Proof.In

end
-- ==== Proof.ModVals.lean ====
/-
  The modulation's arithmetic over the extended reals: the kernel's three products of split operands are the one product,
  where the operands are real.
-/
module

public import proofs.«01_k».proof.Proof.Gen.Kernel3Ideal.Skeleton
public import proofs.«01_k».proof.Proof.Gen.Reference3Ideal.Read
public import proofs.«01_k».proof.Proof.Gen.Pre_finite3
public import proofs.«01_k».proof.Proof.Pre
public import proofs.«01_k».proof.Proof.InVals

@[expose] public section

set_option maxRecDepth 16384

noncomputable section

namespace Cert.Proof.Mod

open Cert.Kernel3Ideal Cert.Kernel3Ideal.Gen
open Idealize.ShloMosaic Idealize.ShloMosaic.StableHlo
open Cert.Proof.Soft Cert.Proof.In
open Cert.Reference3Ideal.Read

/-- An embedding's element times its logistic. -/
def act (z : EReal) : EReal := z * sgm z

/-- The modulation of one row: its activations against a column of the weights, and the bias. -/
def modS (x w : Fin 1024 → EReal) (b : EReal) : EReal := (∑ k : Fin 1024, act (x k) * w k) + b

/-- The same in three products, with each operand cut in itself and what its format leaves over. -/
def modK (x w : Fin 1024 → EReal) (b : EReal) : EReal :=
  ((∑ k : Fin 1024, act (x k) * w k) + ∑ k : Fin 1024, act (x k) * (w k - w k)) + (∑ k : Fin 1024, (act (x k) - act (x k)) * w k) + b

theorem pay1_apply (v0 : Vec Ideal S8x1024 .f32) (v10 : Vec Ideal S1x1024x1024 .f32) (v25 : Vec Ideal S1x1x1024 .f32) (r : Fin 8) (d : Fin 1024) :
    k0_pay1 v0 v10 v25 (ix3 0 r d) = modK (fun k => v0 (ix2 r k)) (fun k => v10 (ix3 0 k d)) (v25 (ix3 0 0 d)) := by
  unfold modK act sgm
  simp only [← zero_sub']
  unfold_payloads
  pointwise

theorem act_real {z : EReal} (hz : IsReal z) : IsReal (act z) := by
  obtain ⟨x, rfl⟩ := hz
  refine IsReal.mul ⟨x, rfl⟩ ?_
  have h1 : Ideal.ofBits .f32 0x3F800000#32 = ((1 : ℝ) : EReal) := by
    simp [Ideal.ofBits, Ideal.ieee]
    try (rw [← EReal.coe_mul]; norm_num)
  unfold sgm
  rw [h1, ← EReal.coe_neg, Ideal.exp_coe, ← EReal.coe_add, Ideal.div_coe (by have := Real.exp_pos (-x); positivity), ← EReal.coe_mul]
  exact ⟨_, rfl⟩

theorem sub_self_real {z : EReal} (hz : IsReal z) : z - z = 0 := by
  obtain ⟨x, rfl⟩ := hz
  rw [← EReal.coe_sub, sub_self, EReal.coe_zero]

theorem modK_eq (x w : Fin 1024 → EReal) (b : EReal) (hx : ∀ k, IsReal (x k)) (hw : ∀ k, IsReal (w k)) : modK x w b = modS x w b := by
  unfold modK modS
  have e1 : (∑ k : Fin 1024, act (x k) * (w k - w k)) = 0 := Finset.sum_eq_zero fun k _ => by rw [sub_self_real (hw k), mul_zero]
  have e2 : (∑ k : Fin 1024, (act (x k) - act (x k)) * w k) = 0 := Finset.sum_eq_zero fun k _ => by rw [sub_self_real (act_real (hx k)), zero_mul]
  rw [e1, e2, add_zero, add_zero]

/-- The rows: the latent tokens' embeddings, the context's, and three of zeros. -/
def hRows (x0 : FVec Ideal S4x1024 .f32) (x1 : FVec Ideal S1024 .f32) : FVec Ideal S8x1024 .f32 :=
  concatenate S8x1024 0 [⟨S4x1024, x0⟩, ⟨S1x1024, broadcastInDim S1x1024 ![1] bcast_S1024_S1x1024_1 x1⟩,
    ⟨S3x1024, broadcastInDim S3x1024 ![] bcast_S_S3x1024 (constant S_ .f32 0x00000000#32)⟩] concatenates_S4x1024_S1x1024_S3x1024_S8x1024_d0

/-- The bias, with an axis of one row. -/
def hBias (x3 : FVec Ideal S2x3072 .f32) : FVec Ideal S2x1x3072 .f32 := shapeCast S2x1x3072 x3 shapeCasts_S2x3072_S2x1x3072

theorem hRows_apply (x0 : FVec Ideal S4x1024 .f32) (x1 : FVec Ideal S1024 .f32) (r : Fin 8) (k : Fin 1024) :
    hRows x0 x1 (ix2 r k) = if h : r.val < 4 then x0 (ix2 ⟨r.val, h⟩ k) else if _h : r.val - 4 < 1 then x1 (ix1 k) else 0 := by
  pointwise [hRows]

theorem hBias_apply (x3 : FVec Ideal S2x3072 .f32) (l : Fin 2) (j : Fin 3072) : hBias x3 (ix3 l 0 j) = x3 (ix2 l j) := by
  pointwise [hBias]

theorem hRows_real (x0 : FVec Ideal S4x1024 .f32) (x1 : FVec Ideal S1024 .f32) (h0 : ∀ i, IsReal (x0 i)) (h1 : ∀ i, IsReal (x1 i)) (r : Fin 8) (k : Fin 1024) :
    IsReal (hRows x0 x1 (ix2 r k)) := by
  rw [hRows_apply]
  split_ifs
  · exact h0 _
  · exact h1 _
  · exact ⟨0, EReal.coe_zero.symm⟩

variable (x0 : FVec Ideal S4x1024 .f32) (x1 : FVec Ideal S1024 .f32) (x2 : FVec Ideal S2x1024x3072 .f32) (x3 : FVec Ideal S2x3072 .f32)

theorem rows_eq : val_main_v2 (F := Ideal) x0 x1 = hRows x0 x1 := rfl

theorem v3_apply (r : Fin 8) (k : Fin 1024) : val_main_v3 (F := Ideal) x0 x1 (ix2 r k) = act (hRows x0 x1 (ix2 r k)) := by
  unfold act sgm val_main_v3 val_main_call0_v5 val_main_call0_v4 val_main_call0_v3 val_main_call0_v2 val_main_call0_v1 val_main_call0_v0 val_main_call0_cst val_main_call0_cst_0
  rw [rows_eq]
  generalize hRows x0 x1 = y
  pointwise

theorem v8_apply (l : Fin 2) (r : Fin 8) (j : Fin 3072) : val_main_v8 (F := Ideal) x0 x1 x2 x3 (ix3 l r j)
    = modS (fun k => hRows x0 x1 (ix2 r k)) (fun k => x2 (ix3 l k j)) (x3 (ix2 l j)) := by
  rw [val_main_v8_apply, val_main_v5_apply, val_main_v4_apply, val_main_v7_apply, val_main_v6_apply]
  unfold modS
  refine congrArg₂ (fun a b : EReal => a + b) (Finset.sum_congr rfl fun k _ => ?_) (congrArg x3 (funext fun a => ?_))
  · rw [← v3_apply]
    refine congrArg₂ (fun a b : EReal => a * b) (congrArg _ (funext fun a => ?_)) (congrArg _ (funext fun a => ?_))
    · match a with
      | ⟨0, _⟩ => rfl
      | ⟨1, _⟩ => rfl
    · match a with
      | ⟨0, _⟩ => rfl
      | ⟨1, _⟩ => rfl
      | ⟨2, _⟩ => rfl
  · match a with
    | ⟨0, _⟩ => rfl
    | ⟨1, _⟩ => rfl

end Cert.Proof.Mod

namespace Cert.Proof.Mod

open Cert.Pre_finite3 Cert.Pre_finite3.Gen
open Idealize.ShloMosaic
open Cert.Proof.Soft Cert.Proof.Pre

instance : Subsingleton Cert.Pre_finite3.S_.Idx := ⟨fun a b => funext fun i => i.elim0⟩

/-- What the precondition says: the embeddings and the weights are real numbers. -/
theorem pre_real (x0 : FVec Ideal S4x1024 .f32) (x1 : FVec Ideal S1024 .f32) (x2 : FVec Ideal S2x1024x3072 .f32) (x3 : FVec Ideal S2x3072 .f32)
    (h : Cert.Pre_finite3.fn (F := Ideal) x0 x1 x2 x3 = fun _ => 1#1) : (∀ i, IsReal (x0 i)) ∧ (∀ i, IsReal (x1 i)) ∧ ∀ i, IsReal (x2 i) := by
  dsimp only [fn, fn_part1] at h
  have h0 := congrFun h (Shape.Idx.first Facts.h_S_)
  have h12 := and_left h0
  have h3 := and_right h0
  have h1 := and_left h12
  have h2 := and_right h12
  exact ⟨fun i => real_of_elem _ (Host.reduce_andi_all _ _ _ _ _ h1 i), fun i => real_of_elem _ (Host.reduce_andi_all _ _ _ _ _ h2 i),
    fun i => real_of_elem _ (Host.reduce_andi_all _ _ _ _ _ h3 i)⟩

end Cert.Proof.Mod

end
-- ==== Proof.Mod.lean ====
/-
  The modulation and the reference, over the extended reals: the same array where the embeddings and the weights are real.
-/
module

public import proofs.«01_k».proof.Proof.ModVals
public import proofs.«01_k».proof.Proof.Gen.Kernel3Ideal.Frame
public import proofs.«01_k».proof.Proof.Gen.Kernel3.Frame
public import Idealize.ShloMosaic.Adequacy
public import Idealize.ShloMosaic.Init
public import proofs.«01_k».proof.Proof.Gen.Kernel3Ideal.Value
public import proofs.«01_k».proof.Proof.Gen.Reference3Ideal.Run
public import proofs.«01_k».proof.Defs
public import Idealize.ShloMosaic.Lib.Pipeline.Value
public import Idealize.ShloMosaic.Lib.Pipeline.ValueKit
public import Idealize.ShloMosaic.Lib.Pipeline.Covers
public import Idealize.ShloMosaic.Lib.PointwiseCore

@[expose] public section

set_option maxRecDepth 16384

noncomputable section

namespace Cert.Proof.Mod

open Cert.Kernel3Ideal Cert.Kernel3Ideal.Gen
open Idealize.ShloMosaic Idealize.ShloMosaic.TcCoe Idealize.ShloMosaic.StableHlo
open Idealize.SL.Sem
open Cert.Proof.Soft
open Cert.Reference3Ideal.Read

/-- The layer of a grid point. -/
def gL (t : Fin cfg0.N) : Fin 2 := ⟨(grid0.coords t 0).val, (grid0.coords t 0).isLt⟩
/-- The block of columns of a grid point. -/
def gJ (t : Fin cfg0.N) : Fin 3 := ⟨(grid0.coords t 1).val, (grid0.coords t 1).isLt⟩

/-- Column `d` of a block, in the array. -/
def gC (t : Fin cfg0.N) (d : Fin 1024) : Fin 3072 := ⟨(gJ t).val * 1024 + d.val, by omega⟩

theorem index0 : ∀ t : Fin cfg0.N, win0_0.index t = ![0, 0] :=
  (by decide +kernel : ∀ t : Fin grid0.N, win0_0.index t = ![0, 0])
theorem index1 : ∀ t : Fin cfg0.N, win0_1.index t = ![(gL t).val, 0, (gJ t).val] :=
  (by decide +kernel : ∀ t : Fin grid0.N, win0_1.index t = ![(grid0.coords t 0).val, 0, (grid0.coords t 1).val])
theorem index2 : ∀ t : Fin cfg0.N, win0_2.index t = ![(gL t).val, 0, (gJ t).val] :=
  (by decide +kernel : ∀ t : Fin grid0.N, win0_2.index t = ![(grid0.coords t 0).val, 0, (grid0.coords t 1).val])
theorem index3 : ∀ t : Fin cfg0.N, win0_3.index t = ![(gL t).val, 0, (gJ t).val] :=
  (by decide +kernel : ∀ t : Fin grid0.N, win0_3.index t = ![(grid0.coords t 0).val, 0, (grid0.coords t 1).val])
theorem covers3 : (cfg0.win 3).Covers := by decide +kernel

theorem hz3 : (![0, 0, 0] : Fin 3 → Nat) = fun _ => 0 := funext fun a => by fin_cases a <;> rfl
theorem hz2 : (![0, 0] : Fin 2 → Nat) = fun _ => 0 := funext fun a => by fin_cases a <;> rfl

theorem out3 (a : Vec Ideal S8x1024 .f32) (w : Vec Ideal S1x1024x1024 .f32) (b : Vec Ideal S1x1x1024 .f32) : out0_3 a w b = k0_pay1 a w b := by
  unfold out0_3
  have e0 : View.ld a r0_0 = a := View.ld_unit_zero hz2 _ a
  have e1 : View.ld w r0_1 = w := View.ld_unit_zero hz3 _ w
  have e2 : View.ld b r0_2 = b := View.ld_unit_zero hz3 _ b
  rw [e0, e1, e2]
  exact View.canon_unit_zero hz3 _ _

variable (m : (ℓ : Loc nD τ sig) → Buf (Elt Ideal) ℓ) (c : Dev nD)

/-- The latent tokens' embeddings. -/
abbrev aC : FVec Ideal S4x1024 .f32 := m ((c : Thread nD τ).loc main_arg0)
/-- The context's embedding. -/
abbrev aX : FVec Ideal S1024 .f32 := m ((c : Thread nD τ).loc main_arg1)
/-- The weights. -/
abbrev aW : FVec Ideal S2x1024x3072 .f32 := m ((c : Thread nD τ).loc main_arg2)
/-- The bias. -/
abbrev aB : FVec Ideal S2x3072 .f32 := m ((c : Thread nD τ).loc main_arg3)

theorem V_0 : V m c main_v2 = hRows (aC m c) (aX m c) := by
  unfold V hRows
  after_results <;> rfl

theorem V_2 : V m c main_v3 = hBias (aB m c) := by
  unfold V hBias
  after_results <;> rfl

theorem place0 (t : Fin cfg0.N) (r : Fin 8) (k : Fin 1024) : (((cfg0.win 0).blk t).view.emb (ix2 r k) : S8x1024.Idx) = ix2 r k := by
  blk_ext [index0 t]

theorem place1 (t : Fin cfg0.N) (k d : Fin 1024) : (((cfg0.win 1).blk t).view.emb (ix3 0 k d) : S2x1024x3072.Idx) = ix3 (gL t) k (gC t d) := by
  unfold gC
  blk_ext [index1 t]

theorem place2 (t : Fin cfg0.N) (d : Fin 1024) : (((cfg0.win 2).blk t).view.emb (ix3 0 0 d) : S2x1x3072.Idx) = ix3 (gL t) 0 (gC t d) := by
  unfold gC
  blk_ext [index2 t]

theorem place3 (t : Fin cfg0.N) (r : Fin 8) (d : Fin 1024) : (((cfg0.win 3).blk t).view.emb (ix3 0 r d) : S2x8x3072.Idx) = ix3 (gL t) r (gC t d) := by
  unfold gC
  blk_ext [index3 t]

section

variable (W : (b : Ref sig .tc) → Buf (Elt Ideal) ((c : Thread nD τ).loc b)) (t : Fin cfg0.N)

theorem read0 (y : S8x1024.Idx) : ((cfg0.win 0).blk t).view.read (Elt Ideal) (W (Pipeline.arrRef spec0 0)) y = W main_v2 (((cfg0.win 0).blk t).view.emb y) := rfl
theorem read1 (y : S1x1024x1024.Idx) : ((cfg0.win 1).blk t).view.read (Elt Ideal) (W (Pipeline.arrRef spec0 1)) y = W main_arg2 (((cfg0.win 1).blk t).view.emb y) := rfl
theorem read2 (y : S1x1x1024.Idx) : ((cfg0.win 2).blk t).view.read (Elt Ideal) (W (Pipeline.arrRef spec0 2)) y = W main_v3 (((cfg0.win 2).blk t).view.emb y) := rfl

end

theorem block0 (t : Fin cfg0.N) (r : Fin 8) (k : Fin 1024) : iblk m c 0 t (ix2 r k) = hRows (aC m c) (aX m c) (ix2 r k) := by
  refine ((read0 c (V m c) t _).trans (congrArg (V m c main_v2) (place0 t r k))).trans ?_
  rw [V_0 m c]

theorem block1 (t : Fin cfg0.N) (k d : Fin 1024) : iblk m c 1 t (ix3 0 k d) = aW m c (ix3 (gL t) k (gC t d)) := by
  refine ((read1 c (V m c) t _).trans (congrArg (V m c main_arg2) (place1 t k d))).trans ?_
  rw [V_main_arg2 m c]

theorem block2 (t : Fin cfg0.N) (d : Fin 1024) : iblk m c 2 t (ix3 0 0 d) = aB m c (ix2 (gL t) (gC t d)) := by
  refine ((read2 c (V m c) t _).trans (congrArg (V m c main_v3) (place2 t d))).trans ?_
  rw [V_2 m c]
  exact hBias_apply _ _ _

/-- One element of the block that a grid point leaves. -/
theorem el3 (hc : ∀ i, IsReal (aC m c i)) (hx : ∀ i, IsReal (aX m c i)) (hw : ∀ i, IsReal (aW m c i)) (t : Fin cfg0.N) (r : Fin 8) (d : Fin 1024) :
    k0_pay1 (iblk m c 0 t) (iblk m c 1 t) (iblk m c 2 t) (ix3 0 r d)
      = val_main_v8 (F := Ideal) (aC m c) (aX m c) (aW m c) (aB m c) (ix3 (gL t) r (gC t d)) := by
  rw [pay1_apply, v8_apply, block2 m c t d, funext fun k => block0 m c t r k, funext fun k => block1 m c t k d]
  exact modK_eq _ _ _ (fun k => hRows_real _ _ hc hx r k) fun k => hw _

/-- The array of results that the call leaves. -/
theorem result3 (hc : ∀ i, IsReal (aC m c i)) (hx : ∀ i, IsReal (aX m c i)) (hw : ∀ i, IsReal (aW m c i)) :
    (dats m 0 c).arrAt 3 cfg0.N = val_main_v8 (F := Ideal) (aC m c) (aX m c) (aW m c) (aB m c) := by
  generalize hG : val_main_v8 (F := Ideal) (aC m c) (aX m c) (aW m c) (aB m c) = G
  refine (dats m 0 c).arrAt_eq_of_covers 3 _ covers3 fun t hf y => ?_
  blk_simp
  rw [after0_3, out3]
  have key : ∀ y : S1x8x1024.Idx, k0_pay1 (iblk m c 0 t) (iblk m c 1 t) (iblk m c 2 t) y = G (((cfg0.win 3).blk t).view.emb y : S2x8x3072.Idx) := by
    intro y
    obtain ⟨r, d, rfl⟩ : ∃ (r : Fin 8) (d : Fin 1024), y = ix3 0 r d :=
      ⟨y 1, y 2, (eq_ix3 y).trans (congrArg (fun x => ix3 x (y 1) (y 2)) (Subsingleton.elim (α := Fin 1) _ _))⟩
    refine Eq.trans ?_ (congrArg G (place3 t r d)).symm
    rw [← hG]
    exact el3 m c hc hx hw t r d
  exact key y

theorem algebraic : Cert.algebraic_Kernel3Ideal_Reference3Ideal_pre_finite3 := by
  intro m g m' g' hpre hargs
  refine ⟨fun c => val_main_v8 (F := Ideal) (aC m c) (aX m c) (aW m c) (aB m c), ?_, ?_⟩
  · refine (θ_run _ _ _).mono (fun r h c => ?_) (Cert.Kernel3Ideal.Value.run_blocks (F := Ideal) m g)
    obtain ⟨e, hk⟩ := h c
    obtain ⟨hc, hx, hw⟩ := pre_real _ _ _ _ (hpre c)
    exact ⟨e.trans (result3 m c hc hx hw), hk⟩
  · refine (θ_run _ _ _).mono (fun r h c => ?_) (Cert.Reference3Ideal.Value.run (F := Ideal) m' g')
    obtain ⟨e, hk⟩ := h c
    obtain ⟨h0, h1, h2, h3⟩ := hargs c
    refine ⟨e.trans ?_, hk⟩
    rw [val_main_v8_eq, h0, h1, h2, h3]

/-! The frames. -/

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ => Cert.Kernel3Ideal.Gen.frame m ρ

theorem frame_ideal_finite : Cert.quiescent_Kernel3Ideal_pre_finite3 (hKernel3Ideal := Cert.Kernel3Ideal.Gen.facts)
    (hPre_finite3 := Cert.Pre_finite3.Gen.facts) := fun m ρ _ => Cert.Kernel3Ideal.Gen.frame m ρ

theorem frame_ref : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

theorem frame_ref_finite : Cert.quiescent_Reference3Ideal_pre_finite3 (hReference3Ideal := Cert.Reference3Ideal.Gen.facts)
    (hPre_finite3 := Cert.Pre_finite3.Gen.facts) := fun m ρ _ => frame_ref m ρ trivial

end Cert.Proof.Mod

end
-- ==== Proof.CtxFrames.lean ====
/-
  The frames of the context's input projection, of its idealization and of its reference.
-/
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

theorem frame_kernel4 : Cert.quiescent_Kernel4 (hKernel4 := Cert.Kernel4.Gen.facts) := fun m ρ _ => Cert.Kernel4.Gen.frame m ρ

theorem frame_ideal4 : Cert.quiescent_Kernel4Ideal (hKernel4Ideal := Cert.Kernel4Ideal.Gen.facts) := fun m ρ _ => Cert.Kernel4Ideal.Gen.frame m ρ

theorem frame_ref4 : Cert.quiescent_Reference4Ideal (hReference4Ideal := Cert.Reference4Ideal.Gen.facts) := fun m ρ _ =>
  (θ_run Cert.Reference4Ideal.defs _ _).mono
    (fun r h => ⟨fun c => (h c).2.2.2.2.2.2.2, sem_eq_zero_of_no_sems (by decide) r.2⟩)
    (Cert.Reference4Ideal.Value.run (F := Ideal) m ρ)

end Cert.Proof

end
-- ==== Proof.CtxOut.lean ====
/-
  What one grid point of the context's input projection writes, window by window, from the blocks it reads.
-/
module

public import proofs.«01_k».proof.Proof.Gen.Kernel4Ideal.Frame
public import proofs.«01_k».proof.Proof.InOut

@[expose] public section

set_option maxRecDepth 16384

noncomputable section

namespace Cert.Proof.Ctx

open Cert.Kernel4Ideal Cert.Kernel4Ideal.Gen
open Cert.Proof.In (hz3 wcols wlast ld_x ld_s ld_g ld_f ld_h ld_w0 ld_w1 ld_w2 ld_w3 ld_l)
open Idealize.ShloMosaic Idealize.ShloMosaic.TcCoe

variable {F : FTy → Type} [FloatOps F]
variable (m : (ℓ : Loc nD τ sig) → Buf (Elt F) ℓ) (c : Dev nD) (t : Fin cfg0.N)

/-- The block of normed rows. -/
def bH : FVec F S256x1024 .bf16 := k0_pay7 (iblk m c 0 t) (iblk m c 3 t) (iblk m c 1 t) (iblk m c 2 t)

/-- The block of projected features. -/
def bP : FVec F S1536x256 .f32 := k0_pay15 (bH m c t) (iblk m c 5 t)

theorem out8 : (outsAt0 m c t).1
    = k0_pay10 (k0_pay8 (iblk m c 0 t) (iblk m c 3 t) (iblk m c 1 t) (iblk m c 2 t) (wcols 0 (iblk m c 4 t)))
        (k0_pay9 (iblk m c 0 t) (iblk m c 3 t) (iblk m c 1 t) (iblk m c 2 t) (wcols 1024 (iblk m c 4 t))) := by
  unfold outsAt0
  dsimp only
  unfold out0_A_8
  rw [View.read_writes_junk_eq_canon]
  unfold kernelRun0_A
  dsimp only
  sl_unfold_words
  simp only [View.readAt_eq_ld, Memref.IsWhole.read_unread, ld_x, ld_s, ld_g, ld_f, ld_h, ld_w0, ld_w1, ld_w2, ld_w3, ld_l]
  exact View.canon_unit_zero hz3 _ _

theorem out9 : (outsAt0 m c t).2.1
    = k0_pay11 (bH m c t) (wcols 2048 (iblk m c 4 t)) := by
  unfold outsAt0 bH
  dsimp only
  unfold out0_A_9
  rw [View.read_writes_junk_eq_canon]
  unfold kernelRun0_A
  dsimp only
  sl_unfold_words
  simp only [View.readAt_eq_ld, Memref.IsWhole.read_unread, ld_x, ld_s, ld_g, ld_f, ld_h, ld_w0, ld_w1, ld_w2, ld_w3, ld_l]
  exact View.canon_unit_zero hz3 _ _

theorem out10 : (outsAt0 m c t).2.2.1
    = k0_pay13 (k0_pay12 (bH m c t) (wcols 3072 (iblk m c 4 t))) := by
  unfold outsAt0 bH
  dsimp only
  unfold out0_A_10
  rw [View.read_writes_junk_eq_canon]
  unfold kernelRun0_A
  dsimp only
  sl_unfold_words
  simp only [View.readAt_eq_ld, Memref.IsWhole.read_unread, ld_x, ld_s, ld_g, ld_f, ld_h, ld_w0, ld_w1, ld_w2, ld_w3, ld_l]
  exact View.canon_unit_zero hz3 _ _

theorem out11 : (outsAt0 m c t).2.2.2.1
    = k0_pay14 (bH m c t) (wlast (iblk m c 4 t)) := by
  unfold outsAt0 bH
  dsimp only
  unfold out0_A_11
  rw [View.read_writes_junk_eq_canon]
  unfold kernelRun0_A
  dsimp only
  sl_unfold_words
  simp only [View.readAt_eq_ld, Memref.IsWhole.read_unread, ld_x, ld_s, ld_g, ld_f, ld_h, ld_w0, ld_w1, ld_w2, ld_w3, ld_l]
  exact View.canon_unit_zero hz3 _ _

theorem out12 : (outsAt0 m c t).2.2.2.2.1
    = k0_pay17 (k0_pay16 (bH m c t) (iblk m c 5 t) (iblk m c 6 t)) := by
  unfold outsAt0 bH
  dsimp only
  unfold out0_A_12
  rw [View.read_writes_junk_eq_canon]
  unfold kernelRun0_A
  dsimp only
  sl_unfold_words
  simp only [View.readAt_eq_ld, Memref.IsWhole.read_unread, ld_x, ld_s, ld_g, ld_f, ld_h, ld_w0, ld_w1, ld_w2, ld_w3, ld_l]
  exact View.canon_unit_zero hz3 _ _

theorem out13 : (outsAt0 m c t).2.2.2.2.2.1
    = k0_pay18 (bP m c t) (iblk m c 7 t) := by
  unfold outsAt0 bP bH
  dsimp only
  unfold out0_A_13
  rw [View.read_writes_junk_eq_canon]
  unfold kernelRun0_A
  dsimp only
  sl_unfold_words
  simp only [View.readAt_eq_ld, Memref.IsWhole.read_unread, ld_x, ld_s, ld_g, ld_f, ld_h, ld_w0, ld_w1, ld_w2, ld_w3, ld_l]
  exact View.canon_unit_zero hz3 _ _

/-- The eight stores of the values' block: 64 feature rows and 16 rows of ones for each head. -/
theorem out14 : (outsAt0 m c t).2.2.2.2.2.2 = View.canon (Val := Elt F) (s := S1x320x256) (e := .bf16)
    [⟨Rect.unit (s := S1x320x256) ![0, 304, 0] S1x16x256.size inb_S1x320x256_S1x16x256_0_304_0, k0_pay6 (k0_pay19 (F := F))⟩,
     ⟨Rect.unit (s := S1x320x256) ![0, 240, 0] S1x64x256.size inb_S1x320x256_S1x64x256_0_240_0, k0_pay5 (bP m c t)⟩,
     ⟨Rect.unit (s := S1x320x256) ![0, 224, 0] S1x16x256.size inb_S1x320x256_S1x16x256_0_224_0, k0_pay4 (k0_pay19 (F := F))⟩,
     ⟨Rect.unit (s := S1x320x256) ![0, 160, 0] S1x64x256.size inb_S1x320x256_S1x64x256_0_160_0, k0_pay3 (bP m c t)⟩,
     ⟨Rect.unit (s := S1x320x256) ![0, 144, 0] S1x16x256.size inb_S1x320x256_S1x16x256_0_144_0, k0_pay2 (k0_pay19 (F := F))⟩,
     ⟨Rect.unit (s := S1x320x256) ![0, 80, 0] S1x64x256.size inb_S1x320x256_S1x64x256_0_80_0, k0_pay1 (k0_pay22 (bP m c t))⟩,
     ⟨Rect.unit (s := S1x320x256) ![0, 64, 0] S1x16x256.size inb_S1x320x256_S1x16x256_0_64_0, k0_pay21 (F := F)⟩,
     ⟨Rect.unit (s := S1x320x256) ![0, 0, 0] S1x64x256.size inb_S1x320x256_S1x64x256_0_0_0, k0_pay20 (bP m c t)⟩] := by
  unfold outsAt0 bP bH
  dsimp only
  unfold out0_A_14
  rw [View.read_writes_junk_eq_canon]
  unfold kernelRun0_A
  dsimp only
  sl_unfold_words
  simp only [View.readAt_eq_ld, Memref.IsWhole.read_unread, ld_x, ld_s, ld_g, ld_f, ld_h, ld_w0, ld_w1, ld_w2, ld_w3, ld_l]

end Cert.Proof.Ctx

end
-- ==== Proof.CtxVals.lean ====
/-
  The context's input projection over the extended reals, read at one element.
-/
module

public import proofs.«01_k».proof.Proof.Gen.Kernel4Ideal.Skeleton
public import proofs.«01_k».proof.Proof.InVals

@[expose] public section

set_option maxRecDepth 16384

noncomputable section

namespace Cert.Proof.Ctx

open Cert.Kernel4Ideal Cert.Kernel4Ideal.Gen
open Cert.Proof.In (qf sgm normed headR headN zero_sub')
open Idealize.ShloMosaic

theorem pay7_apply (v4 : Vec Ideal S1x256x1024 .f32) (v16 : Vec Ideal S1x1024 .f32) (v20 v26 : Vec Ideal S1x1x1024 .f32) (r : Fin 256) (d : Fin 1024) :
    k0_pay7 v4 v16 v20 v26 (ix2 r d)
      = normed (fun k => v4 (ix3 0 r k)) (fun k => v16 (ix2 0 k)) (fun k => v20 (ix3 0 0 k)) (fun k => v26 (ix3 0 0 k)) d := by
  unfold normed
  unfold_payloads
  pointwise

theorem pay10_apply (v4 : Vec Ideal S1x256x1024 .f32) (v16 : Vec Ideal S1x1024 .f32) (v20 v26 : Vec Ideal S1x1x1024 .f32)
    (w w' : Vec Ideal S1024x1024 .bf16) (r : Fin 256) (d : Fin 1024) :
    k0_pay10 (k0_pay8 v4 v16 v20 v26 w) (k0_pay9 v4 v16 v20 v26 w') (ix3 0 r d)
      = (∑ k : Fin 1024, k0_pay7 v4 v16 v20 v26 (ix2 r k) * w (ix2 k d)) * sgm (∑ k : Fin 1024, k0_pay7 v4 v16 v20 v26 (ix2 r k) * w' (ix2 k d)) := by
  unfold sgm
  rw [← zero_sub']
  unfold k0_pay10 k0_pay8 k0_pay9
  generalize k0_pay7 v4 v16 v20 v26 = h
  pointwise

theorem pay11_apply (h : FVec Ideal S256x1024 .bf16) (w : Vec Ideal S1024x1024 .bf16) (r : Fin 256) (d : Fin 1024) :
    k0_pay11 h w (ix3 0 r d) = (∑ k : Fin 1024, h (ix2 r k) * w (ix2 k d)) * sgm (∑ k : Fin 1024, h (ix2 r k) * w (ix2 k d)) := by
  unfold sgm
  rw [← zero_sub']
  unfold_payloads
  pointwise

theorem pay13_apply (h : FVec Ideal S256x1024 .bf16) (w : Vec Ideal S1024x1024 .bf16) (r : Fin 256) (d : Fin 1024) :
    k0_pay13 (k0_pay12 h w) (ix3 0 r d) = (∑ k : Fin 1024, h (ix2 r k) * w (ix2 k d)) * sgm (∑ k : Fin 1024, h (ix2 r k) * w (ix2 k d)) := by
  unfold sgm
  rw [← zero_sub']
  unfold_payloads
  pointwise

theorem pay14_apply (h : FVec Ideal S256x1024 .bf16) (w : Vec Ideal S1024x2048 .bf16) (r : Fin 256) (d : Fin 2048) :
    k0_pay14 h w (ix3 0 r d) = sgm (∑ k : Fin 1024, h (ix2 r k) * w (ix2 k d)) := by
  unfold sgm
  rw [← zero_sub']
  unfold_payloads
  pointwise

theorem pay15_apply (h : FVec Ideal S256x1024 .bf16) (w : Vec Ideal S1536x1024 .bf16) (f : Fin 1536) (t : Fin 256) :
    k0_pay15 h w (ix2 f t) = ∑ k : Fin 1024, w (ix2 f k) * h (ix2 t k) := by
  unfold_payloads
  pointwise

theorem pay17_apply (h : FVec Ideal S256x1024 .bf16) (w : Vec Ideal S1536x1024 .bf16) (g : Vec Ideal S64x256 .f32) (f : Fin 1024) (t : Fin 256) :
    k0_pay17 (k0_pay16 h w g) (ix3 0 f t)
      = headN (fun e => k0_pay15 h w (ix2 ⟨f.val / 64 * 64 + e.val, by omega⟩ t)) (fun e => g (ix2 e t)) ⟨f.val % 64, by omega⟩ := by
  unfold headN headR k0_pay17 k0_pay16
  generalize k0_pay15 h w = p
  pointwise
  simp only [Nat.div_add_mod']

theorem pay18_apply (p : FVec Ideal S1536x256 .f32) (g : Vec Ideal S64x256 .f32) (t f : Fin 256) :
    k0_pay18 p g (ix3 0 t f)
      = headN (fun e => p (ix2 ⟨1024 + (f.val / 64 * 64 + e.val), by omega⟩ t)) (fun e => g (ix2 e t)) ⟨f.val % 64, by omega⟩ := by
  unfold headN headR
  unfold_payloads
  pointwise
  simp only [Nat.div_add_mod']

theorem pay20_apply (p : FVec Ideal S1536x256 .f32) (e : Fin 64) (t : Fin 256) : k0_pay20 p (ix3 0 e t) = p (ix2 ⟨1280 + e.val, by omega⟩ t) := by
  unfold_payloads
  pointwise

theorem pay1_apply (p : FVec Ideal S1536x256 .f32) (e : Fin 64) (t : Fin 256) :
    k0_pay1 (k0_pay22 p) (ix3 0 e t) = p (ix2 ⟨1344 + e.val, by omega⟩ t) := by
  unfold_payloads
  pointwise

theorem pay3_apply (p : FVec Ideal S1536x256 .f32) (e : Fin 64) (t : Fin 256) : k0_pay3 p (ix3 0 e t) = p (ix2 ⟨1408 + e.val, by omega⟩ t) := by
  unfold_payloads
  pointwise

theorem pay5_apply (p : FVec Ideal S1536x256 .f32) (e : Fin 64) (t : Fin 256) : k0_pay5 p (ix3 0 e t) = p (ix2 ⟨1472 + e.val, by omega⟩ t) := by
  unfold_payloads
  pointwise

theorem pay21_apply (e : Fin 16) (r : Fin 256) : k0_pay21 (F := Ideal) (ix3 0 e r) = Ideal.ofBits .bf16 0x3F80#16 := by
  unfold_payloads
  pointwise

theorem pay2_apply (e : Fin 16) (r : Fin 256) : k0_pay2 (k0_pay19 (F := Ideal)) (ix3 0 e r) = Ideal.ofBits .bf16 0x3F80#16 := by
  unfold_payloads
  pointwise

theorem pay4_apply (e : Fin 16) (r : Fin 256) : k0_pay4 (k0_pay19 (F := Ideal)) (ix3 0 e r) = Ideal.ofBits .bf16 0x3F80#16 := by
  unfold_payloads
  pointwise

theorem pay6_apply (e : Fin 16) (r : Fin 256) : k0_pay6 (k0_pay19 (F := Ideal)) (ix3 0 e r) = Ideal.ofBits .bf16 0x3F80#16 := by
  unfold_payloads
  pointwise

end Cert.Proof.Ctx

end
-- ==== Proof.CtxHost.lean ====
/-
  The blocks that a grid point of the context's input projection reads, from its arguments.
-/
module

public import proofs.«01_k».proof.Proof.CtxOut
public import proofs.«01_k».proof.Proof.CtxVals
public import proofs.«01_k».proof.Proof.InHost

@[expose] public section

set_option maxRecDepth 16384

noncomputable section

namespace Cert.Proof.Ctx

open Cert.Kernel4Ideal Cert.Kernel4Ideal.Gen
open Cert.Proof.In (qf hTok hFeat hGq hGk hPre hFeat_apply hGq_apply hGk_apply hPre_apply)
open Idealize.ShloMosaic Idealize.ShloMosaic.TcCoe Idealize.ShloMosaic.StableHlo

/-- A modulation, for each batch. -/
def hMod (s : FVec Ideal S1024 .f32) : FVec Ideal S4x1x1024 .f32 := broadcastInDim S4x1x1024 ![2] bcast_S1024_S4x1x1024_2 s

theorem hMod_apply (s : FVec Ideal S1024 .f32) (b : Fin 4) (z : Fin 1) (k : Fin 1024) : hMod s (ix3 b z k) = s (ix1 k) := by
  pointwise [hMod]

/-- The batch of a grid point. -/
def gB (t : Fin cfg0.N) : Fin 4 := ⟨(grid0.coords t 0).val, (grid0.coords t 0).isLt⟩

theorem index0 : ∀ t : Fin cfg0.N, win0_0.index t = ![(gB t).val, 0, 0] :=
  (by decide +kernel : ∀ t : Fin grid0.N, win0_0.index t = ![(grid0.coords t 0).val, 0, 0])
theorem index1 : ∀ t : Fin cfg0.N, win0_1.index t = ![(gB t).val, 0, 0] :=
  (by decide +kernel : ∀ t : Fin grid0.N, win0_1.index t = ![(grid0.coords t 0).val, 0, 0])
theorem index2 : ∀ t : Fin cfg0.N, win0_2.index t = ![(gB t).val, 0, 0] :=
  (by decide +kernel : ∀ t : Fin grid0.N, win0_2.index t = ![(grid0.coords t 0).val, 0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![(gB t).val, 0, 0] :=
  (by decide +kernel : ∀ t : Fin grid0.N, win0_8.index t = ![(grid0.coords t 0).val, 0, 0])
theorem index9 : ∀ t : Fin cfg0.N, win0_9.index t = ![(gB t).val, 0, 0] :=
  (by decide +kernel : ∀ t : Fin grid0.N, win0_9.index t = ![(grid0.coords t 0).val, 0, 0])
theorem index10 : ∀ t : Fin cfg0.N, win0_10.index t = ![(gB t).val, 0, 0] :=
  (by decide +kernel : ∀ t : Fin grid0.N, win0_10.index t = ![(grid0.coords t 0).val, 0, 0])
theorem index11 : ∀ t : Fin cfg0.N, win0_11.index t = ![(gB t).val, 0, 0] :=
  (by decide +kernel : ∀ t : Fin grid0.N, win0_11.index t = ![(grid0.coords t 0).val, 0, 0])
theorem index12 : ∀ t : Fin cfg0.N, win0_12.index t = ![(gB t).val, 0, 0] :=
  (by decide +kernel : ∀ t : Fin grid0.N, win0_12.index t = ![(grid0.coords t 0).val, 0, 0])
theorem index13 : ∀ t : Fin cfg0.N, win0_13.index t = ![(gB t).val, 0, 0] :=
  (by decide +kernel : ∀ t : Fin grid0.N, win0_13.index t = ![(grid0.coords t 0).val, 0, 0])
theorem index14 : ∀ t : Fin cfg0.N, win0_14.index t = ![(gB t).val, 0, 0] :=
  (by decide +kernel : ∀ t : Fin grid0.N, win0_14.index t = ![(grid0.coords t 0).val, 0, 0])
theorem covers8 : (cfg0.win 8).Covers := by decide +kernel
theorem covers9 : (cfg0.win 9).Covers := by decide +kernel
theorem covers10 : (cfg0.win 10).Covers := by decide +kernel
theorem covers11 : (cfg0.win 11).Covers := by decide +kernel
theorem covers12 : (cfg0.win 12).Covers := by decide +kernel
theorem covers13 : (cfg0.win 13).Covers := by decide +kernel
theorem covers14 : (cfg0.win 14).Covers := by decide +kernel

variable (m : (ℓ : Loc nD τ sig) → Buf (Elt Ideal) ℓ) (c : Dev nD)

/-- The context's tokens. -/
abbrev aX : FVec Ideal S4x256x1024 .f32 := m ((c : Thread nD τ).loc main_arg0)
/-- The modulation's factor. -/
abbrev aSc : FVec Ideal S1024 .f32 := m ((c : Thread nD τ).loc main_arg1)
/-- The modulation's shift. -/
abbrev aSh : FVec Ideal S1024 .f32 := m ((c : Thread nD τ).loc main_arg2)
/-- The gain of the rows' norm. -/
abbrev aG : FVec Ideal S1024 .f32 := m ((c : Thread nD τ).loc main_arg3)
/-- The weights. -/
abbrev aW : FVec Ideal S1024x7680 .f32 := m ((c : Thread nD τ).loc main_arg4)
/-- The queries' gain. -/
abbrev aQg : FVec Ideal S64 .f32 := m ((c : Thread nD τ).loc main_arg5)
/-- The keys' gain. -/
abbrev aKg : FVec Ideal S64 .f32 := m ((c : Thread nD τ).loc main_arg6)

theorem V_1 : V m c main_v15 = hMod (m ((c : Thread nD τ).loc main_arg1)) := by
  unfold V hMod
  after_results <;> rfl

theorem V_2 : V m c main_v16 = hMod (m ((c : Thread nD τ).loc main_arg2)) := by
  unfold V hMod
  after_results <;> rfl

theorem V_3 : V m c main_v17 = hPre (m ((c : Thread nD τ).loc main_arg3)) := by
  unfold V hPre
  after_results <;> rfl

theorem V_4 : V m c main_v3 = hTok (m ((c : Thread nD τ).loc main_arg4)) := by
  unfold V hTok
  after_results <;> rfl

theorem V_5 : V m c main_v6 = hFeat (m ((c : Thread nD τ).loc main_arg4)) := by
  unfold V hFeat
  after_results <;> rfl

theorem V_6 : V m c main_v12 = hGq (m ((c : Thread nD τ).loc main_arg5)) := by
  unfold V hGq
  after_results <;> rfl

theorem V_7 : V m c main_v14 = hGk (m ((c : Thread nD τ).loc main_arg6)) := by
  unfold V hGk
  after_results <;> rfl

theorem read0 (W : (b : Ref sig .tc) → Buf (Elt Ideal) ((c : Thread nD τ).loc b)) (t : Fin cfg0.N) (y : S1x256x1024.Idx) :
    ((cfg0.win 0).blk t).view.read (Elt Ideal) (W (Pipeline.arrRef spec0 0)) y = W main_arg0 (((cfg0.win 0).blk t).view.emb y) := rfl

theorem place0 (t : Fin cfg0.N) (r : Fin 256) (d : Fin 1024) : (((cfg0.win 0).blk t).view.emb (ix3 0 r d) : S4x256x1024.Idx) = ix3 (gB t) r d := by
  blk_ext [index0 t]

theorem readAt0 (W : (b : Ref sig .tc) → Buf (Elt Ideal) ((c : Thread nD τ).loc b)) (t : Fin cfg0.N) (r : Fin 256) (d : Fin 1024) :
    ((cfg0.win 0).blk t).view.read (Elt Ideal) (W (Pipeline.arrRef spec0 0)) (ix3 0 r d) = W main_arg0 (ix3 (gB t) r d) :=
  (read0 c W t _).trans (congrArg (W main_arg0) (place0 t _ _))

theorem block0 (t : Fin cfg0.N) (r : Fin 256) (d : Fin 1024) : iblk m c 0 t (ix3 0 r d) = aX m c (ix3 (gB t) r d) := by
  refine (readAt0 c (V m c) t r d).trans ?_
  rw [V_main_arg0 m c]

theorem read1 (W : (b : Ref sig .tc) → Buf (Elt Ideal) ((c : Thread nD τ).loc b)) (t : Fin cfg0.N) (y : S1x1x1024.Idx) :
    ((cfg0.win 1).blk t).view.read (Elt Ideal) (W (Pipeline.arrRef spec0 1)) y = W main_v15 (((cfg0.win 1).blk t).view.emb y) := rfl

theorem place1 (t : Fin cfg0.N) (d : Fin 1024) : (((cfg0.win 1).blk t).view.emb (ix3 0 0 d) : S4x1x1024.Idx) = ix3 (gB t) 0 d := by
  blk_ext [index1 t]

theorem readAt1 (W : (b : Ref sig .tc) → Buf (Elt Ideal) ((c : Thread nD τ).loc b)) (t : Fin cfg0.N) (d : Fin 1024) :
    ((cfg0.win 1).blk t).view.read (Elt Ideal) (W (Pipeline.arrRef spec0 1)) (ix3 0 0 d) = W main_v15 (ix3 (gB t) 0 d) :=
  (read1 c W t _).trans (congrArg (W main_v15) (place1 t _))

theorem block1 (t : Fin cfg0.N) (d : Fin 1024) : iblk m c 1 t (ix3 0 0 d) = aSc m c (ix1 d) := by
  refine (readAt1 c (V m c) t _).trans ?_
  rw [V_1 m c]
  exact hMod_apply _ _ _ _

theorem read2 (W : (b : Ref sig .tc) → Buf (Elt Ideal) ((c : Thread nD τ).loc b)) (t : Fin cfg0.N) (y : S1x1x1024.Idx) :
    ((cfg0.win 2).blk t).view.read (Elt Ideal) (W (Pipeline.arrRef spec0 2)) y = W main_v16 (((cfg0.win 2).blk t).view.emb y) := rfl

theorem place2 (t : Fin cfg0.N) (d : Fin 1024) : (((cfg0.win 2).blk t).view.emb (ix3 0 0 d) : S4x1x1024.Idx) = ix3 (gB t) 0 d := by
  blk_ext [index2 t]

theorem readAt2 (W : (b : Ref sig .tc) → Buf (Elt Ideal) ((c : Thread nD τ).loc b)) (t : Fin cfg0.N) (d : Fin 1024) :
    ((cfg0.win 2).blk t).view.read (Elt Ideal) (W (Pipeline.arrRef spec0 2)) (ix3 0 0 d) = W main_v16 (ix3 (gB t) 0 d) :=
  (read2 c W t _).trans (congrArg (W main_v16) (place2 t _))

theorem block2 (t : Fin cfg0.N) (d : Fin 1024) : iblk m c 2 t (ix3 0 0 d) = aSh m c (ix1 d) := by
  refine (readAt2 c (V m c) t _).trans ?_
  rw [V_2 m c]
  exact hMod_apply _ _ _ _

theorem read3 (W : (b : Ref sig .tc) → Buf (Elt Ideal) ((c : Thread nD τ).loc b)) (t : Fin cfg0.N) (y : S1x1024.Idx) :
    ((cfg0.win 3).blk t).view.read (Elt Ideal) (W (Pipeline.arrRef spec0 3)) y = W main_v17 (((cfg0.win 3).blk t).view.emb y) := rfl

theorem place3 (t : Fin cfg0.N) (d : Fin 1024) : (((cfg0.win 3).blk t).view.emb (ix2 0 d) : S1x1024.Idx) = ix2 0 d := by
  blk_ext [index3 t]

theorem readAt3 (W : (b : Ref sig .tc) → Buf (Elt Ideal) ((c : Thread nD τ).loc b)) (t : Fin cfg0.N) (d : Fin 1024) :
    ((cfg0.win 3).blk t).view.read (Elt Ideal) (W (Pipeline.arrRef spec0 3)) (ix2 0 d) = W main_v17 (ix2 0 d) :=
  (read3 c W t _).trans (congrArg (W main_v17) (place3 t _))

theorem block3 (t : Fin cfg0.N) (d : Fin 1024) : iblk m c 3 t (ix2 0 d) = aG m c (ix1 d) := by
  refine (readAt3 c (V m c) t _).trans ?_
  rw [V_3 m c]
  exact hPre_apply _ _ _

theorem read4 (W : (b : Ref sig .tc) → Buf (Elt Ideal) ((c : Thread nD τ).loc b)) (t : Fin cfg0.N) (y : S1024x6144.Idx) :
    ((cfg0.win 4).blk t).view.read (Elt Ideal) (W (Pipeline.arrRef spec0 4)) y = W main_v3 (((cfg0.win 4).blk t).view.emb y) := rfl

theorem place4 (t : Fin cfg0.N) (k : Fin 1024) (j : Fin 6144) : (((cfg0.win 4).blk t).view.emb (ix2 k j) : S1024x6144.Idx) = ix2 k j := by
  blk_ext [index4 t]

theorem readAt4 (W : (b : Ref sig .tc) → Buf (Elt Ideal) ((c : Thread nD τ).loc b)) (t : Fin cfg0.N) (k : Fin 1024) (j : Fin 6144) :
    ((cfg0.win 4).blk t).view.read (Elt Ideal) (W (Pipeline.arrRef spec0 4)) (ix2 k j) = W main_v3 (ix2 k j) :=
  (read4 c W t _).trans (congrArg (W main_v3) (place4 t _ _))

theorem block4 (t : Fin cfg0.N) (k : Fin 1024) (j : Fin 6144) : iblk m c 4 t (ix2 k j) = hTok (aW m c) (ix2 k j) := by
  refine (readAt4 c (V m c) t _ _).trans ?_
  rw [V_4 m c]

theorem read5 (W : (b : Ref sig .tc) → Buf (Elt Ideal) ((c : Thread nD τ).loc b)) (t : Fin cfg0.N) (y : S1536x1024.Idx) :
    ((cfg0.win 5).blk t).view.read (Elt Ideal) (W (Pipeline.arrRef spec0 5)) y = W main_v6 (((cfg0.win 5).blk t).view.emb y) := rfl

theorem place5 (t : Fin cfg0.N) (f : Fin 1536) (k : Fin 1024) : (((cfg0.win 5).blk t).view.emb (ix2 f k) : S1536x1024.Idx) = ix2 f k := by
  blk_ext [index5 t]

theorem readAt5 (W : (b : Ref sig .tc) → Buf (Elt Ideal) ((c : Thread nD τ).loc b)) (t : Fin cfg0.N) (f : Fin 1536) (k : Fin 1024) :
    ((cfg0.win 5).blk t).view.read (Elt Ideal) (W (Pipeline.arrRef spec0 5)) (ix2 f k) = W main_v6 (ix2 f k) :=
  (read5 c W t _).trans (congrArg (W main_v6) (place5 t _ _))

theorem block5 (t : Fin cfg0.N) (f : Fin 1536) (k : Fin 1024) : iblk m c 5 t (ix2 f k) = aW m c (ix2 k ⟨3072 + f.val, by omega⟩) := by
  refine (readAt5 c (V m c) t _ _).trans ?_
  rw [V_5 m c]
  exact hFeat_apply _ _ _

theorem read6 (W : (b : Ref sig .tc) → Buf (Elt Ideal) ((c : Thread nD τ).loc b)) (t : Fin cfg0.N) (y : S64x256.Idx) :
    ((cfg0.win 6).blk t).view.read (Elt Ideal) (W (Pipeline.arrRef spec0 6)) y = W main_v12 (((cfg0.win 6).blk t).view.emb y) := rfl

theorem place6 (t : Fin cfg0.N) (e : Fin 64) (r : Fin 256) : (((cfg0.win 6).blk t).view.emb (ix2 e r) : S64x256.Idx) = ix2 e r := by
  blk_ext [index6 t]

theorem readAt6 (W : (b : Ref sig .tc) → Buf (Elt Ideal) ((c : Thread nD τ).loc b)) (t : Fin cfg0.N) (e : Fin 64) (r : Fin 256) :
    ((cfg0.win 6).blk t).view.read (Elt Ideal) (W (Pipeline.arrRef spec0 6)) (ix2 e r) = W main_v12 (ix2 e r) :=
  (read6 c W t _).trans (congrArg (W main_v12) (place6 t _ _))

theorem block6 (t : Fin cfg0.N) (e : Fin 64) (r : Fin 256) : iblk m c 6 t (ix2 e r) = aQg m c (ix1 e) * qf := by
  refine (readAt6 c (V m c) t _ _).trans ?_
  rw [V_6 m c]
  exact hGq_apply _ _ _

theorem read7 (W : (b : Ref sig .tc) → Buf (Elt Ideal) ((c : Thread nD τ).loc b)) (t : Fin cfg0.N) (y : S64x256.Idx) :
    ((cfg0.win 7).blk t).view.read (Elt Ideal) (W (Pipeline.arrRef spec0 7)) y = W main_v14 (((cfg0.win 7).blk t).view.emb y) := rfl

theorem place7 (t : Fin cfg0.N) (e : Fin 64) (r : Fin 256) : (((cfg0.win 7).blk t).view.emb (ix2 e r) : S64x256.Idx) = ix2 e r := by
  blk_ext [index7 t]

theorem readAt7 (W : (b : Ref sig .tc) → Buf (Elt Ideal) ((c : Thread nD τ).loc b)) (t : Fin cfg0.N) (e : Fin 64) (r : Fin 256) :
    ((cfg0.win 7).blk t).view.read (Elt Ideal) (W (Pipeline.arrRef spec0 7)) (ix2 e r) = W main_v14 (ix2 e r) :=
  (read7 c W t _).trans (congrArg (W main_v14) (place7 t _ _))

theorem block7 (t : Fin cfg0.N) (e : Fin 64) (r : Fin 256) : iblk m c 7 t (ix2 e r) = aKg m c (ix1 e) := by
  refine (readAt7 c (V m c) t _ _).trans ?_
  rw [V_7 m c]
  exact hGk_apply _ _ _

theorem place8 (t : Fin cfg0.N) (r : Fin 256) (d : Fin 1024) : (((cfg0.win 8).blk t).view.emb (ix3 0 r d) : S4x256x1024.Idx) = ix3 (gB t) r d := by
  blk_ext [index8 t]

theorem place9 (t : Fin cfg0.N) (r : Fin 256) (d : Fin 1024) : (((cfg0.win 9).blk t).view.emb (ix3 0 r d) : S4x256x1024.Idx) = ix3 (gB t) r d := by
  blk_ext [index9 t]

theorem place10 (t : Fin cfg0.N) (r : Fin 256) (d : Fin 1024) : (((cfg0.win 10).blk t).view.emb (ix3 0 r d) : S4x256x1024.Idx) = ix3 (gB t) r d := by
  blk_ext [index10 t]

theorem place11 (t : Fin cfg0.N) (r : Fin 256) (d : Fin 2048) : (((cfg0.win 11).blk t).view.emb (ix3 0 r d) : S4x256x2048.Idx) = ix3 (gB t) r d := by
  blk_ext [index11 t]

theorem place12 (t : Fin cfg0.N) (f : Fin 1024) (r : Fin 256) : (((cfg0.win 12).blk t).view.emb (ix3 0 f r) : S4x1024x256.Idx) = ix3 (gB t) f r := by
  blk_ext [index12 t]

theorem place13 (t : Fin cfg0.N) (r : Fin 256) (f : Fin 256) : (((cfg0.win 13).blk t).view.emb (ix3 0 r f) : S4x256x256.Idx) = ix3 (gB t) r f := by
  blk_ext [index13 t]

theorem place14 (t : Fin cfg0.N) (f : Fin 320) (r : Fin 256) : (((cfg0.win 14).blk t).view.emb (ix3 0 f r) : S4x320x256.Idx) = ix3 (gB t) f r := by
  blk_ext [index14 t]

end Cert.Proof.Ctx

end
-- ==== Proof.CtxRef.lean ====
/-
  The reference's results of the context's input projection, one element at a time.
-/
module

public import proofs.«01_k».proof.Proof.Gen.Reference4Ideal.Read
public import proofs.«01_k».proof.Proof.InRef
public import Idealize.ShloMosaic.Lib.Pointwise
public import Idealize.ShloMosaic.Lib.IdealHost

@[expose] public section

set_option maxRecDepth 16384

noncomputable section

namespace Cert.Proof.Ctx

open Cert.Reference4Ideal Cert.Reference4Ideal.Gen Cert.Reference4Ideal.Read
open Cert.Proof.In (qf sgm normed headM cast_at)
open Idealize.ShloMosaic Idealize.ShloMosaic.TcCoe Idealize.ShloMosaic.StableHlo

/-- A modulated row. -/
def hS (x : FVec Ideal S4x256x1024 .f32) (sc sh : FVec Ideal S1024 .f32) (g : FVec Ideal S1024 .f32) (b : Fin 4) (n : Fin 256) (d : Fin 1024) : EReal :=
  normed (fun k => x (ix3 b n k)) (fun k => g (ix1 k)) (fun k => sc (ix1 k)) (fun k => sh (ix1 k)) d

/-- A projected row. -/
def pS (x : FVec Ideal S4x256x1024 .f32) (sc sh : FVec Ideal S1024 .f32) (g : FVec Ideal S1024 .f32) (w : FVec Ideal S1024x7680 .f32)
    (b : Fin 4) (n : Fin 256) (j : Fin 7680) : EReal := ∑ k : Fin 1024, hS x sc sh g b n k * w (ix2 k j)

variable (x : FVec Ideal S4x256x1024 .f32) (sc sh : FVec Ideal S1024 .f32) (g : FVec Ideal S1024 .f32) (w : FVec Ideal S1024x7680 .f32)
  (qg kg : FVec Ideal S64 .f32)

theorem v9_apply (b : Fin 4) (n : Fin 256) (d : Fin 1024) :
    val_main_v9 (F := Ideal) x (ix3 b n d)
      = x (ix3 b n d) * Ideal.rsqrt (Ideal.div (∑ k : Fin 1024, x (ix3 b n k) * x (ix3 b n k)) (Ideal.ofBits .f32 0x44800000#32) + Ideal.ofBits .f32 0x358637BD#32) := by
  unfold val_main_v9 val_main_v8 val_main_v7 val_main_v6 val_main_v5 val_main_v4 val_main_v3 val_main_v2 val_main_v1 val_main_v0 val_main_cst val_main_cst_0 val_main_cst_1
  pointwise

theorem v20_apply (b : Fin 4) (n : Fin 256) (d : Fin 1024) : val_main_v20 (F := Ideal) x sc sh g (ix3 b n d) = hS x sc sh g b n d := by
  have e := v9_apply x b n d
  unfold val_main_v20 val_main_v19 val_main_v18 val_main_v17 val_main_v16 val_main_v15 val_main_v14 val_main_v13 val_main_v12 val_main_v11 val_main_v10 val_main_cst_2 hS normed
  generalize val_main_v9 (F := Ideal) x = y at e ⊢
  rw [← e]
  pointwise

theorem v21_apply (b : Fin 4) (n : Fin 256) (j : Fin 7680) : val_main_v21 (F := Ideal) x sc sh g w (ix3 b n j) = pS x sc sh g w b n j := by
  rw [val_main_v21_apply]
  unfold pS
  refine Finset.sum_congr rfl fun d _ => ?_
  rw [← v20_apply]
  refine congrArg₂ (fun a b : EReal => a * b) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl

theorem v86_apply (b : Fin 4) (n : Fin 256) (d : Fin 1024) : val_main_v86 (F := Ideal) x sc sh g w (ix3 b n d)
    = pS x sc sh g w b n ⟨d.val, by omega⟩ * sgm (pS x sc sh g w b n ⟨1024 + d.val, by omega⟩) := by
  rw [← v21_apply, ← v21_apply]
  unfold sgm val_main_v86 val_main_v37 val_main_v36 val_main_v35 val_main_v34 val_main_v33 val_main_v32 val_main_v31 val_main_v30 val_main_v29 val_main_v22 val_main_cst_3 val_main_cst_4
  generalize val_main_v21 (F := Ideal) x sc sh g w = y
  pointwise

theorem v87_apply (b : Fin 4) (n : Fin 256) (d : Fin 1024) : val_main_v87 (F := Ideal) x sc sh g w (ix3 b n d)
    = pS x sc sh g w b n ⟨2048 + d.val, by omega⟩ * sgm (pS x sc sh g w b n ⟨2048 + d.val, by omega⟩) := by
  rw [← v21_apply]
  unfold sgm val_main_v87 val_main_v77 val_main_call0_v5 val_main_call0_v4 val_main_call0_v3 val_main_call0_v2 val_main_call0_v1 val_main_call0_v0 val_main_call0_cst val_main_call0_cst_0 val_main_v23
  generalize val_main_v21 (F := Ideal) x sc sh g w = y
  pointwise

theorem v88_apply (b : Fin 4) (n : Fin 256) (d : Fin 1024) : val_main_v88 (F := Ideal) x sc sh g w (ix3 b n d)
    = pS x sc sh g w b n ⟨4608 + d.val, by omega⟩ * sgm (pS x sc sh g w b n ⟨4608 + d.val, by omega⟩) := by
  rw [← v21_apply]
  unfold sgm val_main_v88 val_main_v78 val_main_call1_v5 val_main_call1_v4 val_main_call1_v3 val_main_call1_v2 val_main_call1_v1 val_main_call1_v0 val_main_call1_cst val_main_call1_cst_0 val_main_v27
  generalize val_main_v21 (F := Ideal) x sc sh g w = y
  pointwise

theorem v89_apply (b : Fin 4) (n : Fin 256) (d : Fin 2048) : val_main_v89 (F := Ideal) x sc sh g w (ix3 b n d)
    = sgm (pS x sc sh g w b n ⟨5632 + d.val, by omega⟩) := by
  rw [← v21_apply]
  unfold sgm val_main_v89 val_main_v84 val_main_v83 val_main_v82 val_main_v81 val_main_v80 val_main_v79 val_main_v28 val_main_cst_14 val_main_cst_15
  generalize val_main_v21 (F := Ideal) x sc sh g w = y
  pointwise

theorem v73_apply (b : Fin 4) (h : Fin 4) (e : Fin 64) (n : Fin 256) : val_main_v73 (F := Ideal) x sc sh g w (ix4 b h e n)
    = pS x sc sh g w b n ⟨4352 + (h.val * 64 + e.val), by omega⟩ := by
  rw [← v21_apply]
  unfold val_main_v73 val_main_v72 val_main_v26
  generalize val_main_v21 (F := Ideal) x sc sh g w = y
  pointwise

theorem v74_apply (b : Fin 4) (h : Fin 4) (e : Fin 16) (n : Fin 256) : val_main_v74 (F := Ideal) (ix4 b h e n) = Ideal.ofBits .f32 0x3F800000#32 := rfl

theorem v75_apply (b : Fin 4) (h : Fin 4) (e : Fin 80) (n : Fin 256) : val_main_v75 (F := Ideal) x sc sh g w (ix4 b h e n)
    = if he : e.val < 64 then val_main_v73 (F := Ideal) x sc sh g w (ix4 b h ⟨e.val, he⟩ n)
      else val_main_v74 (F := Ideal) (ix4 b h ⟨e.val - 64, by omega⟩ n) := by
  unfold val_main_v75
  generalize val_main_v73 (F := Ideal) x sc sh g w = y
  generalize val_main_v74 (F := Ideal) = z
  pointwise

theorem v76_apply (b : Fin 4) (f : Fin 320) (n : Fin 256) : val_main_v76 (F := Ideal) x sc sh g w (ix3 b f n)
    = val_main_v75 (F := Ideal) x sc sh g w (ix4 b ⟨f.val / 80, by omega⟩ ⟨f.val % 80, by omega⟩ n) := by
  unfold val_main_v76
  generalize val_main_v75 (F := Ideal) x sc sh g w = y
  pointwise

theorem v92_at (b : Fin 4) (f : Fin 320) (n : Fin 256) : val_main_v92 (F := Ideal) x sc sh g w (ix3 b f n) = val_main_v76 (F := Ideal) x sc sh g w (ix3 b f n) := by
  unfold val_main_v92
  exact cast_at _ _ _

theorem v92_apply (b : Fin 4) (f : Fin 320) (n : Fin 256) : val_main_v92 (F := Ideal) x sc sh g w (ix3 b f n)
    = if h : f.val % 80 < 64 then pS x sc sh g w b n ⟨4352 + (f.val / 80 * 64 + f.val % 80), by omega⟩ else Ideal.ofBits .f32 0x3F800000#32 := by
  rw [v92_at, v76_apply, v75_apply]
  by_cases h : f.val % 80 < 64
  · rw [dif_pos h, dif_pos h, v73_apply]
  · rw [dif_neg h, dif_neg h, v74_apply]

theorem v51_apply (b : Fin 4) (n : Fin 256) (h : Fin 16) (e : Fin 64) : val_main_v51 (F := Ideal) x sc sh g w qg (ix4 b n h e)
    = headM (fun e => pS x sc sh g w b n ⟨3072 + (h.val * 64 + e.val), by omega⟩) (fun e => qg (ix1 e)) e := by
  simp only [← v21_apply]
  unfold headM val_main_v51 val_main_v50 val_main_v49 val_main_v48 val_main_v47 val_main_v46 val_main_v45 val_main_v44 val_main_v43 val_main_v42 val_main_v41 val_main_v40 val_main_v39 val_main_v38 val_main_v24 val_main_cst_5 val_main_cst_6 val_main_cst_7
  generalize val_main_v21 (F := Ideal) x sc sh g w = y
  pointwise

theorem v90_apply (b : Fin 4) (f : Fin 1024) (n : Fin 256) : val_main_v90 (F := Ideal) x sc sh g w qg (ix3 b f n)
    = headM (fun e => pS x sc sh g w b n ⟨3072 + (f.val / 64 * 64 + e.val), by omega⟩) (fun e => qg (ix1 e)) ⟨f.val % 64, by omega⟩ * qf := by
  rw [← v51_apply x sc sh g w qg b n ⟨f.val / 64, by omega⟩ ⟨f.val % 64, by omega⟩]
  unfold qf val_main_v90 val_main_v71 val_main_v70 val_main_v69 val_main_v68 val_main_v67 val_main_v66 val_main_cst_11 val_main_cst_12
  generalize val_main_v51 (F := Ideal) x sc sh g w qg = y
  pointwise

theorem v65_apply (b : Fin 4) (n : Fin 256) (h : Fin 4) (e : Fin 64) : val_main_v65 (F := Ideal) x sc sh g w kg (ix4 b n h e)
    = headM (fun e => pS x sc sh g w b n ⟨4096 + (h.val * 64 + e.val), by omega⟩) (fun e => kg (ix1 e)) e := by
  simp only [← v21_apply]
  unfold headM val_main_v65 val_main_v64 val_main_v63 val_main_v62 val_main_v61 val_main_v60 val_main_v59 val_main_v58 val_main_v57 val_main_v56 val_main_v55 val_main_v54 val_main_v53 val_main_v52 val_main_v25 val_main_cst_8 val_main_cst_9 val_main_cst_10
  generalize val_main_v21 (F := Ideal) x sc sh g w = y
  pointwise

theorem v91_apply (b : Fin 4) (n : Fin 256) (f : Fin 256) : val_main_v91 (F := Ideal) x sc sh g w kg (ix3 b n f)
    = headM (fun e => pS x sc sh g w b n ⟨4096 + (f.val / 64 * 64 + e.val), by omega⟩) (fun e => kg (ix1 e)) ⟨f.val % 64, by omega⟩ := by
  rw [← v65_apply x sc sh g w kg b n ⟨f.val / 64, by omega⟩ ⟨f.val % 64, by omega⟩]
  unfold val_main_v91 val_main_v85
  generalize val_main_v65 (F := Ideal) x sc sh g w kg = y
  pointwise

end Cert.Proof.Ctx

end
-- ==== Proof.CtxBlock.lean ====
/-
  The blocks that a grid point of the context's input projection leaves, in terms of its arguments.
-/
module

public import proofs.«01_k».proof.Proof.CtxHost
public import proofs.«01_k».proof.Proof.CtxRef
public import proofs.«01_k».proof.Proof.InBlock

@[expose] public section

set_option maxRecDepth 16384

noncomputable section

namespace Cert.Proof.Ctx

open Cert.Kernel4Ideal Cert.Kernel4Ideal.Gen
open Cert.Proof.In (qf sgm normed headM wcols wlast hTok hTok_apply wlast_apply normed_congr head_congr headN_eq one_eq hit64 hit16 miss64 miss16)
open Idealize.ShloMosaic Idealize.ShloMosaic.TcCoe Idealize.ShloMosaic.StableHlo

variable (m : (ℓ : Loc nD τ sig) → Buf (Elt Ideal) ℓ) (c : Dev nD) (t : Fin cfg0.N)

/-- A projected row. -/
def pK (b : Fin 4) (n : Fin 256) (j : Fin 7680) : EReal := pS (aX m c) (aSc m c) (aSh m c) (aG m c) (aW m c) b n j

theorem bH_apply (r : Fin 256) (d : Fin 1024) : bH m c t (ix2 r d) = hS (aX m c) (aSc m c) (aSh m c) (aG m c) (gB t) r d := by
  unfold bH hS
  refine (pay7_apply _ _ _ _ r d).trans ?_
  exact normed_congr (fun k => block0 m c t r k) (fun k => block3 m c t k) (fun k => block1 m c t k) (fun k => block2 m c t k) d

theorem tok_apply (k : Fin 1024) (j : Fin 6144) (j' : Fin 7680) (h : (j.val < 3072 ∧ j'.val = j.val) ∨ (3072 ≤ j.val ∧ j'.val = j.val + 1536)) :
    iblk m c 4 t (ix2 k j) = aW m c (ix2 k j') := by
  refine (block4 m c t k j).trans ((hTok_apply _ k j).trans ?_)
  rcases h with ⟨h1, h2⟩ | ⟨h1, h2⟩
  · rw [dif_pos h1]
    exact congrArg (fun j => aW m c (ix2 k j)) (Fin.ext h2.symm)
  · rw [dif_neg (by omega)]
    exact congrArg (fun j => aW m c (ix2 k j)) (Fin.ext (by show 4608 + (j.val - 3072) = j'.val; omega))

theorem cols_sum (r : Fin 256) (o : ℕ) (d : Fin 1024) (j' : Fin 7680) (ho : o + d.val < 6144)
    (h : (o + d.val < 3072 ∧ j'.val = o + d.val) ∨ (3072 ≤ o + d.val ∧ j'.val = o + d.val + 1536)) :
    (∑ k : Fin 1024, (bH m c t (ix2 r k) : EReal) * wcols o (iblk m c 4 t) (ix2 k d)) = pK m c (gB t) r j' := by
  unfold pK pS
  refine Finset.sum_congr rfl fun k _ => ?_
  refine congrArg₂ (fun a b : EReal => a * b) (bH_apply m c t r k) ?_
  have hm : (o + d.val) % 6144 = o + d.val := Nat.mod_eq_of_lt ho
  refine tok_apply m c t k ⟨(o + d.val) % 6144, Nat.mod_lt _ (by norm_num)⟩ j' ?_
  show ((o + d.val) % 6144 < 3072 ∧ j'.val = (o + d.val) % 6144) ∨ (3072 ≤ (o + d.val) % 6144 ∧ j'.val = (o + d.val) % 6144 + 1536)
  rw [hm]
  exact h

theorem last_sum (r : Fin 256) (d : Fin 2048) :
    (∑ k : Fin 1024, (bH m c t (ix2 r k) : EReal) * wlast (iblk m c 4 t) (ix2 k d)) = pK m c (gB t) r ⟨5632 + d.val, by omega⟩ := by
  unfold pK pS
  refine Finset.sum_congr rfl fun k _ => ?_
  refine congrArg₂ (fun a b : EReal => a * b) (bH_apply m c t r k) ?_
  refine (wlast_apply _ k d).trans ?_
  exact tok_apply m c t k ⟨4096 + d.val, by omega⟩ _ (.inr ⟨by show 3072 ≤ 4096 + d.val; omega, by show 5632 + d.val = 4096 + d.val + 1536; omega⟩)

theorem bP_apply (f : Fin 1536) (r : Fin 256) : bP m c t (ix2 f r) = pK m c (gB t) r ⟨3072 + f.val, by omega⟩ := by
  unfold bP pK pS
  refine (pay15_apply _ _ f r).trans ?_
  refine Finset.sum_congr rfl fun k _ => ?_
  refine (congrArg₂ (fun a b : EReal => a * b) (block5 m c t f k) (bH_apply m c t r k)).trans ?_
  exact mul_comm _ _

theorem feat_apply (f : Fin 1536) (r : Fin 256) (j : Fin 7680) (h : j.val = 3072 + f.val) : bP m c t (ix2 f r) = pK m c (gB t) r j :=
  (bP_apply m c t f r).trans (congrArg (pK m c (gB t) r) (Fin.ext h.symm))

theorem el8 (r : Fin 256) (d : Fin 1024) : (outsAt0 m c t).1 (ix3 0 r d)
    = pK m c (gB t) r ⟨d.val, by omega⟩ * sgm (pK m c (gB t) r ⟨1024 + d.val, by omega⟩) := by
  rw [out8 m c t]
  refine (pay10_apply _ _ _ _ _ _ r d).trans ?_
  exact congrArg₂ (fun a b : EReal => a * sgm b) (cols_sum m c t r 0 d _ (by omega) (.inl ⟨by omega, by show d.val = 0 + d.val; omega⟩))
    (cols_sum m c t r 1024 d _ (by omega) (.inl ⟨by omega, rfl⟩))

theorem el9 (r : Fin 256) (d : Fin 1024) : (outsAt0 m c t).2.1 (ix3 0 r d)
    = pK m c (gB t) r ⟨2048 + d.val, by omega⟩ * sgm (pK m c (gB t) r ⟨2048 + d.val, by omega⟩) := by
  rw [out9 m c t]
  refine (pay11_apply _ _ r d).trans ?_
  exact congrArg (fun a : EReal => a * sgm a) (cols_sum m c t r 2048 d _ (by omega) (.inl ⟨by omega, rfl⟩))

theorem el10 (r : Fin 256) (d : Fin 1024) : (outsAt0 m c t).2.2.1 (ix3 0 r d)
    = pK m c (gB t) r ⟨4608 + d.val, by omega⟩ * sgm (pK m c (gB t) r ⟨4608 + d.val, by omega⟩) := by
  rw [out10 m c t]
  refine (pay13_apply _ _ r d).trans ?_
  exact congrArg (fun a : EReal => a * sgm a) (cols_sum m c t r 3072 d _ (by omega) (.inr ⟨by omega, by show 4608 + d.val = 3072 + d.val + 1536; omega⟩))

theorem el11 (r : Fin 256) (d : Fin 2048) : (outsAt0 m c t).2.2.2.1 (ix3 0 r d) = sgm (pK m c (gB t) r ⟨5632 + d.val, by omega⟩) := by
  rw [out11 m c t]
  refine (pay14_apply _ _ r d).trans ?_
  exact congrArg sgm (last_sum m c t r d)

theorem el12 (f : Fin 1024) (r : Fin 256) : (outsAt0 m c t).2.2.2.2.1 (ix3 0 f r)
    = headM (fun e => pK m c (gB t) r ⟨3072 + (f.val / 64 * 64 + e.val), by omega⟩) (fun e => aQg m c (ix1 e)) ⟨f.val % 64, by omega⟩ * qf := by
  rw [out12 m c t]
  refine (pay17_apply _ _ _ f r).trans ?_
  refine (head_congr (fun k => feat_apply m c t _ r ⟨3072 + (f.val / 64 * 64 + k.val), by omega⟩ rfl) (fun k => block6 m c t k r) _).trans ?_
  rw [← headN_eq]
  exact (mul_assoc _ _ _).symm

theorem el13 (r f : Fin 256) : (outsAt0 m c t).2.2.2.2.2.1 (ix3 0 r f)
    = headM (fun e => pK m c (gB t) r ⟨4096 + (f.val / 64 * 64 + e.val), by omega⟩) (fun e => aKg m c (ix1 e)) ⟨f.val % 64, by omega⟩ := by
  rw [out13 m c t]
  refine (pay18_apply _ _ r f).trans ?_
  rw [← headN_eq]
  exact head_congr (fun k => feat_apply m c t _ r _ (by show 4096 + (f.val / 64 * 64 + k.val) = 3072 + (1024 + (f.val / 64 * 64 + k.val)); omega))
    (fun k => block7 m c t k r) _

theorem el14 (f : Fin 320) (r : Fin 256) : (outsAt0 m c t).2.2.2.2.2.2 (ix3 0 f r)
    = if h : f.val % 80 < 64 then pK m c (gB t) r ⟨4352 + (f.val / 80 * 64 + f.val % 80), by omega⟩ else Ideal.ofBits .f32 0x3F800000#32 := by
  rw [out14 m c t]
  have hf := f.isLt
  by_cases h7 : 304 ≤ f.val
  · rw [dif_neg (by omega), ← one_eq]
    exact (hit16 _ _ _ f r h7 (by omega)).trans (pay6_apply _ r)
  refine (miss16 _ _ _ f r (by omega)).trans ?_
  by_cases h6 : 240 ≤ f.val
  · rw [dif_pos (by omega)]
    exact (hit64 _ _ _ f r h6 (by omega)).trans ((pay5_apply _ _ r).trans (feat_apply m c t _ r _
      (by show 4352 + (f.val / 80 * 64 + f.val % 80) = 3072 + (1472 + (f.val - 240)); omega)))
  refine (miss64 _ _ _ f r (by omega)).trans ?_
  by_cases h5 : 224 ≤ f.val
  · rw [dif_neg (by omega), ← one_eq]
    exact (hit16 _ _ _ f r h5 (by omega)).trans (pay4_apply _ r)
  refine (miss16 _ _ _ f r (by omega)).trans ?_
  by_cases h4 : 160 ≤ f.val
  · rw [dif_pos (by omega)]
    exact (hit64 _ _ _ f r h4 (by omega)).trans ((pay3_apply _ _ r).trans (feat_apply m c t _ r _
      (by show 4352 + (f.val / 80 * 64 + f.val % 80) = 3072 + (1408 + (f.val - 160)); omega)))
  refine (miss64 _ _ _ f r (by omega)).trans ?_
  by_cases h3 : 144 ≤ f.val
  · rw [dif_neg (by omega), ← one_eq]
    exact (hit16 _ _ _ f r h3 (by omega)).trans (pay2_apply _ r)
  refine (miss16 _ _ _ f r (by omega)).trans ?_
  by_cases h2 : 80 ≤ f.val
  · rw [dif_pos (by omega)]
    exact (hit64 _ _ _ f r h2 (by omega)).trans ((pay1_apply _ _ r).trans (feat_apply m c t _ r _
      (by show 4352 + (f.val / 80 * 64 + f.val % 80) = 3072 + (1344 + (f.val - 80)); omega)))
  refine (miss64 _ _ _ f r (by omega)).trans ?_
  by_cases h1 : 64 ≤ f.val
  · rw [dif_neg (by omega), ← one_eq]
    exact (hit16 _ _ _ f r h1 (by omega)).trans (pay21_apply _ r)
  refine (miss16 _ _ _ f r (by omega)).trans ?_
  rw [dif_pos (by omega)]
  exact (hit64 _ _ _ f r (Nat.zero_le _) (by omega)).trans ((pay20_apply _ _ r).trans (feat_apply m c t _ r _
    (by show 4352 + (f.val / 80 * 64 + f.val % 80) = 3072 + (1280 + (f.val - 0)); omega)))

end Cert.Proof.Ctx

end
-- ==== Proof.CtxEq.lean ====
/-
  The context's input projection and the reference, over the extended reals: the same seven results.
-/
module

public import proofs.«01_k».proof.Proof.CtxBlock
public import proofs.«01_k».proof.Proof.Gen.Kernel4Ideal.Value
public import proofs.«01_k».proof.Defs

@[expose] public section

set_option maxRecDepth 16384

noncomputable section

namespace Cert.Proof.Ctx

open Cert.Kernel4Ideal Cert.Kernel4Ideal.Gen
open Idealize.ShloMosaic Idealize.ShloMosaic.TcCoe
open Idealize.SL.Sem
open Cert.Reference4Ideal.Read

variable (m : (ℓ : Loc nD τ sig) → Buf (Elt Ideal) ℓ) (c : Dev nD)

/-- The array of window 8 at the end. -/
theorem result8 : (dats m 0 c).arrAt 8 cfg0.N = val_main_v86 (F := Ideal) (aX m c) (aSc m c) (aSh m c) (aG m c) (aW m c) := by
  generalize hG : val_main_v86 (F := Ideal) (aX m c) (aSc m c) (aSh m c) (aG m c) (aW m c) = G
  refine (dats m 0 c).arrAt_eq_of_covers 8 _ covers8 fun t hf y => ?_
  blk_simp
  rw [after0_8]
  have key : ∀ y : S1x256x1024.Idx, (outsAt0 m c t).1 y = G (((cfg0.win 8).blk t).view.emb y : S4x256x1024.Idx) := by
    intro y
    obtain ⟨r, d, rfl⟩ : ∃ (r : Fin 256) (d : Fin 1024), y = ix3 0 r d :=
      ⟨y 1, y 2, (eq_ix3 y).trans (congrArg (fun x => ix3 x (y 1) (y 2)) (Subsingleton.elim (α := Fin 1) _ _))⟩
    refine Eq.trans ?_ (congrArg G (place8 t r d)).symm
    rw [← hG]
    exact (el8 m c t r d).trans (v86_apply _ _ _ _ _ (gB t) r d).symm
  exact key y

/-- The array of window 9 at the end. -/
theorem result9 : (dats m 0 c).arrAt 9 cfg0.N = val_main_v87 (F := Ideal) (aX m c) (aSc m c) (aSh m c) (aG m c) (aW m c) := by
  generalize hG : val_main_v87 (F := Ideal) (aX m c) (aSc m c) (aSh m c) (aG m c) (aW m c) = G
  refine (dats m 0 c).arrAt_eq_of_covers 9 _ covers9 fun t hf y => ?_
  blk_simp
  rw [after0_9]
  have key : ∀ y : S1x256x1024.Idx, (outsAt0 m c t).2.1 y = G (((cfg0.win 9).blk t).view.emb y : S4x256x1024.Idx) := by
    intro y
    obtain ⟨r, d, rfl⟩ : ∃ (r : Fin 256) (d : Fin 1024), y = ix3 0 r d :=
      ⟨y 1, y 2, (eq_ix3 y).trans (congrArg (fun x => ix3 x (y 1) (y 2)) (Subsingleton.elim (α := Fin 1) _ _))⟩
    refine Eq.trans ?_ (congrArg G (place9 t r d)).symm
    rw [← hG]
    exact (el9 m c t r d).trans (v87_apply _ _ _ _ _ (gB t) r d).symm
  exact key y

/-- The array of window 10 at the end. -/
theorem result10 : (dats m 0 c).arrAt 10 cfg0.N = val_main_v88 (F := Ideal) (aX m c) (aSc m c) (aSh m c) (aG m c) (aW m c) := by
  generalize hG : val_main_v88 (F := Ideal) (aX m c) (aSc m c) (aSh m c) (aG m c) (aW m c) = G
  refine (dats m 0 c).arrAt_eq_of_covers 10 _ covers10 fun t hf y => ?_
  blk_simp
  rw [after0_10]
  have key : ∀ y : S1x256x1024.Idx, (outsAt0 m c t).2.2.1 y = G (((cfg0.win 10).blk t).view.emb y : S4x256x1024.Idx) := by
    intro y
    obtain ⟨r, d, rfl⟩ : ∃ (r : Fin 256) (d : Fin 1024), y = ix3 0 r d :=
      ⟨y 1, y 2, (eq_ix3 y).trans (congrArg (fun x => ix3 x (y 1) (y 2)) (Subsingleton.elim (α := Fin 1) _ _))⟩
    refine Eq.trans ?_ (congrArg G (place10 t r d)).symm
    rw [← hG]
    exact (el10 m c t r d).trans (v88_apply _ _ _ _ _ (gB t) r d).symm
  exact key y

/-- The array of window 11 at the end. -/
theorem result11 : (dats m 0 c).arrAt 11 cfg0.N = val_main_v89 (F := Ideal) (aX m c) (aSc m c) (aSh m c) (aG m c) (aW m c) := by
  generalize hG : val_main_v89 (F := Ideal) (aX m c) (aSc m c) (aSh m c) (aG m c) (aW m c) = G
  refine (dats m 0 c).arrAt_eq_of_covers 11 _ covers11 fun t hf y => ?_
  blk_simp
  rw [after0_11]
  have key : ∀ y : S1x256x2048.Idx, (outsAt0 m c t).2.2.2.1 y = G (((cfg0.win 11).blk t).view.emb y : S4x256x2048.Idx) := by
    intro y
    obtain ⟨r, d, rfl⟩ : ∃ (r : Fin 256) (d : Fin 2048), y = ix3 0 r d :=
      ⟨y 1, y 2, (eq_ix3 y).trans (congrArg (fun x => ix3 x (y 1) (y 2)) (Subsingleton.elim (α := Fin 1) _ _))⟩
    refine Eq.trans ?_ (congrArg G (place11 t r d)).symm
    rw [← hG]
    exact (el11 m c t r d).trans (v89_apply _ _ _ _ _ (gB t) r d).symm
  exact key y

/-- The array of window 12 at the end. -/
theorem result12 : (dats m 0 c).arrAt 12 cfg0.N = val_main_v90 (F := Ideal) (aX m c) (aSc m c) (aSh m c) (aG m c) (aW m c) (aQg m c) := by
  generalize hG : val_main_v90 (F := Ideal) (aX m c) (aSc m c) (aSh m c) (aG m c) (aW m c) (aQg m c) = G
  refine (dats m 0 c).arrAt_eq_of_covers 12 _ covers12 fun t hf y => ?_
  blk_simp
  rw [after0_12]
  have key : ∀ y : S1x1024x256.Idx, (outsAt0 m c t).2.2.2.2.1 y = G (((cfg0.win 12).blk t).view.emb y : S4x1024x256.Idx) := by
    intro y
    obtain ⟨f, r, rfl⟩ : ∃ (f : Fin 1024) (r : Fin 256), y = ix3 0 f r :=
      ⟨y 1, y 2, (eq_ix3 y).trans (congrArg (fun x => ix3 x (y 1) (y 2)) (Subsingleton.elim (α := Fin 1) _ _))⟩
    refine Eq.trans ?_ (congrArg G (place12 t f r)).symm
    rw [← hG]
    exact (el12 m c t f r).trans (v90_apply _ _ _ _ _ _ (gB t) f r).symm
  exact key y

/-- The array of window 13 at the end. -/
theorem result13 : (dats m 0 c).arrAt 13 cfg0.N = val_main_v91 (F := Ideal) (aX m c) (aSc m c) (aSh m c) (aG m c) (aW m c) (aKg m c) := by
  generalize hG : val_main_v91 (F := Ideal) (aX m c) (aSc m c) (aSh m c) (aG m c) (aW m c) (aKg m c) = G
  refine (dats m 0 c).arrAt_eq_of_covers 13 _ covers13 fun t hf y => ?_
  blk_simp
  rw [after0_13]
  have key : ∀ y : S1x256x256.Idx, (outsAt0 m c t).2.2.2.2.2.1 y = G (((cfg0.win 13).blk t).view.emb y : S4x256x256.Idx) := by
    intro y
    obtain ⟨r, f, rfl⟩ : ∃ (r : Fin 256) (f : Fin 256), y = ix3 0 r f :=
      ⟨y 1, y 2, (eq_ix3 y).trans (congrArg (fun x => ix3 x (y 1) (y 2)) (Subsingleton.elim (α := Fin 1) _ _))⟩
    refine Eq.trans ?_ (congrArg G (place13 t r f)).symm
    rw [← hG]
    exact (el13 m c t r f).trans (v91_apply _ _ _ _ _ _ (gB t) r f).symm
  exact key y

/-- The array of window 14 at the end. -/
theorem result14 : (dats m 0 c).arrAt 14 cfg0.N = val_main_v92 (F := Ideal) (aX m c) (aSc m c) (aSh m c) (aG m c) (aW m c) := by
  generalize hG : val_main_v92 (F := Ideal) (aX m c) (aSc m c) (aSh m c) (aG m c) (aW m c) = G
  refine (dats m 0 c).arrAt_eq_of_covers 14 _ covers14 fun t hf y => ?_
  blk_simp
  rw [after0_14]
  have key : ∀ y : S1x320x256.Idx, (outsAt0 m c t).2.2.2.2.2.2 y = G (((cfg0.win 14).blk t).view.emb y : S4x320x256.Idx) := by
    intro y
    obtain ⟨f, r, rfl⟩ : ∃ (f : Fin 320) (r : Fin 256), y = ix3 0 f r :=
      ⟨y 1, y 2, (eq_ix3 y).trans (congrArg (fun x => ix3 x (y 1) (y 2)) (Subsingleton.elim (α := Fin 1) _ _))⟩
    refine Eq.trans ?_ (congrArg G (place14 t f r)).symm
    rw [← hG]
    exact (el14 m c t f r).trans (v92_apply _ _ _ _ _ (gB t) f r).symm
  exact key y

theorem algebraic : Cert.algebraic_Kernel4Ideal_Reference4Ideal := by
  intro m g m' g' _ hargs
  refine ⟨fun c => val_main_v86 (F := Ideal) (aX m c) (aSc m c) (aSh m c) (aG m c) (aW m c),
    fun c => val_main_v87 (F := Ideal) (aX m c) (aSc m c) (aSh m c) (aG m c) (aW m c),
    fun c => val_main_v88 (F := Ideal) (aX m c) (aSc m c) (aSh m c) (aG m c) (aW m c),
    fun c => val_main_v89 (F := Ideal) (aX m c) (aSc m c) (aSh m c) (aG m c) (aW m c),
    fun c => val_main_v90 (F := Ideal) (aX m c) (aSc m c) (aSh m c) (aG m c) (aW m c) (aQg m c),
    fun c => val_main_v91 (F := Ideal) (aX m c) (aSc m c) (aSh m c) (aG m c) (aW m c) (aKg m c),
    fun c => val_main_v92 (F := Ideal) (aX m c) (aSc m c) (aSh m c) (aG m c) (aW m c), ?_, ?_⟩
  · refine (θ_run _ _ _).mono (fun r h c => ?_) (Cert.Kernel4Ideal.Value.run_blocks (F := Ideal) m g)
    obtain ⟨e8, e9, e10, e11, e12, e13, e14, hk⟩ := h c
    exact ⟨e8.trans (result8 m c), e9.trans (result9 m c), e10.trans (result10 m c), e11.trans (result11 m c), e12.trans (result12 m c), e13.trans (result13 m c), e14.trans (result14 m c), hk⟩
  · refine (θ_run _ _ _).mono (fun r h c => ?_) (Cert.Reference4Ideal.Value.run (F := Ideal) m' g')
    obtain ⟨e8, e9, e10, e11, e12, e13, e14, hk⟩ := h c
    obtain ⟨h0, h1, h2, h3, h4, h5, h6⟩ := hargs c
    refine ⟨e8.trans ?_, e9.trans ?_, e10.trans ?_, e11.trans ?_, e12.trans ?_, e13.trans ?_, e14.trans ?_, hk⟩
    · rw [val_main_v86_eq, h0, h1, h2, h3, h4]
    · rw [val_main_v87_eq, h0, h1, h2, h3, h4]
    · rw [val_main_v88_eq, h0, h1, h2, h3, h4]
    · rw [val_main_v89_eq, h0, h1, h2, h3, h4]
    · rw [val_main_v90_eq, h0, h1, h2, h3, h4, h5]
    · rw [val_main_v91_eq, h0, h1, h2, h3, h4, h6]
    · rw [val_main_v92_eq, h0, h1, h2, h3, h4]

end Cert.Proof.Ctx

end
-- ==== Proof.lean ====
/-
  The certificate, for the attention, the input projection and the modulation: the frames of the kernel, of its idealization and of
  the reference, and the equality of their results over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Run
public import proofs.«01_k».proof.Proof.Frames
public import proofs.«01_k».proof.Proof.Algebraic
public import proofs.«01_k».proof.Proof.InFrames
public import proofs.«01_k».proof.Proof.InEq
public import proofs.«01_k».proof.Proof.Mod
public import proofs.«01_k».proof.Proof.CtxFrames
public import proofs.«01_k».proof.Proof.CtxEq
public import Idealize.ShloMosaic.Adequacy
public import Idealize.ShloMosaic.Init

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_finite.Gen.facts, Cert.Pre_finite3.Gen.facts, frame_kernel, frame_ideal,
    frame_ideal_finite, frame_ref, frame_ref_finite, frame_kernel2, frame_ideal2, frame_ref2, Mod.frame_kernel, Mod.frame_ideal,
    Mod.frame_ideal_finite, Mod.frame_ref, Mod.frame_ref_finite, frame_kernel4, frame_ideal4, frame_ref4, trivial, Value.algebraic, trivial,
    In.algebraic, trivial, Mod.algebraic, trivial, Ctx.algebraic⟩

end Cert.Proof

end
